-- ==== Defs.lean ====
def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_MlpOutDxReferenceIdeal (m : (ℓ : Loc Cert.MlpOutDxReferenceIdeal.nD Cert.MlpOutDxReferenceIdeal.τ Cert.MlpOutDxReferenceIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxReferenceIdeal (m : (ℓ : Loc Cert.OutProjDxReferenceIdeal.nD Cert.OutProjDxReferenceIdeal.τ Cert.OutProjDxReferenceIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_MlpOutDwReferenceIdeal (m : (ℓ : Loc Cert.MlpOutDwReferenceIdeal.nD Cert.MlpOutDwReferenceIdeal.τ Cert.MlpOutDwReferenceIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_MlpInDxReferenceIdeal (m : (ℓ : Loc Cert.MlpInDxReferenceIdeal.nD Cert.MlpInDxReferenceIdeal.τ Cert.MlpInDxReferenceIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_MlpInDwReferenceIdeal (m : (ℓ : Loc Cert.MlpInDwReferenceIdeal.nD Cert.MlpInDwReferenceIdeal.τ Cert.MlpInDwReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxReferenceIdeal (m : (ℓ : Loc Cert.BranchDxReferenceIdeal.nD Cert.BranchDxReferenceIdeal.τ Cert.BranchDxReferenceIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwReferenceIdeal (m : (ℓ : Loc Cert.BranchDwReferenceIdeal.nD Cert.BranchDwReferenceIdeal.τ Cert.BranchDwReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInReferenceIdeal (m : (ℓ : Loc Cert.MlpInReferenceIdeal.nD Cert.MlpInReferenceIdeal.τ Cert.MlpInReferenceIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeReferenceIdeal (m : (ℓ : Loc Cert.BranchMergeReferenceIdeal.nD Cert.BranchMergeReferenceIdeal.τ Cert.BranchMergeReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_AdaUpdate (m : (ℓ : Loc Cert.AdaUpdate.nD Cert.AdaUpdate.τ Cert.AdaUpdate.sig) → Buf (Elt Bits) ℓ) : Prop :=
  True

def Pre_AdaUpdateIdeal (m : (ℓ : Loc Cert.AdaUpdateIdeal.nD Cert.AdaUpdateIdeal.τ Cert.AdaUpdateIdeal.sig) → Buf (Elt Ideal) ℓ) : Prop :=
  True

def Pre_AdaUpdateReferenceIdeal (m : (ℓ : Loc Cert.AdaUpdateReferenceIdeal.nD Cert.AdaUpdateReferenceIdeal.τ Cert.AdaUpdateReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_SumAdamwIn (m : (ℓ : Loc Cert.SumAdamwIn.nD Cert.SumAdamwIn.τ Cert.SumAdamwIn.sig) → Buf (Elt Bits) ℓ) : Prop :=
  True

def Pre_SumAdamwInIdeal (m : (ℓ : Loc Cert.SumAdamwInIdeal.nD Cert.SumAdamwInIdeal.τ Cert.SumAdamwInIdeal.sig) → Buf (Elt Ideal) ℓ) : Prop :=
  True

def Pre_SumAdamwInReferenceIdeal (m : (ℓ : Loc Cert.SumAdamwInReferenceIdeal.nD Cert.SumAdamwInReferenceIdeal.τ Cert.SumAdamwInReferenceIdeal.sig) → Buf (Elt Ideal) ℓ) : Prop :=
  True

def Pre_SumAdamwBranch (m : (ℓ : Loc Cert.SumAdamwBranch.nD Cert.SumAdamwBranch.τ Cert.SumAdamwBranch.sig) → Buf (Elt Bits) ℓ) : Prop :=
  True

def Pre_SumAdamwBranchIdeal (m : (ℓ : Loc Cert.SumAdamwBranchIdeal.nD Cert.SumAdamwBranchIdeal.τ Cert.SumAdamwBranchIdeal.sig) → Buf (Elt Ideal) ℓ) : Prop :=
  True

def Pre_SumAdamwBranchReferenceIdeal (m : (ℓ : Loc Cert.SumAdamwBranchReferenceIdeal.nD Cert.SumAdamwBranchReferenceIdeal.τ Cert.SumAdamwBranchReferenceIdeal.sig) → Buf (Elt Ideal) ℓ) : Prop :=
  True

def Pre_SumAdamwOut (m : (ℓ : Loc Cert.SumAdamwOut.nD Cert.SumAdamwOut.τ Cert.SumAdamwOut.sig) → Buf (Elt Bits) ℓ) : Prop :=
  True

def Pre_SumAdamwOutIdeal (m : (ℓ : Loc Cert.SumAdamwOutIdeal.nD Cert.SumAdamwOutIdeal.τ Cert.SumAdamwOutIdeal.sig) → Buf (Elt Ideal) ℓ) : Prop :=
  True

def Pre_SumAdamwOutReferenceIdeal (m : (ℓ : Loc Cert.SumAdamwOutReferenceIdeal.nD Cert.SumAdamwOutReferenceIdeal.τ Cert.SumAdamwOutReferenceIdeal.sig) → Buf (Elt Ideal) ℓ) : Prop :=
  True

def Pre_SumAdamwMlpIn (m : (ℓ : Loc Cert.SumAdamwMlpIn.nD Cert.SumAdamwMlpIn.τ Cert.SumAdamwMlpIn.sig) → Buf (Elt Bits) ℓ) : Prop :=
  True

def Pre_SumAdamwMlpInIdeal (m : (ℓ : Loc Cert.SumAdamwMlpInIdeal.nD Cert.SumAdamwMlpInIdeal.τ Cert.SumAdamwMlpInIdeal.sig) → Buf (Elt Ideal) ℓ) : Prop :=
  True

def Pre_SumAdamwMlpInReferenceIdeal (m : (ℓ : Loc Cert.SumAdamwMlpInReferenceIdeal.nD Cert.SumAdamwMlpInReferenceIdeal.τ Cert.SumAdamwMlpInReferenceIdeal.sig) → Buf (Elt Ideal) ℓ) : Prop :=
  True

def Pre_SumAdamwMlpOut (m : (ℓ : Loc Cert.SumAdamwMlpOut.nD Cert.SumAdamwMlpOut.τ Cert.SumAdamwMlpOut.sig) → Buf (Elt Bits) ℓ) : Prop :=
  True

def Pre_SumAdamwMlpOutIdeal (m : (ℓ : Loc Cert.SumAdamwMlpOutIdeal.nD Cert.SumAdamwMlpOutIdeal.τ Cert.SumAdamwMlpOutIdeal.sig) → Buf (Elt Ideal) ℓ) : Prop :=
  True

def Pre_SumAdamwMlpOutReferenceIdeal (m : (ℓ : Loc Cert.SumAdamwMlpOutReferenceIdeal.nD Cert.SumAdamwMlpOutReferenceIdeal.τ Cert.SumAdamwMlpOutReferenceIdeal.sig) → Buf (Elt Ideal) ℓ) : Prop :=
  True

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2)
      ∧ r.2.mem ((c.tc : Thread Cert.MlpOutDx.nD Cert.MlpOutDx.τ).loc Cert.MlpOutDx.main_arg3) = m ((c.tc : Thread Cert.MlpOutDx.nD Cert.MlpOutDx.τ).loc Cert.MlpOutDx.main_arg3))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2)
      ∧ r.2.mem ((c.tc : Thread Cert.MlpOutDxIdeal.nD Cert.MlpOutDxIdeal.τ).loc Cert.MlpOutDxIdeal.main_arg3) = m ((c.tc : Thread Cert.MlpOutDxIdeal.nD Cert.MlpOutDxIdeal.τ).loc Cert.MlpOutDxIdeal.main_arg3))
      ∧ r.2.sem = fun _ => 0)

def quiescent_MlpOutDxReferenceIdeal [hMlpOutDxReferenceIdeal : Cert.MlpOutDxReferenceIdeal.Facts] : Prop :=
  ∀ (m : (ℓ : Loc Cert.MlpOutDxReferenceIdeal.nD Cert.MlpOutDxReferenceIdeal.τ Cert.MlpOutDxReferenceIdeal.sig) → Buf (Elt Ideal) ℓ) (g : Dev Cert.MlpOutDxReferenceIdeal.nD → PrngReg), Pre_MlpOutDxReferenceIdeal m →
    θ_run (Cert.MlpOutDxReferenceIdeal.defs (F := Ideal)) (onTc (τ := Cert.MlpOutDxReferenceIdeal.τ) (Cert.MlpOutDxReferenceIdeal.main (F := Ideal))) ⟨m, fun _ => 0, g⟩ (fun r => (∀ c : Dev Cert.MlpOutDxReferenceIdeal.nD,
      r.2.mem ((c.tc : Thread Cert.MlpOutDxReferenceIdeal.nD Cert.MlpOutDxReferenceIdeal.τ).loc Cert.MlpOutDxReferenceIdeal.main_arg0) = m ((c.tc : Thread Cert.MlpOutDxReferenceIdeal.nD Cert.MlpOutDxReferenceIdeal.τ).loc Cert.MlpOutDxReferenceIdeal.main_arg0)
      ∧ r.2.mem ((c.tc : Thread Cert.MlpOutDxReferenceIdeal.nD Cert.MlpOutDxReferenceIdeal.τ).loc Cert.MlpOutDxReferenceIdeal.main_arg1) = m ((c.tc : Thread Cert.MlpOutDxReferenceIdeal.nD Cert.MlpOutDxReferenceIdeal.τ).loc Cert.MlpOutDxReferenceIdeal.main_arg1)
      ∧ r.2.mem ((c.tc : Thread Cert.MlpOutDxReferenceIdeal.nD Cert.MlpOutDxReferenceIdeal.τ).loc Cert.MlpOutDxReferenceIdeal.main_arg2) = m ((c.tc : Thread Cert.MlpOutDxReferenceIdeal.nD Cert.MlpOutDxReferenceIdeal.τ).loc Cert.MlpOutDxReferenceIdeal.main_arg2)
      ∧ r.2.mem ((c.tc : Thread Cert.MlpOutDxReferenceIdeal.nD Cert.MlpOutDxReferenceIdeal.τ).loc Cert.MlpOutDxReferenceIdeal.main_arg3) = m ((c.tc : Thread Cert.MlpOutDxReferenceIdeal.nD Cert.MlpOutDxReferenceIdeal.τ).loc Cert.MlpOutDxReferenceIdeal.main_arg3))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2)
      ∧ r.2.mem ((c.tc : Thread Cert.OutProjDx.nD Cert.OutProjDx.τ).loc Cert.OutProjDx.main_arg3) = m ((c.tc : Thread Cert.OutProjDx.nD Cert.OutProjDx.τ).loc Cert.OutProjDx.main_arg3)
      ∧ r.2.mem ((c.tc : Thread Cert.OutProjDx.nD Cert.OutProjDx.τ).loc Cert.OutProjDx.main_arg4) = m ((c.tc : Thread Cert.OutProjDx.nD Cert.OutProjDx.τ).loc Cert.OutProjDx.main_arg4))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
      ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
      ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4))
      ∧ r.2.sem = fun _ => 0)

def quiescent_OutProjDxReferenceIdeal [hOutProjDxReferenceIdeal : Cert.OutProjDxReferenceIdeal.Facts] : Prop :=
  ∀ (m : (ℓ : Loc Cert.OutProjDxReferenceIdeal.nD Cert.OutProjDxReferenceIdeal.τ Cert.OutProjDxReferenceIdeal.sig) → Buf (Elt Ideal) ℓ) (g : Dev Cert.OutProjDxReferenceIdeal.nD → PrngReg), Pre_OutProjDxReferenceIdeal m →
    θ_run (Cert.OutProjDxReferenceIdeal.defs (F := Ideal)) (onTc (τ := Cert.OutProjDxReferenceIdeal.τ) (Cert.OutProjDxReferenceIdeal.main (F := Ideal))) ⟨m, fun _ => 0, g⟩ (fun r => (∀ c : Dev Cert.OutProjDxReferenceIdeal.nD,
      r.2.mem ((c.tc : Thread Cert.OutProjDxReferenceIdeal.nD Cert.OutProjDxReferenceIdeal.τ).loc Cert.OutProjDxReferenceIdeal.main_arg0) = m ((c.tc : Thread Cert.OutProjDxReferenceIdeal.nD Cert.OutProjDxReferenceIdeal.τ).loc Cert.OutProjDxReferenceIdeal.main_arg0)
      ∧ r.2.mem ((c.tc : Thread Cert.OutProjDxReferenceIdeal.nD Cert.OutProjDxReferenceIdeal.τ).loc Cert.OutProjDxReferenceIdeal.main_arg1) = m ((c.tc : Thread Cert.OutProjDxReferenceIdeal.nD Cert.OutProjDxReferenceIdeal.τ).loc Cert.OutProjDxReferenceIdeal.main_arg1)
      ∧ r.2.mem ((c.tc : Thread Cert.OutProjDxReferenceIdeal.nD Cert.OutProjDxReferenceIdeal.τ).loc Cert.OutProjDxReferenceIdeal.main_arg2) = m ((c.tc : Thread Cert.OutProjDxReferenceIdeal.nD Cert.OutProjDxReferenceIdeal.τ).loc Cert.OutProjDxReferenceIdeal.main_arg2)
      ∧ r.2.mem ((c.tc : Thread Cert.OutProjDxReferenceIdeal.nD Cert.OutProjDxReferenceIdeal.τ).loc Cert.OutProjDxReferenceIdeal.main_arg3) = m ((c.tc : Thread Cert.OutProjDxReferenceIdeal.nD Cert.OutProjDxReferenceIdeal.τ).loc Cert.OutProjDxReferenceIdeal.main_arg3)
      ∧ r.2.mem ((c.tc : Thread Cert.OutProjDxReferenceIdeal.nD Cert.OutProjDxReferenceIdeal.τ).loc Cert.OutProjDxReferenceIdeal.main_arg4) = m ((c.tc : Thread Cert.OutProjDxReferenceIdeal.nD Cert.OutProjDxReferenceIdeal.τ).loc Cert.OutProjDxReferenceIdeal.main_arg4))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ r.2.sem = fun _ => 0)

def quiescent_MlpOutDwReferenceIdeal [hMlpOutDwReferenceIdeal : Cert.MlpOutDwReferenceIdeal.Facts] : Prop :=
  ∀ (m : (ℓ : Loc Cert.MlpOutDwReferenceIdeal.nD Cert.MlpOutDwReferenceIdeal.τ Cert.MlpOutDwReferenceIdeal.sig) → Buf (Elt Ideal) ℓ) (g : Dev Cert.MlpOutDwReferenceIdeal.nD → PrngReg), Pre_MlpOutDwReferenceIdeal m →
    θ_run (Cert.MlpOutDwReferenceIdeal.defs (F := Ideal)) (onTc (τ := Cert.MlpOutDwReferenceIdeal.τ) (Cert.MlpOutDwReferenceIdeal.main (F := Ideal))) ⟨m, fun _ => 0, g⟩ (fun r => (∀ c : Dev Cert.MlpOutDwReferenceIdeal.nD,
      r.2.mem ((c.tc : Thread Cert.MlpOutDwReferenceIdeal.nD Cert.MlpOutDwReferenceIdeal.τ).loc Cert.MlpOutDwReferenceIdeal.main_arg0) = m ((c.tc : Thread Cert.MlpOutDwReferenceIdeal.nD Cert.MlpOutDwReferenceIdeal.τ).loc Cert.MlpOutDwReferenceIdeal.main_arg0)
      ∧ r.2.mem ((c.tc : Thread Cert.MlpOutDwReferenceIdeal.nD Cert.MlpOutDwReferenceIdeal.τ).loc Cert.MlpOutDwReferenceIdeal.main_arg1) = m ((c.tc : Thread Cert.MlpOutDwReferenceIdeal.nD Cert.MlpOutDwReferenceIdeal.τ).loc Cert.MlpOutDwReferenceIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ r.2.sem = fun _ => 0)

def quiescent_MlpInDxReferenceIdeal [hMlpInDxReferenceIdeal : Cert.MlpInDxReferenceIdeal.Facts] : Prop :=
  ∀ (m : (ℓ : Loc Cert.MlpInDxReferenceIdeal.nD Cert.MlpInDxReferenceIdeal.τ Cert.MlpInDxReferenceIdeal.sig) → Buf (Elt Ideal) ℓ) (g : Dev Cert.MlpInDxReferenceIdeal.nD → PrngReg), Pre_MlpInDxReferenceIdeal m →
    θ_run (Cert.MlpInDxReferenceIdeal.defs (F := Ideal)) (onTc (τ := Cert.MlpInDxReferenceIdeal.τ) (Cert.MlpInDxReferenceIdeal.main (F := Ideal))) ⟨m, fun _ => 0, g⟩ (fun r => (∀ c : Dev Cert.MlpInDxReferenceIdeal.nD,
      r.2.mem ((c.tc : Thread Cert.MlpInDxReferenceIdeal.nD Cert.MlpInDxReferenceIdeal.τ).loc Cert.MlpInDxReferenceIdeal.main_arg0) = m ((c.tc : Thread Cert.MlpInDxReferenceIdeal.nD Cert.MlpInDxReferenceIdeal.τ).loc Cert.MlpInDxReferenceIdeal.main_arg0)
      ∧ r.2.mem ((c.tc : Thread Cert.MlpInDxReferenceIdeal.nD Cert.MlpInDxReferenceIdeal.τ).loc Cert.MlpInDxReferenceIdeal.main_arg1) = m ((c.tc : Thread Cert.MlpInDxReferenceIdeal.nD Cert.MlpInDxReferenceIdeal.τ).loc Cert.MlpInDxReferenceIdeal.main_arg1))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ r.2.sem = fun _ => 0)

def quiescent_MlpInDwReferenceIdeal [hMlpInDwReferenceIdeal : Cert.MlpInDwReferenceIdeal.Facts] : Prop :=
  ∀ (m : (ℓ : Loc Cert.MlpInDwReferenceIdeal.nD Cert.MlpInDwReferenceIdeal.τ Cert.MlpInDwReferenceIdeal.sig) → Buf (Elt Ideal) ℓ) (g : Dev Cert.MlpInDwReferenceIdeal.nD → PrngReg), Pre_MlpInDwReferenceIdeal m →
    θ_run (Cert.MlpInDwReferenceIdeal.defs (F := Ideal)) (onTc (τ := Cert.MlpInDwReferenceIdeal.τ) (Cert.MlpInDwReferenceIdeal.main (F := Ideal))) ⟨m, fun _ => 0, g⟩ (fun r => (∀ c : Dev Cert.MlpInDwReferenceIdeal.nD,
      r.2.mem ((c.tc : Thread Cert.MlpInDwReferenceIdeal.nD Cert.MlpInDwReferenceIdeal.τ).loc Cert.MlpInDwReferenceIdeal.main_arg0) = m ((c.tc : Thread Cert.MlpInDwReferenceIdeal.nD Cert.MlpInDwReferenceIdeal.τ).loc Cert.MlpInDwReferenceIdeal.main_arg0)
      ∧ r.2.mem ((c.tc : Thread Cert.MlpInDwReferenceIdeal.nD Cert.MlpInDwReferenceIdeal.τ).loc Cert.MlpInDwReferenceIdeal.main_arg1) = m ((c.tc : Thread Cert.MlpInDwReferenceIdeal.nD Cert.MlpInDwReferenceIdeal.τ).loc Cert.MlpInDwReferenceIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1)
      ∧ r.2.mem ((c.tc : Thread Cert.BranchDx.nD Cert.BranchDx.τ).loc Cert.BranchDx.main_arg2) = m ((c.tc : Thread Cert.BranchDx.nD Cert.BranchDx.τ).loc Cert.BranchDx.main_arg2)
      ∧ r.2.mem ((c.tc : Thread Cert.BranchDx.nD Cert.BranchDx.τ).loc Cert.BranchDx.main_arg3) = m ((c.tc : Thread Cert.BranchDx.nD Cert.BranchDx.τ).loc Cert.BranchDx.main_arg3))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
      ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2)
      ∧ r.2.mem ((c.tc : Thread Cert.BranchDxIdeal.nD Cert.BranchDxIdeal.τ).loc Cert.BranchDxIdeal.main_arg3) = m ((c.tc : Thread Cert.BranchDxIdeal.nD Cert.BranchDxIdeal.τ).loc Cert.BranchDxIdeal.main_arg3))
      ∧ r.2.sem = fun _ => 0)

def quiescent_BranchDxReferenceIdeal [hBranchDxReferenceIdeal : Cert.BranchDxReferenceIdeal.Facts] : Prop :=
  ∀ (m : (ℓ : Loc Cert.BranchDxReferenceIdeal.nD Cert.BranchDxReferenceIdeal.τ Cert.BranchDxReferenceIdeal.sig) → Buf (Elt Ideal) ℓ) (g : Dev Cert.BranchDxReferenceIdeal.nD → PrngReg), Pre_BranchDxReferenceIdeal m →
    θ_run (Cert.BranchDxReferenceIdeal.defs (F := Ideal)) (onTc (τ := Cert.BranchDxReferenceIdeal.τ) (Cert.BranchDxReferenceIdeal.main (F := Ideal))) ⟨m, fun _ => 0, g⟩ (fun r => (∀ c : Dev Cert.BranchDxReferenceIdeal.nD,
      r.2.mem ((c.tc : Thread Cert.BranchDxReferenceIdeal.nD Cert.BranchDxReferenceIdeal.τ).loc Cert.BranchDxReferenceIdeal.main_arg0) = m ((c.tc : Thread Cert.BranchDxReferenceIdeal.nD Cert.BranchDxReferenceIdeal.τ).loc Cert.BranchDxReferenceIdeal.main_arg0)
      ∧ r.2.mem ((c.tc : Thread Cert.BranchDxReferenceIdeal.nD Cert.BranchDxReferenceIdeal.τ).loc Cert.BranchDxReferenceIdeal.main_arg1) = m ((c.tc : Thread Cert.BranchDxReferenceIdeal.nD Cert.BranchDxReferenceIdeal.τ).loc Cert.BranchDxReferenceIdeal.main_arg1)
      ∧ r.2.mem ((c.tc : Thread Cert.BranchDxReferenceIdeal.nD Cert.BranchDxReferenceIdeal.τ).loc Cert.BranchDxReferenceIdeal.main_arg2) = m ((c.tc : Thread Cert.BranchDxReferenceIdeal.nD Cert.BranchDxReferenceIdeal.τ).loc Cert.BranchDxReferenceIdeal.main_arg2)
      ∧ r.2.mem ((c.tc : Thread Cert.BranchDxReferenceIdeal.nD Cert.BranchDxReferenceIdeal.τ).loc Cert.BranchDxReferenceIdeal.main_arg3) = m ((c.tc : Thread Cert.BranchDxReferenceIdeal.nD Cert.BranchDxReferenceIdeal.τ).loc Cert.BranchDxReferenceIdeal.main_arg3))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1)
      ∧ r.2.mem ((c.tc : Thread Cert.BranchDw.nD Cert.BranchDw.τ).loc Cert.BranchDw.main_arg2) = m ((c.tc : Thread Cert.BranchDw.nD Cert.BranchDw.τ).loc Cert.BranchDw.main_arg2)
      ∧ r.2.mem ((c.tc : Thread Cert.BranchDw.nD Cert.BranchDw.τ).loc Cert.BranchDw.main_arg3) = m ((c.tc : Thread Cert.BranchDw.nD Cert.BranchDw.τ).loc Cert.BranchDw.main_arg3))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
      ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2)
      ∧ r.2.mem ((c.tc : Thread Cert.BranchDwIdeal.nD Cert.BranchDwIdeal.τ).loc Cert.BranchDwIdeal.main_arg3) = m ((c.tc : Thread Cert.BranchDwIdeal.nD Cert.BranchDwIdeal.τ).loc Cert.BranchDwIdeal.main_arg3))
      ∧ r.2.sem = fun _ => 0)

def quiescent_BranchDwReferenceIdeal [hBranchDwReferenceIdeal : Cert.BranchDwReferenceIdeal.Facts] : Prop :=
  ∀ (m : (ℓ : Loc Cert.BranchDwReferenceIdeal.nD Cert.BranchDwReferenceIdeal.τ Cert.BranchDwReferenceIdeal.sig) → Buf (Elt Ideal) ℓ) (g : Dev Cert.BranchDwReferenceIdeal.nD → PrngReg), Pre_BranchDwReferenceIdeal m →
    θ_run (Cert.BranchDwReferenceIdeal.defs (F := Ideal)) (onTc (τ := Cert.BranchDwReferenceIdeal.τ) (Cert.BranchDwReferenceIdeal.main (F := Ideal))) ⟨m, fun _ => 0, g⟩ (fun r => (∀ c : Dev Cert.BranchDwReferenceIdeal.nD,
      r.2.mem ((c.tc : Thread Cert.BranchDwReferenceIdeal.nD Cert.BranchDwReferenceIdeal.τ).loc Cert.BranchDwReferenceIdeal.main_arg0) = m ((c.tc : Thread Cert.BranchDwReferenceIdeal.nD Cert.BranchDwReferenceIdeal.τ).loc Cert.BranchDwReferenceIdeal.main_arg0)
      ∧ r.2.mem ((c.tc : Thread Cert.BranchDwReferenceIdeal.nD Cert.BranchDwReferenceIdeal.τ).loc Cert.BranchDwReferenceIdeal.main_arg1) = m ((c.tc : Thread Cert.BranchDwReferenceIdeal.nD Cert.BranchDwReferenceIdeal.τ).loc Cert.BranchDwReferenceIdeal.main_arg1)
      ∧ r.2.mem ((c.tc : Thread Cert.BranchDwReferenceIdeal.nD Cert.BranchDwReferenceIdeal.τ).loc Cert.BranchDwReferenceIdeal.main_arg2) = m ((c.tc : Thread Cert.BranchDwReferenceIdeal.nD Cert.BranchDwReferenceIdeal.τ).loc Cert.BranchDwReferenceIdeal.main_arg2)
      ∧ r.2.mem ((c.tc : Thread Cert.BranchDwReferenceIdeal.nD Cert.BranchDwReferenceIdeal.τ).loc Cert.BranchDwReferenceIdeal.main_arg3) = m ((c.tc : Thread Cert.BranchDwReferenceIdeal.nD Cert.BranchDwReferenceIdeal.τ).loc Cert.BranchDwReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3)
      ∧ r.2.mem ((c.tc : Thread Cert.BranchMerge.nD Cert.BranchMerge.τ).loc Cert.BranchMerge.main_arg4) = m ((c.tc : Thread Cert.BranchMerge.nD Cert.BranchMerge.τ).loc Cert.BranchMerge.main_arg4))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ r.2.sem = fun _ => 0)

def quiescent_BranchMergeReferenceIdeal [hBranchMergeReferenceIdeal : Cert.BranchMergeReferenceIdeal.Facts] : Prop :=
  ∀ (m : (ℓ : Loc Cert.BranchMergeReferenceIdeal.nD Cert.BranchMergeReferenceIdeal.τ Cert.BranchMergeReferenceIdeal.sig) → Buf (Elt Ideal) ℓ) (g : Dev Cert.BranchMergeReferenceIdeal.nD → PrngReg), Pre_BranchMergeReferenceIdeal m →
    θ_run (Cert.BranchMergeReferenceIdeal.defs (F := Ideal)) (onTc (τ := Cert.BranchMergeReferenceIdeal.τ) (Cert.BranchMergeReferenceIdeal.main (F := Ideal))) ⟨m, fun _ => 0, g⟩ (fun r => (∀ c : Dev Cert.BranchMergeReferenceIdeal.nD,
      r.2.mem ((c.tc : Thread Cert.BranchMergeReferenceIdeal.nD Cert.BranchMergeReferenceIdeal.τ).loc Cert.BranchMergeReferenceIdeal.main_arg0) = m ((c.tc : Thread Cert.BranchMergeReferenceIdeal.nD Cert.BranchMergeReferenceIdeal.τ).loc Cert.BranchMergeReferenceIdeal.main_arg0)
      ∧ r.2.mem ((c.tc : Thread Cert.BranchMergeReferenceIdeal.nD Cert.BranchMergeReferenceIdeal.τ).loc Cert.BranchMergeReferenceIdeal.main_arg1) = m ((c.tc : Thread Cert.BranchMergeReferenceIdeal.nD Cert.BranchMergeReferenceIdeal.τ).loc Cert.BranchMergeReferenceIdeal.main_arg1)
      ∧ r.2.mem ((c.tc : Thread Cert.BranchMergeReferenceIdeal.nD Cert.BranchMergeReferenceIdeal.τ).loc Cert.BranchMergeReferenceIdeal.main_arg2) = m ((c.tc : Thread Cert.BranchMergeReferenceIdeal.nD Cert.BranchMergeReferenceIdeal.τ).loc Cert.BranchMergeReferenceIdeal.main_arg2)
      ∧ r.2.mem ((c.tc : Thread Cert.BranchMergeReferenceIdeal.nD Cert.BranchMergeReferenceIdeal.τ).loc Cert.BranchMergeReferenceIdeal.main_arg3) = m ((c.tc : Thread Cert.BranchMergeReferenceIdeal.nD Cert.BranchMergeReferenceIdeal.τ).loc Cert.BranchMergeReferenceIdeal.main_arg3)
      ∧ r.2.mem ((c.tc : Thread Cert.BranchMergeReferenceIdeal.nD Cert.BranchMergeReferenceIdeal.τ).loc Cert.BranchMergeReferenceIdeal.main_arg4) = m ((c.tc : Thread Cert.BranchMergeReferenceIdeal.nD Cert.BranchMergeReferenceIdeal.τ).loc Cert.BranchMergeReferenceIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1)
      ∧ r.2.mem ((c.tc : Thread Cert.RmsFwd.nD Cert.RmsFwd.τ).loc Cert.RmsFwd.main_arg2) = m ((c.tc : Thread Cert.RmsFwd.nD Cert.RmsFwd.τ).loc Cert.RmsFwd.main_arg2)
      ∧ r.2.mem ((c.tc : Thread Cert.RmsFwd.nD Cert.RmsFwd.τ).loc Cert.RmsFwd.main_arg3) = m ((c.tc : Thread Cert.RmsFwd.nD Cert.RmsFwd.τ).loc Cert.RmsFwd.main_arg3))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1)
      ∧ r.2.mem ((c.tc : Thread Cert.RmsFwdIdeal.nD Cert.RmsFwdIdeal.τ).loc Cert.RmsFwdIdeal.main_arg2) = m ((c.tc : Thread Cert.RmsFwdIdeal.nD Cert.RmsFwdIdeal.τ).loc Cert.RmsFwdIdeal.main_arg2)
      ∧ r.2.mem ((c.tc : Thread Cert.RmsFwdIdeal.nD Cert.RmsFwdIdeal.τ).loc Cert.RmsFwdIdeal.main_arg3) = m ((c.tc : Thread Cert.RmsFwdIdeal.nD Cert.RmsFwdIdeal.τ).loc Cert.RmsFwdIdeal.main_arg3))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1)
      ∧ r.2.mem ((c.tc : Thread Cert.RmsFwdReferenceIdeal.nD Cert.RmsFwdReferenceIdeal.τ).loc Cert.RmsFwdReferenceIdeal.main_arg2) = m ((c.tc : Thread Cert.RmsFwdReferenceIdeal.nD Cert.RmsFwdReferenceIdeal.τ).loc Cert.RmsFwdReferenceIdeal.main_arg2)
      ∧ r.2.mem ((c.tc : Thread Cert.RmsFwdReferenceIdeal.nD Cert.RmsFwdReferenceIdeal.τ).loc Cert.RmsFwdReferenceIdeal.main_arg3) = m ((c.tc : Thread Cert.RmsFwdReferenceIdeal.nD Cert.RmsFwdReferenceIdeal.τ).loc Cert.RmsFwdReferenceIdeal.main_arg3))
      ∧ r.2.sem = fun _ => 0)

def quiescent_AdaUpdate [hAdaUpdate : Cert.AdaUpdate.Facts] : Prop :=
  ∀ (m : (ℓ : Loc Cert.AdaUpdate.nD Cert.AdaUpdate.τ Cert.AdaUpdate.sig) → Buf (Elt Bits) ℓ) (g : Dev Cert.AdaUpdate.nD → PrngReg), Pre_AdaUpdate m →
    θ_run (Cert.AdaUpdate.defs (F := Bits)) (onTc (τ := Cert.AdaUpdate.τ) (Cert.AdaUpdate.main (F := Bits))) ⟨m, fun _ => 0, g⟩ (fun r => (∀ c : Dev Cert.AdaUpdate.nD,
      r.2.mem ((c.tc : Thread Cert.AdaUpdate.nD Cert.AdaUpdate.τ).loc Cert.AdaUpdate.main_arg0) = m ((c.tc : Thread Cert.AdaUpdate.nD Cert.AdaUpdate.τ).loc Cert.AdaUpdate.main_arg0)
      ∧ r.2.mem ((c.tc : Thread Cert.AdaUpdate.nD Cert.AdaUpdate.τ).loc Cert.AdaUpdate.main_arg1) = m ((c.tc : Thread Cert.AdaUpdate.nD Cert.AdaUpdate.τ).loc Cert.AdaUpdate.main_arg1)
      ∧ r.2.mem ((c.tc : Thread Cert.AdaUpdate.nD Cert.AdaUpdate.τ).loc Cert.AdaUpdate.main_arg2) = m ((c.tc : Thread Cert.AdaUpdate.nD Cert.AdaUpdate.τ).loc Cert.AdaUpdate.main_arg2)
      ∧ r.2.mem ((c.tc : Thread Cert.AdaUpdate.nD Cert.AdaUpdate.τ).loc Cert.AdaUpdate.main_arg3) = m ((c.tc : Thread Cert.AdaUpdate.nD Cert.AdaUpdate.τ).loc Cert.AdaUpdate.main_arg3)
      ∧ r.2.mem ((c.tc : Thread Cert.AdaUpdate.nD Cert.AdaUpdate.τ).loc Cert.AdaUpdate.main_arg4) = m ((c.tc : Thread Cert.AdaUpdate.nD Cert.AdaUpdate.τ).loc Cert.AdaUpdate.main_arg4))
      ∧ r.2.sem = fun _ => 0)

def quiescent_AdaUpdateIdeal [hAdaUpdateIdeal : Cert.AdaUpdateIdeal.Facts] : Prop :=
  ∀ (m : (ℓ : Loc Cert.AdaUpdateIdeal.nD Cert.AdaUpdateIdeal.τ Cert.AdaUpdateIdeal.sig) → Buf (Elt Ideal) ℓ) (g : Dev Cert.AdaUpdateIdeal.nD → PrngReg), Pre_AdaUpdateIdeal m →
    θ_run (Cert.AdaUpdateIdeal.defs (F := Ideal)) (onTc (τ := Cert.AdaUpdateIdeal.τ) (Cert.AdaUpdateIdeal.main (F := Ideal))) ⟨m, fun _ => 0, g⟩ (fun r => (∀ c : Dev Cert.AdaUpdateIdeal.nD,
      r.2.mem ((c.tc : Thread Cert.AdaUpdateIdeal.nD Cert.AdaUpdateIdeal.τ).loc Cert.AdaUpdateIdeal.main_arg0) = m ((c.tc : Thread Cert.AdaUpdateIdeal.nD Cert.AdaUpdateIdeal.τ).loc Cert.AdaUpdateIdeal.main_arg0)
      ∧ r.2.mem ((c.tc : Thread Cert.AdaUpdateIdeal.nD Cert.AdaUpdateIdeal.τ).loc Cert.AdaUpdateIdeal.main_arg1) = m ((c.tc : Thread Cert.AdaUpdateIdeal.nD Cert.AdaUpdateIdeal.τ).loc Cert.AdaUpdateIdeal.main_arg1)
      ∧ r.2.mem ((c.tc : Thread Cert.AdaUpdateIdeal.nD Cert.AdaUpdateIdeal.τ).loc Cert.AdaUpdateIdeal.main_arg2) = m ((c.tc : Thread Cert.AdaUpdateIdeal.nD Cert.AdaUpdateIdeal.τ).loc Cert.AdaUpdateIdeal.main_arg2)
      ∧ r.2.mem ((c.tc : Thread Cert.AdaUpdateIdeal.nD Cert.AdaUpdateIdeal.τ).loc Cert.AdaUpdateIdeal.main_arg3) = m ((c.tc : Thread Cert.AdaUpdateIdeal.nD Cert.AdaUpdateIdeal.τ).loc Cert.AdaUpdateIdeal.main_arg3)
      ∧ r.2.mem ((c.tc : Thread Cert.AdaUpdateIdeal.nD Cert.AdaUpdateIdeal.τ).loc Cert.AdaUpdateIdeal.main_arg4) = m ((c.tc : Thread Cert.AdaUpdateIdeal.nD Cert.AdaUpdateIdeal.τ).loc Cert.AdaUpdateIdeal.main_arg4))
      ∧ r.2.sem = fun _ => 0)

def quiescent_AdaUpdateReferenceIdeal [hAdaUpdateReferenceIdeal : Cert.AdaUpdateReferenceIdeal.Facts] : Prop :=
  ∀ (m : (ℓ : Loc Cert.AdaUpdateReferenceIdeal.nD Cert.AdaUpdateReferenceIdeal.τ Cert.AdaUpdateReferenceIdeal.sig) → Buf (Elt Ideal) ℓ) (g : Dev Cert.AdaUpdateReferenceIdeal.nD → PrngReg), Pre_AdaUpdateReferenceIdeal m →
    θ_run (Cert.AdaUpdateReferenceIdeal.defs (F := Ideal)) (onTc (τ := Cert.AdaUpdateReferenceIdeal.τ) (Cert.AdaUpdateReferenceIdeal.main (F := Ideal))) ⟨m, fun _ => 0, g⟩ (fun r => (∀ c : Dev Cert.AdaUpdateReferenceIdeal.nD,
      r.2.mem ((c.tc : Thread Cert.AdaUpdateReferenceIdeal.nD Cert.AdaUpdateReferenceIdeal.τ).loc Cert.AdaUpdateReferenceIdeal.main_arg0) = m ((c.tc : Thread Cert.AdaUpdateReferenceIdeal.nD Cert.AdaUpdateReferenceIdeal.τ).loc Cert.AdaUpdateReferenceIdeal.main_arg0)
      ∧ r.2.mem ((c.tc : Thread Cert.AdaUpdateReferenceIdeal.nD Cert.AdaUpdateReferenceIdeal.τ).loc Cert.AdaUpdateReferenceIdeal.main_arg1) = m ((c.tc : Thread Cert.AdaUpdateReferenceIdeal.nD Cert.AdaUpdateReferenceIdeal.τ).loc Cert.AdaUpdateReferenceIdeal.main_arg1)
      ∧ r.2.mem ((c.tc : Thread Cert.AdaUpdateReferenceIdeal.nD Cert.AdaUpdateReferenceIdeal.τ).loc Cert.AdaUpdateReferenceIdeal.main_arg2) = m ((c.tc : Thread Cert.AdaUpdateReferenceIdeal.nD Cert.AdaUpdateReferenceIdeal.τ).loc Cert.AdaUpdateReferenceIdeal.main_arg2)
      ∧ r.2.mem ((c.tc : Thread Cert.AdaUpdateReferenceIdeal.nD Cert.AdaUpdateReferenceIdeal.τ).loc Cert.AdaUpdateReferenceIdeal.main_arg3) = m ((c.tc : Thread Cert.AdaUpdateReferenceIdeal.nD Cert.AdaUpdateReferenceIdeal.τ).loc Cert.AdaUpdateReferenceIdeal.main_arg3)
      ∧ r.2.mem ((c.tc : Thread Cert.AdaUpdateReferenceIdeal.nD Cert.AdaUpdateReferenceIdeal.τ).loc Cert.AdaUpdateReferenceIdeal.main_arg4) = m ((c.tc : Thread Cert.AdaUpdateReferenceIdeal.nD Cert.AdaUpdateReferenceIdeal.τ).loc Cert.AdaUpdateReferenceIdeal.main_arg4))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_SumAdamwIn [hSumAdamwIn : Cert.SumAdamwIn.Facts] : Prop :=
  ∀ (m : (ℓ : Loc Cert.SumAdamwIn.nD Cert.SumAdamwIn.τ Cert.SumAdamwIn.sig) → Buf (Elt Bits) ℓ) (g : Dev Cert.SumAdamwIn.nD → PrngReg), Pre_SumAdamwIn m →
    θ_run (Cert.SumAdamwIn.defs (F := Bits)) (onTc (τ := Cert.SumAdamwIn.τ) (Cert.SumAdamwIn.main (F := Bits))) ⟨m, fun _ => 0, g⟩ (fun r => (∀ c : Dev Cert.SumAdamwIn.nD,
      r.2.mem ((c.tc : Thread Cert.SumAdamwIn.nD Cert.SumAdamwIn.τ).loc Cert.SumAdamwIn.main_arg0) = m ((c.tc : Thread Cert.SumAdamwIn.nD Cert.SumAdamwIn.τ).loc Cert.SumAdamwIn.main_arg0)
      ∧ r.2.mem ((c.tc : Thread Cert.SumAdamwIn.nD Cert.SumAdamwIn.τ).loc Cert.SumAdamwIn.main_arg1) = m ((c.tc : Thread Cert.SumAdamwIn.nD Cert.SumAdamwIn.τ).loc Cert.SumAdamwIn.main_arg1)
      ∧ r.2.mem ((c.tc : Thread Cert.SumAdamwIn.nD Cert.SumAdamwIn.τ).loc Cert.SumAdamwIn.main_arg2) = m ((c.tc : Thread Cert.SumAdamwIn.nD Cert.SumAdamwIn.τ).loc Cert.SumAdamwIn.main_arg2)
      ∧ r.2.mem ((c.tc : Thread Cert.SumAdamwIn.nD Cert.SumAdamwIn.τ).loc Cert.SumAdamwIn.main_arg3) = m ((c.tc : Thread Cert.SumAdamwIn.nD Cert.SumAdamwIn.τ).loc Cert.SumAdamwIn.main_arg3)
      ∧ r.2.mem ((c.tc : Thread Cert.SumAdamwIn.nD Cert.SumAdamwIn.τ).loc Cert.SumAdamwIn.main_arg4) = m ((c.tc : Thread Cert.SumAdamwIn.nD Cert.SumAdamwIn.τ).loc Cert.SumAdamwIn.main_arg4))
      ∧ r.2.sem = fun _ => 0)

def quiescent_SumAdamwInIdeal [hSumAdamwInIdeal : Cert.SumAdamwInIdeal.Facts] : Prop :=
  ∀ (m : (ℓ : Loc Cert.SumAdamwInIdeal.nD Cert.SumAdamwInIdeal.τ Cert.SumAdamwInIdeal.sig) → Buf (Elt Ideal) ℓ) (g : Dev Cert.SumAdamwInIdeal.nD → PrngReg), Pre_SumAdamwInIdeal m →
    θ_run (Cert.SumAdamwInIdeal.defs (F := Ideal)) (onTc (τ := Cert.SumAdamwInIdeal.τ) (Cert.SumAdamwInIdeal.main (F := Ideal))) ⟨m, fun _ => 0, g⟩ (fun r => (∀ c : Dev Cert.SumAdamwInIdeal.nD,
      r.2.mem ((c.tc : Thread Cert.SumAdamwInIdeal.nD Cert.SumAdamwInIdeal.τ).loc Cert.SumAdamwInIdeal.main_arg0) = m ((c.tc : Thread Cert.SumAdamwInIdeal.nD Cert.SumAdamwInIdeal.τ).loc Cert.SumAdamwInIdeal.main_arg0)
      ∧ r.2.mem ((c.tc : Thread Cert.SumAdamwInIdeal.nD Cert.SumAdamwInIdeal.τ).loc Cert.SumAdamwInIdeal.main_arg1) = m ((c.tc : Thread Cert.SumAdamwInIdeal.nD Cert.SumAdamwInIdeal.τ).loc Cert.SumAdamwInIdeal.main_arg1)
      ∧ r.2.mem ((c.tc : Thread Cert.SumAdamwInIdeal.nD Cert.SumAdamwInIdeal.τ).loc Cert.SumAdamwInIdeal.main_arg2) = m ((c.tc : Thread Cert.SumAdamwInIdeal.nD Cert.SumAdamwInIdeal.τ).loc Cert.SumAdamwInIdeal.main_arg2)
      ∧ r.2.mem ((c.tc : Thread Cert.SumAdamwInIdeal.nD Cert.SumAdamwInIdeal.τ).loc Cert.SumAdamwInIdeal.main_arg3) = m ((c.tc : Thread Cert.SumAdamwInIdeal.nD Cert.SumAdamwInIdeal.τ).loc Cert.SumAdamwInIdeal.main_arg3)
      ∧ r.2.mem ((c.tc : Thread Cert.SumAdamwInIdeal.nD Cert.SumAdamwInIdeal.τ).loc Cert.SumAdamwInIdeal.main_arg4) = m ((c.tc : Thread Cert.SumAdamwInIdeal.nD Cert.SumAdamwInIdeal.τ).loc Cert.SumAdamwInIdeal.main_arg4))
      ∧ r.2.sem = fun _ => 0)

def quiescent_SumAdamwInReferenceIdeal [hSumAdamwInReferenceIdeal : Cert.SumAdamwInReferenceIdeal.Facts] : Prop :=
  ∀ (m : (ℓ : Loc Cert.SumAdamwInReferenceIdeal.nD Cert.SumAdamwInReferenceIdeal.τ Cert.SumAdamwInReferenceIdeal.sig) → Buf (Elt Ideal) ℓ) (g : Dev Cert.SumAdamwInReferenceIdeal.nD → PrngReg), Pre_SumAdamwInReferenceIdeal m →
    θ_run (Cert.SumAdamwInReferenceIdeal.defs (F := Ideal)) (onTc (τ := Cert.SumAdamwInReferenceIdeal.τ) (Cert.SumAdamwInReferenceIdeal.main (F := Ideal))) ⟨m, fun _ => 0, g⟩ (fun r => (∀ c : Dev Cert.SumAdamwInReferenceIdeal.nD,
      r.2.mem ((c.tc : Thread Cert.SumAdamwInReferenceIdeal.nD Cert.SumAdamwInReferenceIdeal.τ).loc Cert.SumAdamwInReferenceIdeal.main_arg0) = m ((c.tc : Thread Cert.SumAdamwInReferenceIdeal.nD Cert.SumAdamwInReferenceIdeal.τ).loc Cert.SumAdamwInReferenceIdeal.main_arg0)
      ∧ r.2.mem ((c.tc : Thread Cert.SumAdamwInReferenceIdeal.nD Cert.SumAdamwInReferenceIdeal.τ).loc Cert.SumAdamwInReferenceIdeal.main_arg1) = m ((c.tc : Thread Cert.SumAdamwInReferenceIdeal.nD Cert.SumAdamwInReferenceIdeal.τ).loc Cert.SumAdamwInReferenceIdeal.main_arg1)
      ∧ r.2.mem ((c.tc : Thread Cert.SumAdamwInReferenceIdeal.nD Cert.SumAdamwInReferenceIdeal.τ).loc Cert.SumAdamwInReferenceIdeal.main_arg2) = m ((c.tc : Thread Cert.SumAdamwInReferenceIdeal.nD Cert.SumAdamwInReferenceIdeal.τ).loc Cert.SumAdamwInReferenceIdeal.main_arg2)
      ∧ r.2.mem ((c.tc : Thread Cert.SumAdamwInReferenceIdeal.nD Cert.SumAdamwInReferenceIdeal.τ).loc Cert.SumAdamwInReferenceIdeal.main_arg3) = m ((c.tc : Thread Cert.SumAdamwInReferenceIdeal.nD Cert.SumAdamwInReferenceIdeal.τ).loc Cert.SumAdamwInReferenceIdeal.main_arg3)
      ∧ r.2.mem ((c.tc : Thread Cert.SumAdamwInReferenceIdeal.nD Cert.SumAdamwInReferenceIdeal.τ).loc Cert.SumAdamwInReferenceIdeal.main_arg4) = m ((c.tc : Thread Cert.SumAdamwInReferenceIdeal.nD Cert.SumAdamwInReferenceIdeal.τ).loc Cert.SumAdamwInReferenceIdeal.main_arg4))
      ∧ r.2.sem = fun _ => 0)

def quiescent_SumAdamwBranch [hSumAdamwBranch : Cert.SumAdamwBranch.Facts] : Prop :=
  ∀ (m : (ℓ : Loc Cert.SumAdamwBranch.nD Cert.SumAdamwBranch.τ Cert.SumAdamwBranch.sig) → Buf (Elt Bits) ℓ) (g : Dev Cert.SumAdamwBranch.nD → PrngReg), Pre_SumAdamwBranch m →
    θ_run (Cert.SumAdamwBranch.defs (F := Bits)) (onTc (τ := Cert.SumAdamwBranch.τ) (Cert.SumAdamwBranch.main (F := Bits))) ⟨m, fun _ => 0, g⟩ (fun r => (∀ c : Dev Cert.SumAdamwBranch.nD,
      r.2.mem ((c.tc : Thread Cert.SumAdamwBranch.nD Cert.SumAdamwBranch.τ).loc Cert.SumAdamwBranch.main_arg0) = m ((c.tc : Thread Cert.SumAdamwBranch.nD Cert.SumAdamwBranch.τ).loc Cert.SumAdamwBranch.main_arg0)
      ∧ r.2.mem ((c.tc : Thread Cert.SumAdamwBranch.nD Cert.SumAdamwBranch.τ).loc Cert.SumAdamwBranch.main_arg1) = m ((c.tc : Thread Cert.SumAdamwBranch.nD Cert.SumAdamwBranch.τ).loc Cert.SumAdamwBranch.main_arg1)
      ∧ r.2.mem ((c.tc : Thread Cert.SumAdamwBranch.nD Cert.SumAdamwBranch.τ).loc Cert.SumAdamwBranch.main_arg2) = m ((c.tc : Thread Cert.SumAdamwBranch.nD Cert.SumAdamwBranch.τ).loc Cert.SumAdamwBranch.main_arg2)
      ∧ r.2.mem ((c.tc : Thread Cert.SumAdamwBranch.nD Cert.SumAdamwBranch.τ).loc Cert.SumAdamwBranch.main_arg3) = m ((c.tc : Thread Cert.SumAdamwBranch.nD Cert.SumAdamwBranch.τ).loc Cert.SumAdamwBranch.main_arg3)
      ∧ r.2.mem ((c.tc : Thread Cert.SumAdamwBranch.nD Cert.SumAdamwBranch.τ).loc Cert.SumAdamwBranch.main_arg4) = m ((c.tc : Thread Cert.SumAdamwBranch.nD Cert.SumAdamwBranch.τ).loc Cert.SumAdamwBranch.main_arg4))
      ∧ r.2.sem = fun _ => 0)

def quiescent_SumAdamwBranchIdeal [hSumAdamwBranchIdeal : Cert.SumAdamwBranchIdeal.Facts] : Prop :=
  ∀ (m : (ℓ : Loc Cert.SumAdamwBranchIdeal.nD Cert.SumAdamwBranchIdeal.τ Cert.SumAdamwBranchIdeal.sig) → Buf (Elt Ideal) ℓ) (g : Dev Cert.SumAdamwBranchIdeal.nD → PrngReg), Pre_SumAdamwBranchIdeal m →
    θ_run (Cert.SumAdamwBranchIdeal.defs (F := Ideal)) (onTc (τ := Cert.SumAdamwBranchIdeal.τ) (Cert.SumAdamwBranchIdeal.main (F := Ideal))) ⟨m, fun _ => 0, g⟩ (fun r => (∀ c : Dev Cert.SumAdamwBranchIdeal.nD,
      r.2.mem ((c.tc : Thread Cert.SumAdamwBranchIdeal.nD Cert.SumAdamwBranchIdeal.τ).loc Cert.SumAdamwBranchIdeal.main_arg0) = m ((c.tc : Thread Cert.SumAdamwBranchIdeal.nD Cert.SumAdamwBranchIdeal.τ).loc Cert.SumAdamwBranchIdeal.main_arg0)
      ∧ r.2.mem ((c.tc : Thread Cert.SumAdamwBranchIdeal.nD Cert.SumAdamwBranchIdeal.τ).loc Cert.SumAdamwBranchIdeal.main_arg1) = m ((c.tc : Thread Cert.SumAdamwBranchIdeal.nD Cert.SumAdamwBranchIdeal.τ).loc Cert.SumAdamwBranchIdeal.main_arg1)
      ∧ r.2.mem ((c.tc : Thread Cert.SumAdamwBranchIdeal.nD Cert.SumAdamwBranchIdeal.τ).loc Cert.SumAdamwBranchIdeal.main_arg2) = m ((c.tc : Thread Cert.SumAdamwBranchIdeal.nD Cert.SumAdamwBranchIdeal.τ).loc Cert.SumAdamwBranchIdeal.main_arg2)
      ∧ r.2.mem ((c.tc : Thread Cert.SumAdamwBranchIdeal.nD Cert.SumAdamwBranchIdeal.τ).loc Cert.SumAdamwBranchIdeal.main_arg3) = m ((c.tc : Thread Cert.SumAdamwBranchIdeal.nD Cert.SumAdamwBranchIdeal.τ).loc Cert.SumAdamwBranchIdeal.main_arg3)
      ∧ r.2.mem ((c.tc : Thread Cert.SumAdamwBranchIdeal.nD Cert.SumAdamwBranchIdeal.τ).loc Cert.SumAdamwBranchIdeal.main_arg4) = m ((c.tc : Thread Cert.SumAdamwBranchIdeal.nD Cert.SumAdamwBranchIdeal.τ).loc Cert.SumAdamwBranchIdeal.main_arg4))
      ∧ r.2.sem = fun _ => 0)

def quiescent_SumAdamwBranchReferenceIdeal [hSumAdamwBranchReferenceIdeal : Cert.SumAdamwBranchReferenceIdeal.Facts] : Prop :=
  ∀ (m : (ℓ : Loc Cert.SumAdamwBranchReferenceIdeal.nD Cert.SumAdamwBranchReferenceIdeal.τ Cert.SumAdamwBranchReferenceIdeal.sig) → Buf (Elt Ideal) ℓ) (g : Dev Cert.SumAdamwBranchReferenceIdeal.nD → PrngReg), Pre_SumAdamwBranchReferenceIdeal m →
    θ_run (Cert.SumAdamwBranchReferenceIdeal.defs (F := Ideal)) (onTc (τ := Cert.SumAdamwBranchReferenceIdeal.τ) (Cert.SumAdamwBranchReferenceIdeal.main (F := Ideal))) ⟨m, fun _ => 0, g⟩ (fun r => (∀ c : Dev Cert.SumAdamwBranchReferenceIdeal.nD,
      r.2.mem ((c.tc : Thread Cert.SumAdamwBranchReferenceIdeal.nD Cert.SumAdamwBranchReferenceIdeal.τ).loc Cert.SumAdamwBranchReferenceIdeal.main_arg0) = m ((c.tc : Thread Cert.SumAdamwBranchReferenceIdeal.nD Cert.SumAdamwBranchReferenceIdeal.τ).loc Cert.SumAdamwBranchReferenceIdeal.main_arg0)
      ∧ r.2.mem ((c.tc : Thread Cert.SumAdamwBranchReferenceIdeal.nD Cert.SumAdamwBranchReferenceIdeal.τ).loc Cert.SumAdamwBranchReferenceIdeal.main_arg1) = m ((c.tc : Thread Cert.SumAdamwBranchReferenceIdeal.nD Cert.SumAdamwBranchReferenceIdeal.τ).loc Cert.SumAdamwBranchReferenceIdeal.main_arg1)
      ∧ r.2.mem ((c.tc : Thread Cert.SumAdamwBranchReferenceIdeal.nD Cert.SumAdamwBranchReferenceIdeal.τ).loc Cert.SumAdamwBranchReferenceIdeal.main_arg2) = m ((c.tc : Thread Cert.SumAdamwBranchReferenceIdeal.nD Cert.SumAdamwBranchReferenceIdeal.τ).loc Cert.SumAdamwBranchReferenceIdeal.main_arg2)
      ∧ r.2.mem ((c.tc : Thread Cert.SumAdamwBranchReferenceIdeal.nD Cert.SumAdamwBranchReferenceIdeal.τ).loc Cert.SumAdamwBranchReferenceIdeal.main_arg3) = m ((c.tc : Thread Cert.SumAdamwBranchReferenceIdeal.nD Cert.SumAdamwBranchReferenceIdeal.τ).loc Cert.SumAdamwBranchReferenceIdeal.main_arg3)
      ∧ r.2.mem ((c.tc : Thread Cert.SumAdamwBranchReferenceIdeal.nD Cert.SumAdamwBranchReferenceIdeal.τ).loc Cert.SumAdamwBranchReferenceIdeal.main_arg4) = m ((c.tc : Thread Cert.SumAdamwBranchReferenceIdeal.nD Cert.SumAdamwBranchReferenceIdeal.τ).loc Cert.SumAdamwBranchReferenceIdeal.main_arg4))
      ∧ r.2.sem = fun _ => 0)

def quiescent_SumAdamwOut [hSumAdamwOut : Cert.SumAdamwOut.Facts] : Prop :=
  ∀ (m : (ℓ : Loc Cert.SumAdamwOut.nD Cert.SumAdamwOut.τ Cert.SumAdamwOut.sig) → Buf (Elt Bits) ℓ) (g : Dev Cert.SumAdamwOut.nD → PrngReg), Pre_SumAdamwOut m →
    θ_run (Cert.SumAdamwOut.defs (F := Bits)) (onTc (τ := Cert.SumAdamwOut.τ) (Cert.SumAdamwOut.main (F := Bits))) ⟨m, fun _ => 0, g⟩ (fun r => (∀ c : Dev Cert.SumAdamwOut.nD,
      r.2.mem ((c.tc : Thread Cert.SumAdamwOut.nD Cert.SumAdamwOut.τ).loc Cert.SumAdamwOut.main_arg0) = m ((c.tc : Thread Cert.SumAdamwOut.nD Cert.SumAdamwOut.τ).loc Cert.SumAdamwOut.main_arg0)
      ∧ r.2.mem ((c.tc : Thread Cert.SumAdamwOut.nD Cert.SumAdamwOut.τ).loc Cert.SumAdamwOut.main_arg1) = m ((c.tc : Thread Cert.SumAdamwOut.nD Cert.SumAdamwOut.τ).loc Cert.SumAdamwOut.main_arg1)
      ∧ r.2.mem ((c.tc : Thread Cert.SumAdamwOut.nD Cert.SumAdamwOut.τ).loc Cert.SumAdamwOut.main_arg2) = m ((c.tc : Thread Cert.SumAdamwOut.nD Cert.SumAdamwOut.τ).loc Cert.SumAdamwOut.main_arg2)
      ∧ r.2.mem ((c.tc : Thread Cert.SumAdamwOut.nD Cert.SumAdamwOut.τ).loc Cert.SumAdamwOut.main_arg3) = m ((c.tc : Thread Cert.SumAdamwOut.nD Cert.SumAdamwOut.τ).loc Cert.SumAdamwOut.main_arg3)
      ∧ r.2.mem ((c.tc : Thread Cert.SumAdamwOut.nD Cert.SumAdamwOut.τ).loc Cert.SumAdamwOut.main_arg4) = m ((c.tc : Thread Cert.SumAdamwOut.nD Cert.SumAdamwOut.τ).loc Cert.SumAdamwOut.main_arg4))
      ∧ r.2.sem = fun _ => 0)

def quiescent_SumAdamwOutIdeal [hSumAdamwOutIdeal : Cert.SumAdamwOutIdeal.Facts] : Prop :=
  ∀ (m : (ℓ : Loc Cert.SumAdamwOutIdeal.nD Cert.SumAdamwOutIdeal.τ Cert.SumAdamwOutIdeal.sig) → Buf (Elt Ideal) ℓ) (g : Dev Cert.SumAdamwOutIdeal.nD → PrngReg), Pre_SumAdamwOutIdeal m →
    θ_run (Cert.SumAdamwOutIdeal.defs (F := Ideal)) (onTc (τ := Cert.SumAdamwOutIdeal.τ) (Cert.SumAdamwOutIdeal.main (F := Ideal))) ⟨m, fun _ => 0, g⟩ (fun r => (∀ c : Dev Cert.SumAdamwOutIdeal.nD,
      r.2.mem ((c.tc : Thread Cert.SumAdamwOutIdeal.nD Cert.SumAdamwOutIdeal.τ).loc Cert.SumAdamwOutIdeal.main_arg0) = m ((c.tc : Thread Cert.SumAdamwOutIdeal.nD Cert.SumAdamwOutIdeal.τ).loc Cert.SumAdamwOutIdeal.main_arg0)
      ∧ r.2.mem ((c.tc : Thread Cert.SumAdamwOutIdeal.nD Cert.SumAdamwOutIdeal.τ).loc Cert.SumAdamwOutIdeal.main_arg1) = m ((c.tc : Thread Cert.SumAdamwOutIdeal.nD Cert.SumAdamwOutIdeal.τ).loc Cert.SumAdamwOutIdeal.main_arg1)
      ∧ r.2.mem ((c.tc : Thread Cert.SumAdamwOutIdeal.nD Cert.SumAdamwOutIdeal.τ).loc Cert.SumAdamwOutIdeal.main_arg2) = m ((c.tc : Thread Cert.SumAdamwOutIdeal.nD Cert.SumAdamwOutIdeal.τ).loc Cert.SumAdamwOutIdeal.main_arg2)
      ∧ r.2.mem ((c.tc : Thread Cert.SumAdamwOutIdeal.nD Cert.SumAdamwOutIdeal.τ).loc Cert.SumAdamwOutIdeal.main_arg3) = m ((c.tc : Thread Cert.SumAdamwOutIdeal.nD Cert.SumAdamwOutIdeal.τ).loc Cert.SumAdamwOutIdeal.main_arg3)
      ∧ r.2.mem ((c.tc : Thread Cert.SumAdamwOutIdeal.nD Cert.SumAdamwOutIdeal.τ).loc Cert.SumAdamwOutIdeal.main_arg4) = m ((c.tc : Thread Cert.SumAdamwOutIdeal.nD Cert.SumAdamwOutIdeal.τ).loc Cert.SumAdamwOutIdeal.main_arg4))
      ∧ r.2.sem = fun _ => 0)

def quiescent_SumAdamwOutReferenceIdeal [hSumAdamwOutReferenceIdeal : Cert.SumAdamwOutReferenceIdeal.Facts] : Prop :=
  ∀ (m : (ℓ : Loc Cert.SumAdamwOutReferenceIdeal.nD Cert.SumAdamwOutReferenceIdeal.τ Cert.SumAdamwOutReferenceIdeal.sig) → Buf (Elt Ideal) ℓ) (g : Dev Cert.SumAdamwOutReferenceIdeal.nD → PrngReg), Pre_SumAdamwOutReferenceIdeal m →
    θ_run (Cert.SumAdamwOutReferenceIdeal.defs (F := Ideal)) (onTc (τ := Cert.SumAdamwOutReferenceIdeal.τ) (Cert.SumAdamwOutReferenceIdeal.main (F := Ideal))) ⟨m, fun _ => 0, g⟩ (fun r => (∀ c : Dev Cert.SumAdamwOutReferenceIdeal.nD,
      r.2.mem ((c.tc : Thread Cert.SumAdamwOutReferenceIdeal.nD Cert.SumAdamwOutReferenceIdeal.τ).loc Cert.SumAdamwOutReferenceIdeal.main_arg0) = m ((c.tc : Thread Cert.SumAdamwOutReferenceIdeal.nD Cert.SumAdamwOutReferenceIdeal.τ).loc Cert.SumAdamwOutReferenceIdeal.main_arg0)
      ∧ r.2.mem ((c.tc : Thread Cert.SumAdamwOutReferenceIdeal.nD Cert.SumAdamwOutReferenceIdeal.τ).loc Cert.SumAdamwOutReferenceIdeal.main_arg1) = m ((c.tc : Thread Cert.SumAdamwOutReferenceIdeal.nD Cert.SumAdamwOutReferenceIdeal.τ).loc Cert.SumAdamwOutReferenceIdeal.main_arg1)
      ∧ r.2.mem ((c.tc : Thread Cert.SumAdamwOutReferenceIdeal.nD Cert.SumAdamwOutReferenceIdeal.τ).loc Cert.SumAdamwOutReferenceIdeal.main_arg2) = m ((c.tc : Thread Cert.SumAdamwOutReferenceIdeal.nD Cert.SumAdamwOutReferenceIdeal.τ).loc Cert.SumAdamwOutReferenceIdeal.main_arg2)
      ∧ r.2.mem ((c.tc : Thread Cert.SumAdamwOutReferenceIdeal.nD Cert.SumAdamwOutReferenceIdeal.τ).loc Cert.SumAdamwOutReferenceIdeal.main_arg3) = m ((c.tc : Thread Cert.SumAdamwOutReferenceIdeal.nD Cert.SumAdamwOutReferenceIdeal.τ).loc Cert.SumAdamwOutReferenceIdeal.main_arg3)
      ∧ r.2.mem ((c.tc : Thread Cert.SumAdamwOutReferenceIdeal.nD Cert.SumAdamwOutReferenceIdeal.τ).loc Cert.SumAdamwOutReferenceIdeal.main_arg4) = m ((c.tc : Thread Cert.SumAdamwOutReferenceIdeal.nD Cert.SumAdamwOutReferenceIdeal.τ).loc Cert.SumAdamwOutReferenceIdeal.main_arg4))
      ∧ r.2.sem = fun _ => 0)

def quiescent_SumAdamwMlpIn [hSumAdamwMlpIn : Cert.SumAdamwMlpIn.Facts] : Prop :=
  ∀ (m : (ℓ : Loc Cert.SumAdamwMlpIn.nD Cert.SumAdamwMlpIn.τ Cert.SumAdamwMlpIn.sig) → Buf (Elt Bits) ℓ) (g : Dev Cert.SumAdamwMlpIn.nD → PrngReg), Pre_SumAdamwMlpIn m →
    θ_run (Cert.SumAdamwMlpIn.defs (F := Bits)) (onTc (τ := Cert.SumAdamwMlpIn.τ) (Cert.SumAdamwMlpIn.main (F := Bits))) ⟨m, fun _ => 0, g⟩ (fun r => (∀ c : Dev Cert.SumAdamwMlpIn.nD,
      r.2.mem ((c.tc : Thread Cert.SumAdamwMlpIn.nD Cert.SumAdamwMlpIn.τ).loc Cert.SumAdamwMlpIn.main_arg0) = m ((c.tc : Thread Cert.SumAdamwMlpIn.nD Cert.SumAdamwMlpIn.τ).loc Cert.SumAdamwMlpIn.main_arg0)
      ∧ r.2.mem ((c.tc : Thread Cert.SumAdamwMlpIn.nD Cert.SumAdamwMlpIn.τ).loc Cert.SumAdamwMlpIn.main_arg1) = m ((c.tc : Thread Cert.SumAdamwMlpIn.nD Cert.SumAdamwMlpIn.τ).loc Cert.SumAdamwMlpIn.main_arg1)
      ∧ r.2.mem ((c.tc : Thread Cert.SumAdamwMlpIn.nD Cert.SumAdamwMlpIn.τ).loc Cert.SumAdamwMlpIn.main_arg2) = m ((c.tc : Thread Cert.SumAdamwMlpIn.nD Cert.SumAdamwMlpIn.τ).loc Cert.SumAdamwMlpIn.main_arg2)
      ∧ r.2.mem ((c.tc : Thread Cert.SumAdamwMlpIn.nD Cert.SumAdamwMlpIn.τ).loc Cert.SumAdamwMlpIn.main_arg3) = m ((c.tc : Thread Cert.SumAdamwMlpIn.nD Cert.SumAdamwMlpIn.τ).loc Cert.SumAdamwMlpIn.main_arg3)
      ∧ r.2.mem ((c.tc : Thread Cert.SumAdamwMlpIn.nD Cert.SumAdamwMlpIn.τ).loc Cert.SumAdamwMlpIn.main_arg4) = m ((c.tc : Thread Cert.SumAdamwMlpIn.nD Cert.SumAdamwMlpIn.τ).loc Cert.SumAdamwMlpIn.main_arg4)
      ∧ r.2.mem ((c.tc : Thread Cert.SumAdamwMlpIn.nD Cert.SumAdamwMlpIn.τ).loc Cert.SumAdamwMlpIn.main_arg5) = m ((c.tc : Thread Cert.SumAdamwMlpIn.nD Cert.SumAdamwMlpIn.τ).loc Cert.SumAdamwMlpIn.main_arg5))
      ∧ r.2.sem = fun _ => 0)

def quiescent_SumAdamwMlpInIdeal [hSumAdamwMlpInIdeal : Cert.SumAdamwMlpInIdeal.Facts] : Prop :=
  ∀ (m : (ℓ : Loc Cert.SumAdamwMlpInIdeal.nD Cert.SumAdamwMlpInIdeal.τ Cert.SumAdamwMlpInIdeal.sig) → Buf (Elt Ideal) ℓ) (g : Dev Cert.SumAdamwMlpInIdeal.nD → PrngReg), Pre_SumAdamwMlpInIdeal m →
    θ_run (Cert.SumAdamwMlpInIdeal.defs (F := Ideal)) (onTc (τ := Cert.SumAdamwMlpInIdeal.τ) (Cert.SumAdamwMlpInIdeal.main (F := Ideal))) ⟨m, fun _ => 0, g⟩ (fun r => (∀ c : Dev Cert.SumAdamwMlpInIdeal.nD,
      r.2.mem ((c.tc : Thread Cert.SumAdamwMlpInIdeal.nD Cert.SumAdamwMlpInIdeal.τ).loc Cert.SumAdamwMlpInIdeal.main_arg0) = m ((c.tc : Thread Cert.SumAdamwMlpInIdeal.nD Cert.SumAdamwMlpInIdeal.τ).loc Cert.SumAdamwMlpInIdeal.main_arg0)
      ∧ r.2.mem ((c.tc : Thread Cert.SumAdamwMlpInIdeal.nD Cert.SumAdamwMlpInIdeal.τ).loc Cert.SumAdamwMlpInIdeal.main_arg1) = m ((c.tc : Thread Cert.SumAdamwMlpInIdeal.nD Cert.SumAdamwMlpInIdeal.τ).loc Cert.SumAdamwMlpInIdeal.main_arg1)
      ∧ r.2.mem ((c.tc : Thread Cert.SumAdamwMlpInIdeal.nD Cert.SumAdamwMlpInIdeal.τ).loc Cert.SumAdamwMlpInIdeal.main_arg2) = m ((c.tc : Thread Cert.SumAdamwMlpInIdeal.nD Cert.SumAdamwMlpInIdeal.τ).loc Cert.SumAdamwMlpInIdeal.main_arg2)
      ∧ r.2.mem ((c.tc : Thread Cert.SumAdamwMlpInIdeal.nD Cert.SumAdamwMlpInIdeal.τ).loc Cert.SumAdamwMlpInIdeal.main_arg3) = m ((c.tc : Thread Cert.SumAdamwMlpInIdeal.nD Cert.SumAdamwMlpInIdeal.τ).loc Cert.SumAdamwMlpInIdeal.main_arg3)
      ∧ r.2.mem ((c.tc : Thread Cert.SumAdamwMlpInIdeal.nD Cert.SumAdamwMlpInIdeal.τ).loc Cert.SumAdamwMlpInIdeal.main_arg4) = m ((c.tc : Thread Cert.SumAdamwMlpInIdeal.nD Cert.SumAdamwMlpInIdeal.τ).loc Cert.SumAdamwMlpInIdeal.main_arg4)
      ∧ r.2.mem ((c.tc : Thread Cert.SumAdamwMlpInIdeal.nD Cert.SumAdamwMlpInIdeal.τ).loc Cert.SumAdamwMlpInIdeal.main_arg5) = m ((c.tc : Thread Cert.SumAdamwMlpInIdeal.nD Cert.SumAdamwMlpInIdeal.τ).loc Cert.SumAdamwMlpInIdeal.main_arg5))
      ∧ r.2.sem = fun _ => 0)

def quiescent_SumAdamwMlpInReferenceIdeal [hSumAdamwMlpInReferenceIdeal : Cert.SumAdamwMlpInReferenceIdeal.Facts] : Prop :=
  ∀ (m : (ℓ : Loc Cert.SumAdamwMlpInReferenceIdeal.nD Cert.SumAdamwMlpInReferenceIdeal.τ Cert.SumAdamwMlpInReferenceIdeal.sig) → Buf (Elt Ideal) ℓ) (g : Dev Cert.SumAdamwMlpInReferenceIdeal.nD → PrngReg), Pre_SumAdamwMlpInReferenceIdeal m →
    θ_run (Cert.SumAdamwMlpInReferenceIdeal.defs (F := Ideal)) (onTc (τ := Cert.SumAdamwMlpInReferenceIdeal.τ) (Cert.SumAdamwMlpInReferenceIdeal.main (F := Ideal))) ⟨m, fun _ => 0, g⟩ (fun r => (∀ c : Dev Cert.SumAdamwMlpInReferenceIdeal.nD,
      r.2.mem ((c.tc : Thread Cert.SumAdamwMlpInReferenceIdeal.nD Cert.SumAdamwMlpInReferenceIdeal.τ).loc Cert.SumAdamwMlpInReferenceIdeal.main_arg0) = m ((c.tc : Thread Cert.SumAdamwMlpInReferenceIdeal.nD Cert.SumAdamwMlpInReferenceIdeal.τ).loc Cert.SumAdamwMlpInReferenceIdeal.main_arg0)
      ∧ r.2.mem ((c.tc : Thread Cert.SumAdamwMlpInReferenceIdeal.nD Cert.SumAdamwMlpInReferenceIdeal.τ).loc Cert.SumAdamwMlpInReferenceIdeal.main_arg1) = m ((c.tc : Thread Cert.SumAdamwMlpInReferenceIdeal.nD Cert.SumAdamwMlpInReferenceIdeal.τ).loc Cert.SumAdamwMlpInReferenceIdeal.main_arg1)
      ∧ r.2.mem ((c.tc : Thread Cert.SumAdamwMlpInReferenceIdeal.nD Cert.SumAdamwMlpInReferenceIdeal.τ).loc Cert.SumAdamwMlpInReferenceIdeal.main_arg2) = m ((c.tc : Thread Cert.SumAdamwMlpInReferenceIdeal.nD Cert.SumAdamwMlpInReferenceIdeal.τ).loc Cert.SumAdamwMlpInReferenceIdeal.main_arg2)
      ∧ r.2.mem ((c.tc : Thread Cert.SumAdamwMlpInReferenceIdeal.nD Cert.SumAdamwMlpInReferenceIdeal.τ).loc Cert.SumAdamwMlpInReferenceIdeal.main_arg3) = m ((c.tc : Thread Cert.SumAdamwMlpInReferenceIdeal.nD Cert.SumAdamwMlpInReferenceIdeal.τ).loc Cert.SumAdamwMlpInReferenceIdeal.main_arg3)
      ∧ r.2.mem ((c.tc : Thread Cert.SumAdamwMlpInReferenceIdeal.nD Cert.SumAdamwMlpInReferenceIdeal.τ).loc Cert.SumAdamwMlpInReferenceIdeal.main_arg4) = m ((c.tc : Thread Cert.SumAdamwMlpInReferenceIdeal.nD Cert.SumAdamwMlpInReferenceIdeal.τ).loc Cert.SumAdamwMlpInReferenceIdeal.main_arg4)
      ∧ r.2.mem ((c.tc : Thread Cert.SumAdamwMlpInReferenceIdeal.nD Cert.SumAdamwMlpInReferenceIdeal.τ).loc Cert.SumAdamwMlpInReferenceIdeal.main_arg5) = m ((c.tc : Thread Cert.SumAdamwMlpInReferenceIdeal.nD Cert.SumAdamwMlpInReferenceIdeal.τ).loc Cert.SumAdamwMlpInReferenceIdeal.main_arg5))
      ∧ r.2.sem = fun _ => 0)

def quiescent_SumAdamwMlpOut [hSumAdamwMlpOut : Cert.SumAdamwMlpOut.Facts] : Prop :=
  ∀ (m : (ℓ : Loc Cert.SumAdamwMlpOut.nD Cert.SumAdamwMlpOut.τ Cert.SumAdamwMlpOut.sig) → Buf (Elt Bits) ℓ) (g : Dev Cert.SumAdamwMlpOut.nD → PrngReg), Pre_SumAdamwMlpOut m →
    θ_run (Cert.SumAdamwMlpOut.defs (F := Bits)) (onTc (τ := Cert.SumAdamwMlpOut.τ) (Cert.SumAdamwMlpOut.main (F := Bits))) ⟨m, fun _ => 0, g⟩ (fun r => (∀ c : Dev Cert.SumAdamwMlpOut.nD,
      r.2.mem ((c.tc : Thread Cert.SumAdamwMlpOut.nD Cert.SumAdamwMlpOut.τ).loc Cert.SumAdamwMlpOut.main_arg0) = m ((c.tc : Thread Cert.SumAdamwMlpOut.nD Cert.SumAdamwMlpOut.τ).loc Cert.SumAdamwMlpOut.main_arg0)
      ∧ r.2.mem ((c.tc : Thread Cert.SumAdamwMlpOut.nD Cert.SumAdamwMlpOut.τ).loc Cert.SumAdamwMlpOut.main_arg1) = m ((c.tc : Thread Cert.SumAdamwMlpOut.nD Cert.SumAdamwMlpOut.τ).loc Cert.SumAdamwMlpOut.main_arg1)
      ∧ r.2.mem ((c.tc : Thread Cert.SumAdamwMlpOut.nD Cert.SumAdamwMlpOut.τ).loc Cert.SumAdamwMlpOut.main_arg2) = m ((c.tc : Thread Cert.SumAdamwMlpOut.nD Cert.SumAdamwMlpOut.τ).loc Cert.SumAdamwMlpOut.main_arg2)
      ∧ r.2.mem ((c.tc : Thread Cert.SumAdamwMlpOut.nD Cert.SumAdamwMlpOut.τ).loc Cert.SumAdamwMlpOut.main_arg3) = m ((c.tc : Thread Cert.SumAdamwMlpOut.nD Cert.SumAdamwMlpOut.τ).loc Cert.SumAdamwMlpOut.main_arg3)
      ∧ r.2.mem ((c.tc : Thread Cert.SumAdamwMlpOut.nD Cert.SumAdamwMlpOut.τ).loc Cert.SumAdamwMlpOut.main_arg4) = m ((c.tc : Thread Cert.SumAdamwMlpOut.nD Cert.SumAdamwMlpOut.τ).loc Cert.SumAdamwMlpOut.main_arg4)
      ∧ r.2.mem ((c.tc : Thread Cert.SumAdamwMlpOut.nD Cert.SumAdamwMlpOut.τ).loc Cert.SumAdamwMlpOut.main_arg5) = m ((c.tc : Thread Cert.SumAdamwMlpOut.nD Cert.SumAdamwMlpOut.τ).loc Cert.SumAdamwMlpOut.main_arg5))
      ∧ r.2.sem = fun _ => 0)

def quiescent_SumAdamwMlpOutIdeal [hSumAdamwMlpOutIdeal : Cert.SumAdamwMlpOutIdeal.Facts] : Prop :=
  ∀ (m : (ℓ : Loc Cert.SumAdamwMlpOutIdeal.nD Cert.SumAdamwMlpOutIdeal.τ Cert.SumAdamwMlpOutIdeal.sig) → Buf (Elt Ideal) ℓ) (g : Dev Cert.SumAdamwMlpOutIdeal.nD → PrngReg), Pre_SumAdamwMlpOutIdeal m →
    θ_run (Cert.SumAdamwMlpOutIdeal.defs (F := Ideal)) (onTc (τ := Cert.SumAdamwMlpOutIdeal.τ) (Cert.SumAdamwMlpOutIdeal.main (F := Ideal))) ⟨m, fun _ => 0, g⟩ (fun r => (∀ c : Dev Cert.SumAdamwMlpOutIdeal.nD,
      r.2.mem ((c.tc : Thread Cert.SumAdamwMlpOutIdeal.nD Cert.SumAdamwMlpOutIdeal.τ).loc Cert.SumAdamwMlpOutIdeal.main_arg0) = m ((c.tc : Thread Cert.SumAdamwMlpOutIdeal.nD Cert.SumAdamwMlpOutIdeal.τ).loc Cert.SumAdamwMlpOutIdeal.main_arg0)
      ∧ r.2.mem ((c.tc : Thread Cert.SumAdamwMlpOutIdeal.nD Cert.SumAdamwMlpOutIdeal.τ).loc Cert.SumAdamwMlpOutIdeal.main_arg1) = m ((c.tc : Thread Cert.SumAdamwMlpOutIdeal.nD Cert.SumAdamwMlpOutIdeal.τ).loc Cert.SumAdamwMlpOutIdeal.main_arg1)
      ∧ r.2.mem ((c.tc : Thread Cert.SumAdamwMlpOutIdeal.nD Cert.SumAdamwMlpOutIdeal.τ).loc Cert.SumAdamwMlpOutIdeal.main_arg2) = m ((c.tc : Thread Cert.SumAdamwMlpOutIdeal.nD Cert.SumAdamwMlpOutIdeal.τ).loc Cert.SumAdamwMlpOutIdeal.main_arg2)
      ∧ r.2.mem ((c.tc : Thread Cert.SumAdamwMlpOutIdeal.nD Cert.SumAdamwMlpOutIdeal.τ).loc Cert.SumAdamwMlpOutIdeal.main_arg3) = m ((c.tc : Thread Cert.SumAdamwMlpOutIdeal.nD Cert.SumAdamwMlpOutIdeal.τ).loc Cert.SumAdamwMlpOutIdeal.main_arg3)
      ∧ r.2.mem ((c.tc : Thread Cert.SumAdamwMlpOutIdeal.nD Cert.SumAdamwMlpOutIdeal.τ).loc Cert.SumAdamwMlpOutIdeal.main_arg4) = m ((c.tc : Thread Cert.SumAdamwMlpOutIdeal.nD Cert.SumAdamwMlpOutIdeal.τ).loc Cert.SumAdamwMlpOutIdeal.main_arg4)
      ∧ r.2.mem ((c.tc : Thread Cert.SumAdamwMlpOutIdeal.nD Cert.SumAdamwMlpOutIdeal.τ).loc Cert.SumAdamwMlpOutIdeal.main_arg5) = m ((c.tc : Thread Cert.SumAdamwMlpOutIdeal.nD Cert.SumAdamwMlpOutIdeal.τ).loc Cert.SumAdamwMlpOutIdeal.main_arg5))
      ∧ r.2.sem = fun _ => 0)

def quiescent_SumAdamwMlpOutReferenceIdeal [hSumAdamwMlpOutReferenceIdeal : Cert.SumAdamwMlpOutReferenceIdeal.Facts] : Prop :=
  ∀ (m : (ℓ : Loc Cert.SumAdamwMlpOutReferenceIdeal.nD Cert.SumAdamwMlpOutReferenceIdeal.τ Cert.SumAdamwMlpOutReferenceIdeal.sig) → Buf (Elt Ideal) ℓ) (g : Dev Cert.SumAdamwMlpOutReferenceIdeal.nD → PrngReg), Pre_SumAdamwMlpOutReferenceIdeal m →
    θ_run (Cert.SumAdamwMlpOutReferenceIdeal.defs (F := Ideal)) (onTc (τ := Cert.SumAdamwMlpOutReferenceIdeal.τ) (Cert.SumAdamwMlpOutReferenceIdeal.main (F := Ideal))) ⟨m, fun _ => 0, g⟩ (fun r => (∀ c : Dev Cert.SumAdamwMlpOutReferenceIdeal.nD,
      r.2.mem ((c.tc : Thread Cert.SumAdamwMlpOutReferenceIdeal.nD Cert.SumAdamwMlpOutReferenceIdeal.τ).loc Cert.SumAdamwMlpOutReferenceIdeal.main_arg0) = m ((c.tc : Thread Cert.SumAdamwMlpOutReferenceIdeal.nD Cert.SumAdamwMlpOutReferenceIdeal.τ).loc Cert.SumAdamwMlpOutReferenceIdeal.main_arg0)
      ∧ r.2.mem ((c.tc : Thread Cert.SumAdamwMlpOutReferenceIdeal.nD Cert.SumAdamwMlpOutReferenceIdeal.τ).loc Cert.SumAdamwMlpOutReferenceIdeal.main_arg1) = m ((c.tc : Thread Cert.SumAdamwMlpOutReferenceIdeal.nD Cert.SumAdamwMlpOutReferenceIdeal.τ).loc Cert.SumAdamwMlpOutReferenceIdeal.main_arg1)
      ∧ r.2.mem ((c.tc : Thread Cert.SumAdamwMlpOutReferenceIdeal.nD Cert.SumAdamwMlpOutReferenceIdeal.τ).loc Cert.SumAdamwMlpOutReferenceIdeal.main_arg2) = m ((c.tc : Thread Cert.SumAdamwMlpOutReferenceIdeal.nD Cert.SumAdamwMlpOutReferenceIdeal.τ).loc Cert.SumAdamwMlpOutReferenceIdeal.main_arg2)
      ∧ r.2.mem ((c.tc : Thread Cert.SumAdamwMlpOutReferenceIdeal.nD Cert.SumAdamwMlpOutReferenceIdeal.τ).loc Cert.SumAdamwMlpOutReferenceIdeal.main_arg3) = m ((c.tc : Thread Cert.SumAdamwMlpOutReferenceIdeal.nD Cert.SumAdamwMlpOutReferenceIdeal.τ).loc Cert.SumAdamwMlpOutReferenceIdeal.main_arg3)
      ∧ r.2.mem ((c.tc : Thread Cert.SumAdamwMlpOutReferenceIdeal.nD Cert.SumAdamwMlpOutReferenceIdeal.τ).loc Cert.SumAdamwMlpOutReferenceIdeal.main_arg4) = m ((c.tc : Thread Cert.SumAdamwMlpOutReferenceIdeal.nD Cert.SumAdamwMlpOutReferenceIdeal.τ).loc Cert.SumAdamwMlpOutReferenceIdeal.main_arg4)
      ∧ r.2.mem ((c.tc : Thread Cert.SumAdamwMlpOutReferenceIdeal.nD Cert.SumAdamwMlpOutReferenceIdeal.τ).loc Cert.SumAdamwMlpOutReferenceIdeal.main_arg5) = m ((c.tc : Thread Cert.SumAdamwMlpOutReferenceIdeal.nD Cert.SumAdamwMlpOutReferenceIdeal.τ).loc Cert.SumAdamwMlpOutReferenceIdeal.main_arg5))
      ∧ r.2.sem = fun _ => 0)

def preserves_MlpOutDx_MlpOutDxIdeal : Prop :=
  True

def algebraic_MlpOutDxIdeal_MlpOutDxReferenceIdeal [hMlpOutDxIdeal : Cert.MlpOutDxIdeal.Facts] [hMlpOutDxReferenceIdeal : Cert.MlpOutDxReferenceIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.MlpOutDxReferenceIdeal.nD Cert.MlpOutDxReferenceIdeal.τ Cert.MlpOutDxReferenceIdeal.sig) → Buf (Elt Ideal) ℓ) (g' : Dev Cert.MlpOutDxReferenceIdeal.nD → PrngReg), Pre_MlpOutDxIdeal m →
    (∀ c : Dev Cert.MlpOutDxIdeal.nD,
      m' ((c.tc : Thread Cert.MlpOutDxReferenceIdeal.nD Cert.MlpOutDxReferenceIdeal.τ).loc Cert.MlpOutDxReferenceIdeal.main_arg0) = m ((c.tc : Thread Cert.MlpOutDxIdeal.nD Cert.MlpOutDxIdeal.τ).loc Cert.MlpOutDxIdeal.main_arg0)
      ∧ m' ((c.tc : Thread Cert.MlpOutDxReferenceIdeal.nD Cert.MlpOutDxReferenceIdeal.τ).loc Cert.MlpOutDxReferenceIdeal.main_arg1) = m ((c.tc : Thread Cert.MlpOutDxIdeal.nD Cert.MlpOutDxIdeal.τ).loc Cert.MlpOutDxIdeal.main_arg1)
      ∧ m' ((c.tc : Thread Cert.MlpOutDxReferenceIdeal.nD Cert.MlpOutDxReferenceIdeal.τ).loc Cert.MlpOutDxReferenceIdeal.main_arg2) = m ((c.tc : Thread Cert.MlpOutDxIdeal.nD Cert.MlpOutDxIdeal.τ).loc Cert.MlpOutDxIdeal.main_arg2)
      ∧ m' ((c.tc : Thread Cert.MlpOutDxReferenceIdeal.nD Cert.MlpOutDxReferenceIdeal.τ).loc Cert.MlpOutDxReferenceIdeal.main_arg3) = m ((c.tc : Thread Cert.MlpOutDxIdeal.nD Cert.MlpOutDxIdeal.τ).loc Cert.MlpOutDxIdeal.main_arg3)) →
    ∃ (v0 : (c : Dev Cert.MlpOutDxIdeal.nD) → Buf (Elt Ideal) ((c.tc : Thread Cert.MlpOutDxIdeal.nD Cert.MlpOutDxIdeal.τ).loc Cert.MlpOutDxIdeal.main_v6)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v6) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2)
          ∧ r.2.mem ((c.tc : Thread Cert.MlpOutDxIdeal.nD Cert.MlpOutDxIdeal.τ).loc Cert.MlpOutDxIdeal.main_arg3) = m ((c.tc : Thread Cert.MlpOutDxIdeal.nD Cert.MlpOutDxIdeal.τ).loc Cert.MlpOutDxIdeal.main_arg3))
      ∧ θ_run (Cert.MlpOutDxReferenceIdeal.defs (F := Ideal)) (onTc (τ := Cert.MlpOutDxReferenceIdeal.τ) (Cert.MlpOutDxReferenceIdeal.main (F := Ideal))) ⟨m', fun _ => 0, g'⟩ (fun r => ∀ c : Dev Cert.MlpOutDxReferenceIdeal.nD,
          r.2.mem ((c.tc : Thread Cert.MlpOutDxReferenceIdeal.nD Cert.MlpOutDxReferenceIdeal.τ).loc Cert.MlpOutDxReferenceIdeal.main_v18) = v0 c
          ∧ r.2.mem ((c.tc : Thread Cert.MlpOutDxReferenceIdeal.nD Cert.MlpOutDxReferenceIdeal.τ).loc Cert.MlpOutDxReferenceIdeal.main_arg0) = m' ((c.tc : Thread Cert.MlpOutDxReferenceIdeal.nD Cert.MlpOutDxReferenceIdeal.τ).loc Cert.MlpOutDxReferenceIdeal.main_arg0)
          ∧ r.2.mem ((c.tc : Thread Cert.MlpOutDxReferenceIdeal.nD Cert.MlpOutDxReferenceIdeal.τ).loc Cert.MlpOutDxReferenceIdeal.main_arg1) = m' ((c.tc : Thread Cert.MlpOutDxReferenceIdeal.nD Cert.MlpOutDxReferenceIdeal.τ).loc Cert.MlpOutDxReferenceIdeal.main_arg1)
          ∧ r.2.mem ((c.tc : Thread Cert.MlpOutDxReferenceIdeal.nD Cert.MlpOutDxReferenceIdeal.τ).loc Cert.MlpOutDxReferenceIdeal.main_arg2) = m' ((c.tc : Thread Cert.MlpOutDxReferenceIdeal.nD Cert.MlpOutDxReferenceIdeal.τ).loc Cert.MlpOutDxReferenceIdeal.main_arg2)
          ∧ r.2.mem ((c.tc : Thread Cert.MlpOutDxReferenceIdeal.nD Cert.MlpOutDxReferenceIdeal.τ).loc Cert.MlpOutDxReferenceIdeal.main_arg3) = m' ((c.tc : Thread Cert.MlpOutDxReferenceIdeal.nD Cert.MlpOutDxReferenceIdeal.τ).loc Cert.MlpOutDxReferenceIdeal.main_arg3))

def preserves_OutProjDx_OutProjDxIdeal : Prop :=
  True

def algebraic_OutProjDxIdeal_OutProjDxReferenceIdeal [hOutProjDxIdeal : Cert.OutProjDxIdeal.Facts] [hOutProjDxReferenceIdeal : Cert.OutProjDxReferenceIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxReferenceIdeal.nD Cert.OutProjDxReferenceIdeal.τ Cert.OutProjDxReferenceIdeal.sig) → Buf (Elt Ideal) ℓ) (g' : Dev Cert.OutProjDxReferenceIdeal.nD → PrngReg), Pre_OutProjDxIdeal m →
    (∀ c : Dev Cert.OutProjDxIdeal.nD,
      m' ((c.tc : Thread Cert.OutProjDxReferenceIdeal.nD Cert.OutProjDxReferenceIdeal.τ).loc Cert.OutProjDxReferenceIdeal.main_arg0) = m ((c.tc : Thread Cert.OutProjDxIdeal.nD Cert.OutProjDxIdeal.τ).loc Cert.OutProjDxIdeal.main_arg0)
      ∧ m' ((c.tc : Thread Cert.OutProjDxReferenceIdeal.nD Cert.OutProjDxReferenceIdeal.τ).loc Cert.OutProjDxReferenceIdeal.main_arg1) = m ((c.tc : Thread Cert.OutProjDxIdeal.nD Cert.OutProjDxIdeal.τ).loc Cert.OutProjDxIdeal.main_arg1)
      ∧ m' ((c.tc : Thread Cert.OutProjDxReferenceIdeal.nD Cert.OutProjDxReferenceIdeal.τ).loc Cert.OutProjDxReferenceIdeal.main_arg2) = m ((c.tc : Thread Cert.OutProjDxIdeal.nD Cert.OutProjDxIdeal.τ).loc Cert.OutProjDxIdeal.main_arg2)
      ∧ m' ((c.tc : Thread Cert.OutProjDxReferenceIdeal.nD Cert.OutProjDxReferenceIdeal.τ).loc Cert.OutProjDxReferenceIdeal.main_arg3) = m ((c.tc : Thread Cert.OutProjDxIdeal.nD Cert.OutProjDxIdeal.τ).loc Cert.OutProjDxIdeal.main_arg3)
      ∧ m' ((c.tc : Thread Cert.OutProjDxReferenceIdeal.nD Cert.OutProjDxReferenceIdeal.τ).loc Cert.OutProjDxReferenceIdeal.main_arg4) = m ((c.tc : Thread Cert.OutProjDxIdeal.nD Cert.OutProjDxIdeal.τ).loc Cert.OutProjDxIdeal.main_arg4)) →
    ∃ (v0 : (c : Dev Cert.OutProjDxIdeal.nD) → Buf (Elt Ideal) ((c.tc : Thread Cert.OutProjDxIdeal.nD Cert.OutProjDxIdeal.τ).loc Cert.OutProjDxIdeal.main_v0_0)) (v1 : (c : Dev Cert.OutProjDxIdeal.nD) → Buf (Elt Ideal) ((c.tc : Thread Cert.OutProjDxIdeal.nD Cert.OutProjDxIdeal.τ).loc Cert.OutProjDxIdeal.main_v0_1)) (v2 : (c : Dev Cert.OutProjDxIdeal.nD) → Buf (Elt Ideal) ((c.tc : Thread Cert.OutProjDxIdeal.nD Cert.OutProjDxIdeal.τ).loc Cert.OutProjDxIdeal.main_v0_2)) (v3 : (c : Dev Cert.OutProjDxIdeal.nD) → Buf (Elt Ideal) ((c.tc : Thread Cert.OutProjDxIdeal.nD Cert.OutProjDxIdeal.τ).loc Cert.OutProjDxIdeal.main_v0_3)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0_0) = v0 c
          ∧ r.2.mem ((c.tc : Thread Cert.OutProjDxIdeal.nD Cert.OutProjDxIdeal.τ).loc Cert.OutProjDxIdeal.main_v0_1) = v1 c
          ∧ r.2.mem ((c.tc : Thread Cert.OutProjDxIdeal.nD Cert.OutProjDxIdeal.τ).loc Cert.OutProjDxIdeal.main_v0_2) = v2 c
          ∧ r.2.mem ((c.tc : Thread Cert.OutProjDxIdeal.nD Cert.OutProjDxIdeal.τ).loc Cert.OutProjDxIdeal.main_v0_3) = v3 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2)
          ∧ r.2.mem ((c.tc : Thread Cert.OutProjDxIdeal.nD Cert.OutProjDxIdeal.τ).loc Cert.OutProjDxIdeal.main_arg3) = m ((c.tc : Thread Cert.OutProjDxIdeal.nD Cert.OutProjDxIdeal.τ).loc Cert.OutProjDxIdeal.main_arg3)
          ∧ r.2.mem ((c.tc : Thread Cert.OutProjDxIdeal.nD Cert.OutProjDxIdeal.τ).loc Cert.OutProjDxIdeal.main_arg4) = m ((c.tc : Thread Cert.OutProjDxIdeal.nD Cert.OutProjDxIdeal.τ).loc Cert.OutProjDxIdeal.main_arg4))
      ∧ θ_run (Cert.OutProjDxReferenceIdeal.defs (F := Ideal)) (onTc (τ := Cert.OutProjDxReferenceIdeal.τ) (Cert.OutProjDxReferenceIdeal.main (F := Ideal))) ⟨m', fun _ => 0, g'⟩ (fun r => ∀ c : Dev Cert.OutProjDxReferenceIdeal.nD,
          r.2.mem ((c.tc : Thread Cert.OutProjDxReferenceIdeal.nD Cert.OutProjDxReferenceIdeal.τ).loc Cert.OutProjDxReferenceIdeal.main_v35) = v0 c
          ∧ r.2.mem ((c.tc : Thread Cert.OutProjDxReferenceIdeal.nD Cert.OutProjDxReferenceIdeal.τ).loc Cert.OutProjDxReferenceIdeal.main_v36) = v1 c
          ∧ r.2.mem ((c.tc : Thread Cert.OutProjDxReferenceIdeal.nD Cert.OutProjDxReferenceIdeal.τ).loc Cert.OutProjDxReferenceIdeal.main_v37) = v2 c
          ∧ r.2.mem ((c.tc : Thread Cert.OutProjDxReferenceIdeal.nD Cert.OutProjDxReferenceIdeal.τ).loc Cert.OutProjDxReferenceIdeal.main_v38) = v3 c
          ∧ r.2.mem ((c.tc : Thread Cert.OutProjDxReferenceIdeal.nD Cert.OutProjDxReferenceIdeal.τ).loc Cert.OutProjDxReferenceIdeal.main_arg0) = m' ((c.tc : Thread Cert.OutProjDxReferenceIdeal.nD Cert.OutProjDxReferenceIdeal.τ).loc Cert.OutProjDxReferenceIdeal.main_arg0)
          ∧ r.2.mem ((c.tc : Thread Cert.OutProjDxReferenceIdeal.nD Cert.OutProjDxReferenceIdeal.τ).loc Cert.OutProjDxReferenceIdeal.main_arg1) = m' ((c.tc : Thread Cert.OutProjDxReferenceIdeal.nD Cert.OutProjDxReferenceIdeal.τ).loc Cert.OutProjDxReferenceIdeal.main_arg1)
          ∧ r.2.mem ((c.tc : Thread Cert.OutProjDxReferenceIdeal.nD Cert.OutProjDxReferenceIdeal.τ).loc Cert.OutProjDxReferenceIdeal.main_arg2) = m' ((c.tc : Thread Cert.OutProjDxReferenceIdeal.nD Cert.OutProjDxReferenceIdeal.τ).loc Cert.OutProjDxReferenceIdeal.main_arg2)
          ∧ r.2.mem ((c.tc : Thread Cert.OutProjDxReferenceIdeal.nD Cert.OutProjDxReferenceIdeal.τ).loc Cert.OutProjDxReferenceIdeal.main_arg3) = m' ((c.tc : Thread Cert.OutProjDxReferenceIdeal.nD Cert.OutProjDxReferenceIdeal.τ).loc Cert.OutProjDxReferenceIdeal.main_arg3)
          ∧ r.2.mem ((c.tc : Thread Cert.OutProjDxReferenceIdeal.nD Cert.OutProjDxReferenceIdeal.τ).loc Cert.OutProjDxReferenceIdeal.main_arg4) = m' ((c.tc : Thread Cert.OutProjDxReferenceIdeal.nD Cert.OutProjDxReferenceIdeal.τ).loc Cert.OutProjDxReferenceIdeal.main_arg4))

def preserves_MlpOutDw_MlpOutDwIdeal : Prop :=
  True

def algebraic_MlpOutDwIdeal_MlpOutDwReferenceIdeal [hMlpOutDwIdeal : Cert.MlpOutDwIdeal.Facts] [hMlpOutDwReferenceIdeal : Cert.MlpOutDwReferenceIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.MlpOutDwReferenceIdeal.nD Cert.MlpOutDwReferenceIdeal.τ Cert.MlpOutDwReferenceIdeal.sig) → Buf (Elt Ideal) ℓ) (g' : Dev Cert.MlpOutDwReferenceIdeal.nD → PrngReg), Pre_MlpOutDwIdeal m →
    (∀ c : Dev Cert.MlpOutDwIdeal.nD,
      m' ((c.tc : Thread Cert.MlpOutDwReferenceIdeal.nD Cert.MlpOutDwReferenceIdeal.τ).loc Cert.MlpOutDwReferenceIdeal.main_arg0) = m ((c.tc : Thread Cert.MlpOutDwIdeal.nD Cert.MlpOutDwIdeal.τ).loc Cert.MlpOutDwIdeal.main_arg0)
      ∧ m' ((c.tc : Thread Cert.MlpOutDwReferenceIdeal.nD Cert.MlpOutDwReferenceIdeal.τ).loc Cert.MlpOutDwReferenceIdeal.main_arg1) = m ((c.tc : Thread Cert.MlpOutDwIdeal.nD Cert.MlpOutDwIdeal.τ).loc Cert.MlpOutDwIdeal.main_arg1)) →
    ∃ (v0 : (c : Dev Cert.MlpOutDwIdeal.nD) → Buf (Elt Ideal) ((c.tc : Thread Cert.MlpOutDwIdeal.nD Cert.MlpOutDwIdeal.τ).loc Cert.MlpOutDwIdeal.main_v0)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v0) = v0 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ θ_run (Cert.MlpOutDwReferenceIdeal.defs (F := Ideal)) (onTc (τ := Cert.MlpOutDwReferenceIdeal.τ) (Cert.MlpOutDwReferenceIdeal.main (F := Ideal))) ⟨m', fun _ => 0, g'⟩ (fun r => ∀ c : Dev Cert.MlpOutDwReferenceIdeal.nD,
          r.2.mem ((c.tc : Thread Cert.MlpOutDwReferenceIdeal.nD Cert.MlpOutDwReferenceIdeal.τ).loc Cert.MlpOutDwReferenceIdeal.main_v6) = v0 c
          ∧ r.2.mem ((c.tc : Thread Cert.MlpOutDwReferenceIdeal.nD Cert.MlpOutDwReferenceIdeal.τ).loc Cert.MlpOutDwReferenceIdeal.main_arg0) = m' ((c.tc : Thread Cert.MlpOutDwReferenceIdeal.nD Cert.MlpOutDwReferenceIdeal.τ).loc Cert.MlpOutDwReferenceIdeal.main_arg0)
          ∧ r.2.mem ((c.tc : Thread Cert.MlpOutDwReferenceIdeal.nD Cert.MlpOutDwReferenceIdeal.τ).loc Cert.MlpOutDwReferenceIdeal.main_arg1) = m' ((c.tc : Thread Cert.MlpOutDwReferenceIdeal.nD Cert.MlpOutDwReferenceIdeal.τ).loc Cert.MlpOutDwReferenceIdeal.main_arg1))

def preserves_MlpInDx_MlpInDxIdeal : Prop :=
  True

def algebraic_MlpInDxIdeal_MlpInDxReferenceIdeal [hMlpInDxIdeal : Cert.MlpInDxIdeal.Facts] [hMlpInDxReferenceIdeal : Cert.MlpInDxReferenceIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.MlpInDxReferenceIdeal.nD Cert.MlpInDxReferenceIdeal.τ Cert.MlpInDxReferenceIdeal.sig) → Buf (Elt Ideal) ℓ) (g' : Dev Cert.MlpInDxReferenceIdeal.nD → PrngReg), Pre_MlpInDxIdeal m →
    (∀ c : Dev Cert.MlpInDxIdeal.nD,
      m' ((c.tc : Thread Cert.MlpInDxReferenceIdeal.nD Cert.MlpInDxReferenceIdeal.τ).loc Cert.MlpInDxReferenceIdeal.main_arg0) = m ((c.tc : Thread Cert.MlpInDxIdeal.nD Cert.MlpInDxIdeal.τ).loc Cert.MlpInDxIdeal.main_arg0)
      ∧ m' ((c.tc : Thread Cert.MlpInDxReferenceIdeal.nD Cert.MlpInDxReferenceIdeal.τ).loc Cert.MlpInDxReferenceIdeal.main_arg1) = m ((c.tc : Thread Cert.MlpInDxIdeal.nD Cert.MlpInDxIdeal.τ).loc Cert.MlpInDxIdeal.main_arg1)) →
    ∃ (v0 : (c : Dev Cert.MlpInDxIdeal.nD) → Buf (Elt Ideal) ((c.tc : Thread Cert.MlpInDxIdeal.nD Cert.MlpInDxIdeal.τ).loc Cert.MlpInDxIdeal.main_v0)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v0) = v0 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ θ_run (Cert.MlpInDxReferenceIdeal.defs (F := Ideal)) (onTc (τ := Cert.MlpInDxReferenceIdeal.τ) (Cert.MlpInDxReferenceIdeal.main (F := Ideal))) ⟨m', fun _ => 0, g'⟩ (fun r => ∀ c : Dev Cert.MlpInDxReferenceIdeal.nD,
          r.2.mem ((c.tc : Thread Cert.MlpInDxReferenceIdeal.nD Cert.MlpInDxReferenceIdeal.τ).loc Cert.MlpInDxReferenceIdeal.main_v5) = v0 c
          ∧ r.2.mem ((c.tc : Thread Cert.MlpInDxReferenceIdeal.nD Cert.MlpInDxReferenceIdeal.τ).loc Cert.MlpInDxReferenceIdeal.main_arg0) = m' ((c.tc : Thread Cert.MlpInDxReferenceIdeal.nD Cert.MlpInDxReferenceIdeal.τ).loc Cert.MlpInDxReferenceIdeal.main_arg0)
          ∧ r.2.mem ((c.tc : Thread Cert.MlpInDxReferenceIdeal.nD Cert.MlpInDxReferenceIdeal.τ).loc Cert.MlpInDxReferenceIdeal.main_arg1) = m' ((c.tc : Thread Cert.MlpInDxReferenceIdeal.nD Cert.MlpInDxReferenceIdeal.τ).loc Cert.MlpInDxReferenceIdeal.main_arg1))

def preserves_MlpInDw_MlpInDwIdeal : Prop :=
  True

def algebraic_MlpInDwIdeal_MlpInDwReferenceIdeal [hMlpInDwIdeal : Cert.MlpInDwIdeal.Facts] [hMlpInDwReferenceIdeal : Cert.MlpInDwReferenceIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.MlpInDwReferenceIdeal.nD Cert.MlpInDwReferenceIdeal.τ Cert.MlpInDwReferenceIdeal.sig) → Buf (Elt Ideal) ℓ) (g' : Dev Cert.MlpInDwReferenceIdeal.nD → PrngReg), Pre_MlpInDwIdeal m →
    (∀ c : Dev Cert.MlpInDwIdeal.nD,
      m' ((c.tc : Thread Cert.MlpInDwReferenceIdeal.nD Cert.MlpInDwReferenceIdeal.τ).loc Cert.MlpInDwReferenceIdeal.main_arg0) = m ((c.tc : Thread Cert.MlpInDwIdeal.nD Cert.MlpInDwIdeal.τ).loc Cert.MlpInDwIdeal.main_arg0)
      ∧ m' ((c.tc : Thread Cert.MlpInDwReferenceIdeal.nD Cert.MlpInDwReferenceIdeal.τ).loc Cert.MlpInDwReferenceIdeal.main_arg1) = m ((c.tc : Thread Cert.MlpInDwIdeal.nD Cert.MlpInDwIdeal.τ).loc Cert.MlpInDwIdeal.main_arg1)) →
    ∃ (v0 : (c : Dev Cert.MlpInDwIdeal.nD) → Buf (Elt Ideal) ((c.tc : Thread Cert.MlpInDwIdeal.nD Cert.MlpInDwIdeal.τ).loc Cert.MlpInDwIdeal.main_v0)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0) = v0 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ θ_run (Cert.MlpInDwReferenceIdeal.defs (F := Ideal)) (onTc (τ := Cert.MlpInDwReferenceIdeal.τ) (Cert.MlpInDwReferenceIdeal.main (F := Ideal))) ⟨m', fun _ => 0, g'⟩ (fun r => ∀ c : Dev Cert.MlpInDwReferenceIdeal.nD,
          r.2.mem ((c.tc : Thread Cert.MlpInDwReferenceIdeal.nD Cert.MlpInDwReferenceIdeal.τ).loc Cert.MlpInDwReferenceIdeal.main_v8) = v0 c
          ∧ r.2.mem ((c.tc : Thread Cert.MlpInDwReferenceIdeal.nD Cert.MlpInDwReferenceIdeal.τ).loc Cert.MlpInDwReferenceIdeal.main_arg0) = m' ((c.tc : Thread Cert.MlpInDwReferenceIdeal.nD Cert.MlpInDwReferenceIdeal.τ).loc Cert.MlpInDwReferenceIdeal.main_arg0)
          ∧ r.2.mem ((c.tc : Thread Cert.MlpInDwReferenceIdeal.nD Cert.MlpInDwReferenceIdeal.τ).loc Cert.MlpInDwReferenceIdeal.main_arg1) = m' ((c.tc : Thread Cert.MlpInDwReferenceIdeal.nD Cert.MlpInDwReferenceIdeal.τ).loc Cert.MlpInDwReferenceIdeal.main_arg1))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v6) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1))

def preserves_BranchDx_BranchDxIdeal : Prop :=
  True

def algebraic_BranchDxIdeal_BranchDxReferenceIdeal [hBranchDxIdeal : Cert.BranchDxIdeal.Facts] [hBranchDxReferenceIdeal : Cert.BranchDxReferenceIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxReferenceIdeal.nD Cert.BranchDxReferenceIdeal.τ Cert.BranchDxReferenceIdeal.sig) → Buf (Elt Ideal) ℓ) (g' : Dev Cert.BranchDxReferenceIdeal.nD → PrngReg), Pre_BranchDxIdeal m →
    (∀ c : Dev Cert.BranchDxIdeal.nD,
      m' ((c.tc : Thread Cert.BranchDxReferenceIdeal.nD Cert.BranchDxReferenceIdeal.τ).loc Cert.BranchDxReferenceIdeal.main_arg0) = m ((c.tc : Thread Cert.BranchDxIdeal.nD Cert.BranchDxIdeal.τ).loc Cert.BranchDxIdeal.main_arg0)
      ∧ m' ((c.tc : Thread Cert.BranchDxReferenceIdeal.nD Cert.BranchDxReferenceIdeal.τ).loc Cert.BranchDxReferenceIdeal.main_arg1) = m ((c.tc : Thread Cert.BranchDxIdeal.nD Cert.BranchDxIdeal.τ).loc Cert.BranchDxIdeal.main_arg1)
      ∧ m' ((c.tc : Thread Cert.BranchDxReferenceIdeal.nD Cert.BranchDxReferenceIdeal.τ).loc Cert.BranchDxReferenceIdeal.main_arg2) = m ((c.tc : Thread Cert.BranchDxIdeal.nD Cert.BranchDxIdeal.τ).loc Cert.BranchDxIdeal.main_arg2)
      ∧ m' ((c.tc : Thread Cert.BranchDxReferenceIdeal.nD Cert.BranchDxReferenceIdeal.τ).loc Cert.BranchDxReferenceIdeal.main_arg3) = m ((c.tc : Thread Cert.BranchDxIdeal.nD Cert.BranchDxIdeal.τ).loc Cert.BranchDxIdeal.main_arg3)) →
    ∃ (v0 : (c : Dev Cert.BranchDxIdeal.nD) → Buf (Elt Ideal) ((c.tc : Thread Cert.BranchDxIdeal.nD Cert.BranchDxIdeal.τ).loc Cert.BranchDxIdeal.main_v0_0)) (v1 : (c : Dev Cert.BranchDxIdeal.nD) → Buf (Elt Ideal) ((c.tc : Thread Cert.BranchDxIdeal.nD Cert.BranchDxIdeal.τ).loc Cert.BranchDxIdeal.main_v0_1)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0_0) = v0 c
          ∧ r.2.mem ((c.tc : Thread Cert.BranchDxIdeal.nD Cert.BranchDxIdeal.τ).loc Cert.BranchDxIdeal.main_v0_1) = v1 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
          ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2)
          ∧ r.2.mem ((c.tc : Thread Cert.BranchDxIdeal.nD Cert.BranchDxIdeal.τ).loc Cert.BranchDxIdeal.main_arg3) = m ((c.tc : Thread Cert.BranchDxIdeal.nD Cert.BranchDxIdeal.τ).loc Cert.BranchDxIdeal.main_arg3))
      ∧ θ_run (Cert.BranchDxReferenceIdeal.defs (F := Ideal)) (onTc (τ := Cert.BranchDxReferenceIdeal.τ) (Cert.BranchDxReferenceIdeal.main (F := Ideal))) ⟨m', fun _ => 0, g'⟩ (fun r => ∀ c : Dev Cert.BranchDxReferenceIdeal.nD,
          r.2.mem ((c.tc : Thread Cert.BranchDxReferenceIdeal.nD Cert.BranchDxReferenceIdeal.τ).loc Cert.BranchDxReferenceIdeal.main_v10) = v0 c
          ∧ r.2.mem ((c.tc : Thread Cert.BranchDxReferenceIdeal.nD Cert.BranchDxReferenceIdeal.τ).loc Cert.BranchDxReferenceIdeal.main_v9) = v1 c
          ∧ r.2.mem ((c.tc : Thread Cert.BranchDxReferenceIdeal.nD Cert.BranchDxReferenceIdeal.τ).loc Cert.BranchDxReferenceIdeal.main_arg0) = m' ((c.tc : Thread Cert.BranchDxReferenceIdeal.nD Cert.BranchDxReferenceIdeal.τ).loc Cert.BranchDxReferenceIdeal.main_arg0)
          ∧ r.2.mem ((c.tc : Thread Cert.BranchDxReferenceIdeal.nD Cert.BranchDxReferenceIdeal.τ).loc Cert.BranchDxReferenceIdeal.main_arg1) = m' ((c.tc : Thread Cert.BranchDxReferenceIdeal.nD Cert.BranchDxReferenceIdeal.τ).loc Cert.BranchDxReferenceIdeal.main_arg1)
          ∧ r.2.mem ((c.tc : Thread Cert.BranchDxReferenceIdeal.nD Cert.BranchDxReferenceIdeal.τ).loc Cert.BranchDxReferenceIdeal.main_arg2) = m' ((c.tc : Thread Cert.BranchDxReferenceIdeal.nD Cert.BranchDxReferenceIdeal.τ).loc Cert.BranchDxReferenceIdeal.main_arg2)
          ∧ r.2.mem ((c.tc : Thread Cert.BranchDxReferenceIdeal.nD Cert.BranchDxReferenceIdeal.τ).loc Cert.BranchDxReferenceIdeal.main_arg3) = m' ((c.tc : Thread Cert.BranchDxReferenceIdeal.nD Cert.BranchDxReferenceIdeal.τ).loc Cert.BranchDxReferenceIdeal.main_arg3))

def preserves_BranchDw_BranchDwIdeal : Prop :=
  True

def algebraic_BranchDwIdeal_BranchDwReferenceIdeal [hBranchDwIdeal : Cert.BranchDwIdeal.Facts] [hBranchDwReferenceIdeal : Cert.BranchDwReferenceIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwReferenceIdeal.nD Cert.BranchDwReferenceIdeal.τ Cert.BranchDwReferenceIdeal.sig) → Buf (Elt Ideal) ℓ) (g' : Dev Cert.BranchDwReferenceIdeal.nD → PrngReg), Pre_BranchDwIdeal m →
    (∀ c : Dev Cert.BranchDwIdeal.nD,
      m' ((c.tc : Thread Cert.BranchDwReferenceIdeal.nD Cert.BranchDwReferenceIdeal.τ).loc Cert.BranchDwReferenceIdeal.main_arg0) = m ((c.tc : Thread Cert.BranchDwIdeal.nD Cert.BranchDwIdeal.τ).loc Cert.BranchDwIdeal.main_arg0)
      ∧ m' ((c.tc : Thread Cert.BranchDwReferenceIdeal.nD Cert.BranchDwReferenceIdeal.τ).loc Cert.BranchDwReferenceIdeal.main_arg1) = m ((c.tc : Thread Cert.BranchDwIdeal.nD Cert.BranchDwIdeal.τ).loc Cert.BranchDwIdeal.main_arg1)
      ∧ m' ((c.tc : Thread Cert.BranchDwReferenceIdeal.nD Cert.BranchDwReferenceIdeal.τ).loc Cert.BranchDwReferenceIdeal.main_arg2) = m ((c.tc : Thread Cert.BranchDwIdeal.nD Cert.BranchDwIdeal.τ).loc Cert.BranchDwIdeal.main_arg2)
      ∧ m' ((c.tc : Thread Cert.BranchDwReferenceIdeal.nD Cert.BranchDwReferenceIdeal.τ).loc Cert.BranchDwReferenceIdeal.main_arg3) = m ((c.tc : Thread Cert.BranchDwIdeal.nD Cert.BranchDwIdeal.τ).loc Cert.BranchDwIdeal.main_arg3)) →
    ∃ (v0 : (c : Dev Cert.BranchDwIdeal.nD) → Buf (Elt Ideal) ((c.tc : Thread Cert.BranchDwIdeal.nD Cert.BranchDwIdeal.τ).loc Cert.BranchDwIdeal.main_v0_0)) (v1 : (c : Dev Cert.BranchDwIdeal.nD) → Buf (Elt Ideal) ((c.tc : Thread Cert.BranchDwIdeal.nD Cert.BranchDwIdeal.τ).loc Cert.BranchDwIdeal.main_v0_1)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0_0) = v0 c
          ∧ r.2.mem ((c.tc : Thread Cert.BranchDwIdeal.nD Cert.BranchDwIdeal.τ).loc Cert.BranchDwIdeal.main_v0_1) = v1 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
          ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2)
          ∧ r.2.mem ((c.tc : Thread Cert.BranchDwIdeal.nD Cert.BranchDwIdeal.τ).loc Cert.BranchDwIdeal.main_arg3) = m ((c.tc : Thread Cert.BranchDwIdeal.nD Cert.BranchDwIdeal.τ).loc Cert.BranchDwIdeal.main_arg3))
      ∧ θ_run (Cert.BranchDwReferenceIdeal.defs (F := Ideal)) (onTc (τ := Cert.BranchDwReferenceIdeal.τ) (Cert.BranchDwReferenceIdeal.main (F := Ideal))) ⟨m', fun _ => 0, g'⟩ (fun r => ∀ c : Dev Cert.BranchDwReferenceIdeal.nD,
          r.2.mem ((c.tc : Thread Cert.BranchDwReferenceIdeal.nD Cert.BranchDwReferenceIdeal.τ).loc Cert.BranchDwReferenceIdeal.main_v15) = v0 c
          ∧ r.2.mem ((c.tc : Thread Cert.BranchDwReferenceIdeal.nD Cert.BranchDwReferenceIdeal.τ).loc Cert.BranchDwReferenceIdeal.main_v16) = v1 c
          ∧ r.2.mem ((c.tc : Thread Cert.BranchDwReferenceIdeal.nD Cert.BranchDwReferenceIdeal.τ).loc Cert.BranchDwReferenceIdeal.main_arg0) = m' ((c.tc : Thread Cert.BranchDwReferenceIdeal.nD Cert.BranchDwReferenceIdeal.τ).loc Cert.BranchDwReferenceIdeal.main_arg0)
          ∧ r.2.mem ((c.tc : Thread Cert.BranchDwReferenceIdeal.nD Cert.BranchDwReferenceIdeal.τ).loc Cert.BranchDwReferenceIdeal.main_arg1) = m' ((c.tc : Thread Cert.BranchDwReferenceIdeal.nD Cert.BranchDwReferenceIdeal.τ).loc Cert.BranchDwReferenceIdeal.main_arg1)
          ∧ r.2.mem ((c.tc : Thread Cert.BranchDwReferenceIdeal.nD Cert.BranchDwReferenceIdeal.τ).loc Cert.BranchDwReferenceIdeal.main_arg2) = m' ((c.tc : Thread Cert.BranchDwReferenceIdeal.nD Cert.BranchDwReferenceIdeal.τ).loc Cert.BranchDwReferenceIdeal.main_arg2)
          ∧ r.2.mem ((c.tc : Thread Cert.BranchDwReferenceIdeal.nD Cert.BranchDwReferenceIdeal.τ).loc Cert.BranchDwReferenceIdeal.main_arg3) = m' ((c.tc : Thread Cert.BranchDwReferenceIdeal.nD Cert.BranchDwReferenceIdeal.τ).loc Cert.BranchDwReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_MlpIn_MlpInIdeal : Prop :=
  True

def algebraic_MlpInIdeal_MlpInReferenceIdeal [hMlpInIdeal : Cert.MlpInIdeal.Facts] [hMlpInReferenceIdeal : Cert.MlpInReferenceIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInIdeal m →
    (∀ c : Dev Cert.MlpInIdeal.nD,
      m' ((c.tc : Thread Cert.MlpInReferenceIdeal.nD Cert.MlpInReferenceIdeal.τ).loc Cert.MlpInReferenceIdeal.main_arg0) = m ((c.tc : Thread Cert.MlpInIdeal.nD Cert.MlpInIdeal.τ).loc Cert.MlpInIdeal.main_arg0)
      ∧ m' ((c.tc : Thread Cert.MlpInReferenceIdeal.nD Cert.MlpInReferenceIdeal.τ).loc Cert.MlpInReferenceIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v5) = v0 c
          ∧ r.2.mem ((c.tc : Thread Cert.MlpInReferenceIdeal.nD Cert.MlpInReferenceIdeal.τ).loc Cert.MlpInReferenceIdeal.main_v7) = v1 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1))

def preserves_BranchMerge_BranchMergeIdeal : Prop :=
  True

def algebraic_BranchMergeIdeal_BranchMergeReferenceIdeal [hBranchMergeIdeal : Cert.BranchMergeIdeal.Facts] [hBranchMergeReferenceIdeal : Cert.BranchMergeReferenceIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeReferenceIdeal.nD Cert.BranchMergeReferenceIdeal.τ Cert.BranchMergeReferenceIdeal.sig) → Buf (Elt Ideal) ℓ) (g' : Dev Cert.BranchMergeReferenceIdeal.nD → PrngReg), Pre_BranchMergeIdeal m →
    (∀ c : Dev Cert.BranchMergeIdeal.nD,
      m' ((c.tc : Thread Cert.BranchMergeReferenceIdeal.nD Cert.BranchMergeReferenceIdeal.τ).loc Cert.BranchMergeReferenceIdeal.main_arg0) = m ((c.tc : Thread Cert.BranchMergeIdeal.nD Cert.BranchMergeIdeal.τ).loc Cert.BranchMergeIdeal.main_arg0)
      ∧ m' ((c.tc : Thread Cert.BranchMergeReferenceIdeal.nD Cert.BranchMergeReferenceIdeal.τ).loc Cert.BranchMergeReferenceIdeal.main_arg1) = m ((c.tc : Thread Cert.BranchMergeIdeal.nD Cert.BranchMergeIdeal.τ).loc Cert.BranchMergeIdeal.main_arg1)
      ∧ m' ((c.tc : Thread Cert.BranchMergeReferenceIdeal.nD Cert.BranchMergeReferenceIdeal.τ).loc Cert.BranchMergeReferenceIdeal.main_arg2) = m ((c.tc : Thread Cert.BranchMergeIdeal.nD Cert.BranchMergeIdeal.τ).loc Cert.BranchMergeIdeal.main_arg2)
      ∧ m' ((c.tc : Thread Cert.BranchMergeReferenceIdeal.nD Cert.BranchMergeReferenceIdeal.τ).loc Cert.BranchMergeReferenceIdeal.main_arg3) = m ((c.tc : Thread Cert.BranchMergeIdeal.nD Cert.BranchMergeIdeal.τ).loc Cert.BranchMergeIdeal.main_arg3)
      ∧ m' ((c.tc : Thread Cert.BranchMergeReferenceIdeal.nD Cert.BranchMergeReferenceIdeal.τ).loc Cert.BranchMergeReferenceIdeal.main_arg4) = m ((c.tc : Thread Cert.BranchMergeIdeal.nD Cert.BranchMergeIdeal.τ).loc Cert.BranchMergeIdeal.main_arg4)) →
    ∃ (v0 : (c : Dev Cert.BranchMergeIdeal.nD) → Buf (Elt Ideal) ((c.tc : Thread Cert.BranchMergeIdeal.nD Cert.BranchMergeIdeal.τ).loc Cert.BranchMergeIdeal.main_v0_0)) (v1 : (c : Dev Cert.BranchMergeIdeal.nD) → Buf (Elt Ideal) ((c.tc : Thread Cert.BranchMergeIdeal.nD Cert.BranchMergeIdeal.τ).loc Cert.BranchMergeIdeal.main_v0_1)) (v2 : (c : Dev Cert.BranchMergeIdeal.nD) → Buf (Elt Ideal) ((c.tc : Thread Cert.BranchMergeIdeal.nD Cert.BranchMergeIdeal.τ).loc Cert.BranchMergeIdeal.main_v0_2)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v0_0) = v0 c
          ∧ r.2.mem ((c.tc : Thread Cert.BranchMergeIdeal.nD Cert.BranchMergeIdeal.τ).loc Cert.BranchMergeIdeal.main_v0_1) = v1 c
          ∧ r.2.mem ((c.tc : Thread Cert.BranchMergeIdeal.nD Cert.BranchMergeIdeal.τ).loc Cert.BranchMergeIdeal.main_v0_2) = v2 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
          ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ θ_run (Cert.BranchMergeReferenceIdeal.defs (F := Ideal)) (onTc (τ := Cert.BranchMergeReferenceIdeal.τ) (Cert.BranchMergeReferenceIdeal.main (F := Ideal))) ⟨m', fun _ => 0, g'⟩ (fun r => ∀ c : Dev Cert.BranchMergeReferenceIdeal.nD,
          r.2.mem ((c.tc : Thread Cert.BranchMergeReferenceIdeal.nD Cert.BranchMergeReferenceIdeal.τ).loc Cert.BranchMergeReferenceIdeal.main_v25) = v0 c
          ∧ r.2.mem ((c.tc : Thread Cert.BranchMergeReferenceIdeal.nD Cert.BranchMergeReferenceIdeal.τ).loc Cert.BranchMergeReferenceIdeal.main_v26) = v1 c
          ∧ r.2.mem ((c.tc : Thread Cert.BranchMergeReferenceIdeal.nD Cert.BranchMergeReferenceIdeal.τ).loc Cert.BranchMergeReferenceIdeal.main_v27) = v2 c
          ∧ r.2.mem ((c.tc : Thread Cert.BranchMergeReferenceIdeal.nD Cert.BranchMergeReferenceIdeal.τ).loc Cert.BranchMergeReferenceIdeal.main_arg0) = m' ((c.tc : Thread Cert.BranchMergeReferenceIdeal.nD Cert.BranchMergeReferenceIdeal.τ).loc Cert.BranchMergeReferenceIdeal.main_arg0)
          ∧ r.2.mem ((c.tc : Thread Cert.BranchMergeReferenceIdeal.nD Cert.BranchMergeReferenceIdeal.τ).loc Cert.BranchMergeReferenceIdeal.main_arg1) = m' ((c.tc : Thread Cert.BranchMergeReferenceIdeal.nD Cert.BranchMergeReferenceIdeal.τ).loc Cert.BranchMergeReferenceIdeal.main_arg1)
          ∧ r.2.mem ((c.tc : Thread Cert.BranchMergeReferenceIdeal.nD Cert.BranchMergeReferenceIdeal.τ).loc Cert.BranchMergeReferenceIdeal.main_arg2) = m' ((c.tc : Thread Cert.BranchMergeReferenceIdeal.nD Cert.BranchMergeReferenceIdeal.τ).loc Cert.BranchMergeReferenceIdeal.main_arg2)
          ∧ r.2.mem ((c.tc : Thread Cert.BranchMergeReferenceIdeal.nD Cert.BranchMergeReferenceIdeal.τ).loc Cert.BranchMergeReferenceIdeal.main_arg3) = m' ((c.tc : Thread Cert.BranchMergeReferenceIdeal.nD Cert.BranchMergeReferenceIdeal.τ).loc Cert.BranchMergeReferenceIdeal.main_arg3)
          ∧ r.2.mem ((c.tc : Thread Cert.BranchMergeReferenceIdeal.nD Cert.BranchMergeReferenceIdeal.τ).loc Cert.BranchMergeReferenceIdeal.main_arg4) = m' ((c.tc : Thread Cert.BranchMergeReferenceIdeal.nD Cert.BranchMergeReferenceIdeal.τ).loc Cert.BranchMergeReferenceIdeal.main_arg4))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)
      ∧ m' ((c.tc : Thread Cert.RmsFwdReferenceIdeal.nD Cert.RmsFwdReferenceIdeal.τ).loc Cert.RmsFwdReferenceIdeal.main_arg2) = m ((c.tc : Thread Cert.RmsFwdIdeal.nD Cert.RmsFwdIdeal.τ).loc Cert.RmsFwdIdeal.main_arg2)
      ∧ m' ((c.tc : Thread Cert.RmsFwdReferenceIdeal.nD Cert.RmsFwdReferenceIdeal.τ).loc Cert.RmsFwdReferenceIdeal.main_arg3) = m ((c.tc : Thread Cert.RmsFwdIdeal.nD Cert.RmsFwdIdeal.τ).loc Cert.RmsFwdIdeal.main_arg3)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1)
          ∧ r.2.mem ((c.tc : Thread Cert.RmsFwdIdeal.nD Cert.RmsFwdIdeal.τ).loc Cert.RmsFwdIdeal.main_arg2) = m ((c.tc : Thread Cert.RmsFwdIdeal.nD Cert.RmsFwdIdeal.τ).loc Cert.RmsFwdIdeal.main_arg2)
          ∧ r.2.mem ((c.tc : Thread Cert.RmsFwdIdeal.nD Cert.RmsFwdIdeal.τ).loc Cert.RmsFwdIdeal.main_arg3) = m ((c.tc : Thread Cert.RmsFwdIdeal.nD Cert.RmsFwdIdeal.τ).loc Cert.RmsFwdIdeal.main_arg3))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v18) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1)
          ∧ r.2.mem ((c.tc : Thread Cert.RmsFwdReferenceIdeal.nD Cert.RmsFwdReferenceIdeal.τ).loc Cert.RmsFwdReferenceIdeal.main_arg2) = m' ((c.tc : Thread Cert.RmsFwdReferenceIdeal.nD Cert.RmsFwdReferenceIdeal.τ).loc Cert.RmsFwdReferenceIdeal.main_arg2)
          ∧ r.2.mem ((c.tc : Thread Cert.RmsFwdReferenceIdeal.nD Cert.RmsFwdReferenceIdeal.τ).loc Cert.RmsFwdReferenceIdeal.main_arg3) = m' ((c.tc : Thread Cert.RmsFwdReferenceIdeal.nD Cert.RmsFwdReferenceIdeal.τ).loc Cert.RmsFwdReferenceIdeal.main_arg3))

def preserves_AdaUpdate_AdaUpdateIdeal : Prop :=
  True

def algebraic_AdaUpdateIdeal_AdaUpdateReferenceIdeal [hAdaUpdateIdeal : Cert.AdaUpdateIdeal.Facts] [hAdaUpdateReferenceIdeal : Cert.AdaUpdateReferenceIdeal.Facts] : Prop :=
  ∀ (m : (ℓ : Loc Cert.AdaUpdateIdeal.nD Cert.AdaUpdateIdeal.τ Cert.AdaUpdateIdeal.sig) → Buf (Elt Ideal) ℓ) (g : Dev Cert.AdaUpdateIdeal.nD → PrngReg)
    (m' : (ℓ : Loc Cert.AdaUpdateReferenceIdeal.nD Cert.AdaUpdateReferenceIdeal.τ Cert.AdaUpdateReferenceIdeal.sig) → Buf (Elt Ideal) ℓ) (g' : Dev Cert.AdaUpdateReferenceIdeal.nD → PrngReg), Pre_AdaUpdateIdeal m →
    (∀ c : Dev Cert.AdaUpdateIdeal.nD,
      m' ((c.tc : Thread Cert.AdaUpdateReferenceIdeal.nD Cert.AdaUpdateReferenceIdeal.τ).loc Cert.AdaUpdateReferenceIdeal.main_arg0) = m ((c.tc : Thread Cert.AdaUpdateIdeal.nD Cert.AdaUpdateIdeal.τ).loc Cert.AdaUpdateIdeal.main_arg0)
      ∧ m' ((c.tc : Thread Cert.AdaUpdateReferenceIdeal.nD Cert.AdaUpdateReferenceIdeal.τ).loc Cert.AdaUpdateReferenceIdeal.main_arg1) = m ((c.tc : Thread Cert.AdaUpdateIdeal.nD Cert.AdaUpdateIdeal.τ).loc Cert.AdaUpdateIdeal.main_arg1)
      ∧ m' ((c.tc : Thread Cert.AdaUpdateReferenceIdeal.nD Cert.AdaUpdateReferenceIdeal.τ).loc Cert.AdaUpdateReferenceIdeal.main_arg2) = m ((c.tc : Thread Cert.AdaUpdateIdeal.nD Cert.AdaUpdateIdeal.τ).loc Cert.AdaUpdateIdeal.main_arg2)
      ∧ m' ((c.tc : Thread Cert.AdaUpdateReferenceIdeal.nD Cert.AdaUpdateReferenceIdeal.τ).loc Cert.AdaUpdateReferenceIdeal.main_arg3) = m ((c.tc : Thread Cert.AdaUpdateIdeal.nD Cert.AdaUpdateIdeal.τ).loc Cert.AdaUpdateIdeal.main_arg3)
      ∧ m' ((c.tc : Thread Cert.AdaUpdateReferenceIdeal.nD Cert.AdaUpdateReferenceIdeal.τ).loc Cert.AdaUpdateReferenceIdeal.main_arg4) = m ((c.tc : Thread Cert.AdaUpdateIdeal.nD Cert.AdaUpdateIdeal.τ).loc Cert.AdaUpdateIdeal.main_arg4)) →
    ∃ (v0 : (c : Dev Cert.AdaUpdateIdeal.nD) → Buf (Elt Ideal) ((c.tc : Thread Cert.AdaUpdateIdeal.nD Cert.AdaUpdateIdeal.τ).loc Cert.AdaUpdateIdeal.main_v0_0)) (v1 : (c : Dev Cert.AdaUpdateIdeal.nD) → Buf (Elt Ideal) ((c.tc : Thread Cert.AdaUpdateIdeal.nD Cert.AdaUpdateIdeal.τ).loc Cert.AdaUpdateIdeal.main_v0_1)) (v2 : (c : Dev Cert.AdaUpdateIdeal.nD) → Buf (Elt Ideal) ((c.tc : Thread Cert.AdaUpdateIdeal.nD Cert.AdaUpdateIdeal.τ).loc Cert.AdaUpdateIdeal.main_v0_2)) (v3 : (c : Dev Cert.AdaUpdateIdeal.nD) → Buf (Elt Ideal) ((c.tc : Thread Cert.AdaUpdateIdeal.nD Cert.AdaUpdateIdeal.τ).loc Cert.AdaUpdateIdeal.main_v0_3)),
      θ_run (Cert.AdaUpdateIdeal.defs (F := Ideal)) (onTc (τ := Cert.AdaUpdateIdeal.τ) (Cert.AdaUpdateIdeal.main (F := Ideal))) ⟨m, fun _ => 0, g⟩ (fun r => ∀ c : Dev Cert.AdaUpdateIdeal.nD,
          r.2.mem ((c.tc : Thread Cert.AdaUpdateIdeal.nD Cert.AdaUpdateIdeal.τ).loc Cert.AdaUpdateIdeal.main_v0_0) = v0 c
          ∧ r.2.mem ((c.tc : Thread Cert.AdaUpdateIdeal.nD Cert.AdaUpdateIdeal.τ).loc Cert.AdaUpdateIdeal.main_v0_1) = v1 c
          ∧ r.2.mem ((c.tc : Thread Cert.AdaUpdateIdeal.nD Cert.AdaUpdateIdeal.τ).loc Cert.AdaUpdateIdeal.main_v0_2) = v2 c
          ∧ r.2.mem ((c.tc : Thread Cert.AdaUpdateIdeal.nD Cert.AdaUpdateIdeal.τ).loc Cert.AdaUpdateIdeal.main_v0_3) = v3 c
          ∧ r.2.mem ((c.tc : Thread Cert.AdaUpdateIdeal.nD Cert.AdaUpdateIdeal.τ).loc Cert.AdaUpdateIdeal.main_arg0) = m ((c.tc : Thread Cert.AdaUpdateIdeal.nD Cert.AdaUpdateIdeal.τ).loc Cert.AdaUpdateIdeal.main_arg0)
          ∧ r.2.mem ((c.tc : Thread Cert.AdaUpdateIdeal.nD Cert.AdaUpdateIdeal.τ).loc Cert.AdaUpdateIdeal.main_arg1) = m ((c.tc : Thread Cert.AdaUpdateIdeal.nD Cert.AdaUpdateIdeal.τ).loc Cert.AdaUpdateIdeal.main_arg1)
          ∧ r.2.mem ((c.tc : Thread Cert.AdaUpdateIdeal.nD Cert.AdaUpdateIdeal.τ).loc Cert.AdaUpdateIdeal.main_arg2) = m ((c.tc : Thread Cert.AdaUpdateIdeal.nD Cert.AdaUpdateIdeal.τ).loc Cert.AdaUpdateIdeal.main_arg2)
          ∧ r.2.mem ((c.tc : Thread Cert.AdaUpdateIdeal.nD Cert.AdaUpdateIdeal.τ).loc Cert.AdaUpdateIdeal.main_arg3) = m ((c.tc : Thread Cert.AdaUpdateIdeal.nD Cert.AdaUpdateIdeal.τ).loc Cert.AdaUpdateIdeal.main_arg3)
          ∧ r.2.mem ((c.tc : Thread Cert.AdaUpdateIdeal.nD Cert.AdaUpdateIdeal.τ).loc Cert.AdaUpdateIdeal.main_arg4) = m ((c.tc : Thread Cert.AdaUpdateIdeal.nD Cert.AdaUpdateIdeal.τ).loc Cert.AdaUpdateIdeal.main_arg4))
      ∧ θ_run (Cert.AdaUpdateReferenceIdeal.defs (F := Ideal)) (onTc (τ := Cert.AdaUpdateReferenceIdeal.τ) (Cert.AdaUpdateReferenceIdeal.main (F := Ideal))) ⟨m', fun _ => 0, g'⟩ (fun r => ∀ c : Dev Cert.AdaUpdateReferenceIdeal.nD,
          r.2.mem ((c.tc : Thread Cert.AdaUpdateReferenceIdeal.nD Cert.AdaUpdateReferenceIdeal.τ).loc Cert.AdaUpdateReferenceIdeal.main_v3) = v0 c
          ∧ r.2.mem ((c.tc : Thread Cert.AdaUpdateReferenceIdeal.nD Cert.AdaUpdateReferenceIdeal.τ).loc Cert.AdaUpdateReferenceIdeal.main_v27) = v1 c
          ∧ r.2.mem ((c.tc : Thread Cert.AdaUpdateReferenceIdeal.nD Cert.AdaUpdateReferenceIdeal.τ).loc Cert.AdaUpdateReferenceIdeal.main_v8) = v2 c
          ∧ r.2.mem ((c.tc : Thread Cert.AdaUpdateReferenceIdeal.nD Cert.AdaUpdateReferenceIdeal.τ).loc Cert.AdaUpdateReferenceIdeal.main_v14) = v3 c
          ∧ r.2.mem ((c.tc : Thread Cert.AdaUpdateReferenceIdeal.nD Cert.AdaUpdateReferenceIdeal.τ).loc Cert.AdaUpdateReferenceIdeal.main_arg0) = m' ((c.tc : Thread Cert.AdaUpdateReferenceIdeal.nD Cert.AdaUpdateReferenceIdeal.τ).loc Cert.AdaUpdateReferenceIdeal.main_arg0)
          ∧ r.2.mem ((c.tc : Thread Cert.AdaUpdateReferenceIdeal.nD Cert.AdaUpdateReferenceIdeal.τ).loc Cert.AdaUpdateReferenceIdeal.main_arg1) = m' ((c.tc : Thread Cert.AdaUpdateReferenceIdeal.nD Cert.AdaUpdateReferenceIdeal.τ).loc Cert.AdaUpdateReferenceIdeal.main_arg1)
          ∧ r.2.mem ((c.tc : Thread Cert.AdaUpdateReferenceIdeal.nD Cert.AdaUpdateReferenceIdeal.τ).loc Cert.AdaUpdateReferenceIdeal.main_arg2) = m' ((c.tc : Thread Cert.AdaUpdateReferenceIdeal.nD Cert.AdaUpdateReferenceIdeal.τ).loc Cert.AdaUpdateReferenceIdeal.main_arg2)
          ∧ r.2.mem ((c.tc : Thread Cert.AdaUpdateReferenceIdeal.nD Cert.AdaUpdateReferenceIdeal.τ).loc Cert.AdaUpdateReferenceIdeal.main_arg3) = m' ((c.tc : Thread Cert.AdaUpdateReferenceIdeal.nD Cert.AdaUpdateReferenceIdeal.τ).loc Cert.AdaUpdateReferenceIdeal.main_arg3)
          ∧ r.2.mem ((c.tc : Thread Cert.AdaUpdateReferenceIdeal.nD Cert.AdaUpdateReferenceIdeal.τ).loc Cert.AdaUpdateReferenceIdeal.main_arg4) = m' ((c.tc : Thread Cert.AdaUpdateReferenceIdeal.nD Cert.AdaUpdateReferenceIdeal.τ).loc Cert.AdaUpdateReferenceIdeal.main_arg4))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_SumAdamwIn_SumAdamwInIdeal : Prop :=
  True

def algebraic_SumAdamwInIdeal_SumAdamwInReferenceIdeal [hSumAdamwInIdeal : Cert.SumAdamwInIdeal.Facts] [hSumAdamwInReferenceIdeal : Cert.SumAdamwInReferenceIdeal.Facts] : Prop :=
  ∀ (m : (ℓ : Loc Cert.SumAdamwInIdeal.nD Cert.SumAdamwInIdeal.τ Cert.SumAdamwInIdeal.sig) → Buf (Elt Ideal) ℓ) (g : Dev Cert.SumAdamwInIdeal.nD → PrngReg)
    (m' : (ℓ : Loc Cert.SumAdamwInReferenceIdeal.nD Cert.SumAdamwInReferenceIdeal.τ Cert.SumAdamwInReferenceIdeal.sig) → Buf (Elt Ideal) ℓ) (g' : Dev Cert.SumAdamwInReferenceIdeal.nD → PrngReg), Pre_SumAdamwInIdeal m →
    (∀ c : Dev Cert.SumAdamwInIdeal.nD,
      m' ((c.tc : Thread Cert.SumAdamwInReferenceIdeal.nD Cert.SumAdamwInReferenceIdeal.τ).loc Cert.SumAdamwInReferenceIdeal.main_arg0) = m ((c.tc : Thread Cert.SumAdamwInIdeal.nD Cert.SumAdamwInIdeal.τ).loc Cert.SumAdamwInIdeal.main_arg0)
      ∧ m' ((c.tc : Thread Cert.SumAdamwInReferenceIdeal.nD Cert.SumAdamwInReferenceIdeal.τ).loc Cert.SumAdamwInReferenceIdeal.main_arg1) = m ((c.tc : Thread Cert.SumAdamwInIdeal.nD Cert.SumAdamwInIdeal.τ).loc Cert.SumAdamwInIdeal.main_arg1)
      ∧ m' ((c.tc : Thread Cert.SumAdamwInReferenceIdeal.nD Cert.SumAdamwInReferenceIdeal.τ).loc Cert.SumAdamwInReferenceIdeal.main_arg2) = m ((c.tc : Thread Cert.SumAdamwInIdeal.nD Cert.SumAdamwInIdeal.τ).loc Cert.SumAdamwInIdeal.main_arg2)
      ∧ m' ((c.tc : Thread Cert.SumAdamwInReferenceIdeal.nD Cert.SumAdamwInReferenceIdeal.τ).loc Cert.SumAdamwInReferenceIdeal.main_arg3) = m ((c.tc : Thread Cert.SumAdamwInIdeal.nD Cert.SumAdamwInIdeal.τ).loc Cert.SumAdamwInIdeal.main_arg3)
      ∧ m' ((c.tc : Thread Cert.SumAdamwInReferenceIdeal.nD Cert.SumAdamwInReferenceIdeal.τ).loc Cert.SumAdamwInReferenceIdeal.main_arg4) = m ((c.tc : Thread Cert.SumAdamwInIdeal.nD Cert.SumAdamwInIdeal.τ).loc Cert.SumAdamwInIdeal.main_arg4)) →
    ∃ (v0 : (c : Dev Cert.SumAdamwInIdeal.nD) → Buf (Elt Ideal) ((c.tc : Thread Cert.SumAdamwInIdeal.nD Cert.SumAdamwInIdeal.τ).loc Cert.SumAdamwInIdeal.main_v0_0)) (v1 : (c : Dev Cert.SumAdamwInIdeal.nD) → Buf (Elt Ideal) ((c.tc : Thread Cert.SumAdamwInIdeal.nD Cert.SumAdamwInIdeal.τ).loc Cert.SumAdamwInIdeal.main_v0_1)) (v2 : (c : Dev Cert.SumAdamwInIdeal.nD) → Buf (Elt Ideal) ((c.tc : Thread Cert.SumAdamwInIdeal.nD Cert.SumAdamwInIdeal.τ).loc Cert.SumAdamwInIdeal.main_v0_2)) (v3 : (c : Dev Cert.SumAdamwInIdeal.nD) → Buf (Elt Ideal) ((c.tc : Thread Cert.SumAdamwInIdeal.nD Cert.SumAdamwInIdeal.τ).loc Cert.SumAdamwInIdeal.main_v0_3)),
      θ_run (Cert.SumAdamwInIdeal.defs (F := Ideal)) (onTc (τ := Cert.SumAdamwInIdeal.τ) (Cert.SumAdamwInIdeal.main (F := Ideal))) ⟨m, fun _ => 0, g⟩ (fun r => ∀ c : Dev Cert.SumAdamwInIdeal.nD,
          r.2.mem ((c.tc : Thread Cert.SumAdamwInIdeal.nD Cert.SumAdamwInIdeal.τ).loc Cert.SumAdamwInIdeal.main_v0_0) = v0 c
          ∧ r.2.mem ((c.tc : Thread Cert.SumAdamwInIdeal.nD Cert.SumAdamwInIdeal.τ).loc Cert.SumAdamwInIdeal.main_v0_1) = v1 c
          ∧ r.2.mem ((c.tc : Thread Cert.SumAdamwInIdeal.nD Cert.SumAdamwInIdeal.τ).loc Cert.SumAdamwInIdeal.main_v0_2) = v2 c
          ∧ r.2.mem ((c.tc : Thread Cert.SumAdamwInIdeal.nD Cert.SumAdamwInIdeal.τ).loc Cert.SumAdamwInIdeal.main_v0_3) = v3 c
          ∧ r.2.mem ((c.tc : Thread Cert.SumAdamwInIdeal.nD Cert.SumAdamwInIdeal.τ).loc Cert.SumAdamwInIdeal.main_arg0) = m ((c.tc : Thread Cert.SumAdamwInIdeal.nD Cert.SumAdamwInIdeal.τ).loc Cert.SumAdamwInIdeal.main_arg0)
          ∧ r.2.mem ((c.tc : Thread Cert.SumAdamwInIdeal.nD Cert.SumAdamwInIdeal.τ).loc Cert.SumAdamwInIdeal.main_arg1) = m ((c.tc : Thread Cert.SumAdamwInIdeal.nD Cert.SumAdamwInIdeal.τ).loc Cert.SumAdamwInIdeal.main_arg1)
          ∧ r.2.mem ((c.tc : Thread Cert.SumAdamwInIdeal.nD Cert.SumAdamwInIdeal.τ).loc Cert.SumAdamwInIdeal.main_arg2) = m ((c.tc : Thread Cert.SumAdamwInIdeal.nD Cert.SumAdamwInIdeal.τ).loc Cert.SumAdamwInIdeal.main_arg2)
          ∧ r.2.mem ((c.tc : Thread Cert.SumAdamwInIdeal.nD Cert.SumAdamwInIdeal.τ).loc Cert.SumAdamwInIdeal.main_arg3) = m ((c.tc : Thread Cert.SumAdamwInIdeal.nD Cert.SumAdamwInIdeal.τ).loc Cert.SumAdamwInIdeal.main_arg3)
          ∧ r.2.mem ((c.tc : Thread Cert.SumAdamwInIdeal.nD Cert.SumAdamwInIdeal.τ).loc Cert.SumAdamwInIdeal.main_arg4) = m ((c.tc : Thread Cert.SumAdamwInIdeal.nD Cert.SumAdamwInIdeal.τ).loc Cert.SumAdamwInIdeal.main_arg4))
      ∧ θ_run (Cert.SumAdamwInReferenceIdeal.defs (F := Ideal)) (onTc (τ := Cert.SumAdamwInReferenceIdeal.τ) (Cert.SumAdamwInReferenceIdeal.main (F := Ideal))) ⟨m', fun _ => 0, g'⟩ (fun r => ∀ c : Dev Cert.SumAdamwInReferenceIdeal.nD,
          r.2.mem ((c.tc : Thread Cert.SumAdamwInReferenceIdeal.nD Cert.SumAdamwInReferenceIdeal.τ).loc Cert.SumAdamwInReferenceIdeal.main_v5) = v0 c
          ∧ r.2.mem ((c.tc : Thread Cert.SumAdamwInReferenceIdeal.nD Cert.SumAdamwInReferenceIdeal.τ).loc Cert.SumAdamwInReferenceIdeal.main_v29) = v1 c
          ∧ r.2.mem ((c.tc : Thread Cert.SumAdamwInReferenceIdeal.nD Cert.SumAdamwInReferenceIdeal.τ).loc Cert.SumAdamwInReferenceIdeal.main_v10) = v2 c
          ∧ r.2.mem ((c.tc : Thread Cert.SumAdamwInReferenceIdeal.nD Cert.SumAdamwInReferenceIdeal.τ).loc Cert.SumAdamwInReferenceIdeal.main_v16) = v3 c
          ∧ r.2.mem ((c.tc : Thread Cert.SumAdamwInReferenceIdeal.nD Cert.SumAdamwInReferenceIdeal.τ).loc Cert.SumAdamwInReferenceIdeal.main_arg0) = m' ((c.tc : Thread Cert.SumAdamwInReferenceIdeal.nD Cert.SumAdamwInReferenceIdeal.τ).loc Cert.SumAdamwInReferenceIdeal.main_arg0)
          ∧ r.2.mem ((c.tc : Thread Cert.SumAdamwInReferenceIdeal.nD Cert.SumAdamwInReferenceIdeal.τ).loc Cert.SumAdamwInReferenceIdeal.main_arg1) = m' ((c.tc : Thread Cert.SumAdamwInReferenceIdeal.nD Cert.SumAdamwInReferenceIdeal.τ).loc Cert.SumAdamwInReferenceIdeal.main_arg1)
          ∧ r.2.mem ((c.tc : Thread Cert.SumAdamwInReferenceIdeal.nD Cert.SumAdamwInReferenceIdeal.τ).loc Cert.SumAdamwInReferenceIdeal.main_arg2) = m' ((c.tc : Thread Cert.SumAdamwInReferenceIdeal.nD Cert.SumAdamwInReferenceIdeal.τ).loc Cert.SumAdamwInReferenceIdeal.main_arg2)
          ∧ r.2.mem ((c.tc : Thread Cert.SumAdamwInReferenceIdeal.nD Cert.SumAdamwInReferenceIdeal.τ).loc Cert.SumAdamwInReferenceIdeal.main_arg3) = m' ((c.tc : Thread Cert.SumAdamwInReferenceIdeal.nD Cert.SumAdamwInReferenceIdeal.τ).loc Cert.SumAdamwInReferenceIdeal.main_arg3)
          ∧ r.2.mem ((c.tc : Thread Cert.SumAdamwInReferenceIdeal.nD Cert.SumAdamwInReferenceIdeal.τ).loc Cert.SumAdamwInReferenceIdeal.main_arg4) = m' ((c.tc : Thread Cert.SumAdamwInReferenceIdeal.nD Cert.SumAdamwInReferenceIdeal.τ).loc Cert.SumAdamwInReferenceIdeal.main_arg4))

def preserves_SumAdamwBranch_SumAdamwBranchIdeal : Prop :=
  True

def algebraic_SumAdamwBranchIdeal_SumAdamwBranchReferenceIdeal [hSumAdamwBranchIdeal : Cert.SumAdamwBranchIdeal.Facts] [hSumAdamwBranchReferenceIdeal : Cert.SumAdamwBranchReferenceIdeal.Facts] : Prop :=
  ∀ (m : (ℓ : Loc Cert.SumAdamwBranchIdeal.nD Cert.SumAdamwBranchIdeal.τ Cert.SumAdamwBranchIdeal.sig) → Buf (Elt Ideal) ℓ) (g : Dev Cert.SumAdamwBranchIdeal.nD → PrngReg)
    (m' : (ℓ : Loc Cert.SumAdamwBranchReferenceIdeal.nD Cert.SumAdamwBranchReferenceIdeal.τ Cert.SumAdamwBranchReferenceIdeal.sig) → Buf (Elt Ideal) ℓ) (g' : Dev Cert.SumAdamwBranchReferenceIdeal.nD → PrngReg), Pre_SumAdamwBranchIdeal m →
    (∀ c : Dev Cert.SumAdamwBranchIdeal.nD,
      m' ((c.tc : Thread Cert.SumAdamwBranchReferenceIdeal.nD Cert.SumAdamwBranchReferenceIdeal.τ).loc Cert.SumAdamwBranchReferenceIdeal.main_arg0) = m ((c.tc : Thread Cert.SumAdamwBranchIdeal.nD Cert.SumAdamwBranchIdeal.τ).loc Cert.SumAdamwBranchIdeal.main_arg0)
      ∧ m' ((c.tc : Thread Cert.SumAdamwBranchReferenceIdeal.nD Cert.SumAdamwBranchReferenceIdeal.τ).loc Cert.SumAdamwBranchReferenceIdeal.main_arg1) = m ((c.tc : Thread Cert.SumAdamwBranchIdeal.nD Cert.SumAdamwBranchIdeal.τ).loc Cert.SumAdamwBranchIdeal.main_arg1)
      ∧ m' ((c.tc : Thread Cert.SumAdamwBranchReferenceIdeal.nD Cert.SumAdamwBranchReferenceIdeal.τ).loc Cert.SumAdamwBranchReferenceIdeal.main_arg2) = m ((c.tc : Thread Cert.SumAdamwBranchIdeal.nD Cert.SumAdamwBranchIdeal.τ).loc Cert.SumAdamwBranchIdeal.main_arg2)
      ∧ m' ((c.tc : Thread Cert.SumAdamwBranchReferenceIdeal.nD Cert.SumAdamwBranchReferenceIdeal.τ).loc Cert.SumAdamwBranchReferenceIdeal.main_arg3) = m ((c.tc : Thread Cert.SumAdamwBranchIdeal.nD Cert.SumAdamwBranchIdeal.τ).loc Cert.SumAdamwBranchIdeal.main_arg3)
      ∧ m' ((c.tc : Thread Cert.SumAdamwBranchReferenceIdeal.nD Cert.SumAdamwBranchReferenceIdeal.τ).loc Cert.SumAdamwBranchReferenceIdeal.main_arg4) = m ((c.tc : Thread Cert.SumAdamwBranchIdeal.nD Cert.SumAdamwBranchIdeal.τ).loc Cert.SumAdamwBranchIdeal.main_arg4)) →
    ∃ (v0 : (c : Dev Cert.SumAdamwBranchIdeal.nD) → Buf (Elt Ideal) ((c.tc : Thread Cert.SumAdamwBranchIdeal.nD Cert.SumAdamwBranchIdeal.τ).loc Cert.SumAdamwBranchIdeal.main_v0_0)) (v1 : (c : Dev Cert.SumAdamwBranchIdeal.nD) → Buf (Elt Ideal) ((c.tc : Thread Cert.SumAdamwBranchIdeal.nD Cert.SumAdamwBranchIdeal.τ).loc Cert.SumAdamwBranchIdeal.main_v0_1)) (v2 : (c : Dev Cert.SumAdamwBranchIdeal.nD) → Buf (Elt Ideal) ((c.tc : Thread Cert.SumAdamwBranchIdeal.nD Cert.SumAdamwBranchIdeal.τ).loc Cert.SumAdamwBranchIdeal.main_v0_2)) (v3 : (c : Dev Cert.SumAdamwBranchIdeal.nD) → Buf (Elt Ideal) ((c.tc : Thread Cert.SumAdamwBranchIdeal.nD Cert.SumAdamwBranchIdeal.τ).loc Cert.SumAdamwBranchIdeal.main_v0_3)),
      θ_run (Cert.SumAdamwBranchIdeal.defs (F := Ideal)) (onTc (τ := Cert.SumAdamwBranchIdeal.τ) (Cert.SumAdamwBranchIdeal.main (F := Ideal))) ⟨m, fun _ => 0, g⟩ (fun r => ∀ c : Dev Cert.SumAdamwBranchIdeal.nD,
          r.2.mem ((c.tc : Thread Cert.SumAdamwBranchIdeal.nD Cert.SumAdamwBranchIdeal.τ).loc Cert.SumAdamwBranchIdeal.main_v0_0) = v0 c
          ∧ r.2.mem ((c.tc : Thread Cert.SumAdamwBranchIdeal.nD Cert.SumAdamwBranchIdeal.τ).loc Cert.SumAdamwBranchIdeal.main_v0_1) = v1 c
          ∧ r.2.mem ((c.tc : Thread Cert.SumAdamwBranchIdeal.nD Cert.SumAdamwBranchIdeal.τ).loc Cert.SumAdamwBranchIdeal.main_v0_2) = v2 c
          ∧ r.2.mem ((c.tc : Thread Cert.SumAdamwBranchIdeal.nD Cert.SumAdamwBranchIdeal.τ).loc Cert.SumAdamwBranchIdeal.main_v0_3) = v3 c
          ∧ r.2.mem ((c.tc : Thread Cert.SumAdamwBranchIdeal.nD Cert.SumAdamwBranchIdeal.τ).loc Cert.SumAdamwBranchIdeal.main_arg0) = m ((c.tc : Thread Cert.SumAdamwBranchIdeal.nD Cert.SumAdamwBranchIdeal.τ).loc Cert.SumAdamwBranchIdeal.main_arg0)
          ∧ r.2.mem ((c.tc : Thread Cert.SumAdamwBranchIdeal.nD Cert.SumAdamwBranchIdeal.τ).loc Cert.SumAdamwBranchIdeal.main_arg1) = m ((c.tc : Thread Cert.SumAdamwBranchIdeal.nD Cert.SumAdamwBranchIdeal.τ).loc Cert.SumAdamwBranchIdeal.main_arg1)
          ∧ r.2.mem ((c.tc : Thread Cert.SumAdamwBranchIdeal.nD Cert.SumAdamwBranchIdeal.τ).loc Cert.SumAdamwBranchIdeal.main_arg2) = m ((c.tc : Thread Cert.SumAdamwBranchIdeal.nD Cert.SumAdamwBranchIdeal.τ).loc Cert.SumAdamwBranchIdeal.main_arg2)
          ∧ r.2.mem ((c.tc : Thread Cert.SumAdamwBranchIdeal.nD Cert.SumAdamwBranchIdeal.τ).loc Cert.SumAdamwBranchIdeal.main_arg3) = m ((c.tc : Thread Cert.SumAdamwBranchIdeal.nD Cert.SumAdamwBranchIdeal.τ).loc Cert.SumAdamwBranchIdeal.main_arg3)
          ∧ r.2.mem ((c.tc : Thread Cert.SumAdamwBranchIdeal.nD Cert.SumAdamwBranchIdeal.τ).loc Cert.SumAdamwBranchIdeal.main_arg4) = m ((c.tc : Thread Cert.SumAdamwBranchIdeal.nD Cert.SumAdamwBranchIdeal.τ).loc Cert.SumAdamwBranchIdeal.main_arg4))
      ∧ θ_run (Cert.SumAdamwBranchReferenceIdeal.defs (F := Ideal)) (onTc (τ := Cert.SumAdamwBranchReferenceIdeal.τ) (Cert.SumAdamwBranchReferenceIdeal.main (F := Ideal))) ⟨m', fun _ => 0, g'⟩ (fun r => ∀ c : Dev Cert.SumAdamwBranchReferenceIdeal.nD,
          r.2.mem ((c.tc : Thread Cert.SumAdamwBranchReferenceIdeal.nD Cert.SumAdamwBranchReferenceIdeal.τ).loc Cert.SumAdamwBranchReferenceIdeal.main_v6) = v0 c
          ∧ r.2.mem ((c.tc : Thread Cert.SumAdamwBranchReferenceIdeal.nD Cert.SumAdamwBranchReferenceIdeal.τ).loc Cert.SumAdamwBranchReferenceIdeal.main_v30) = v1 c
          ∧ r.2.mem ((c.tc : Thread Cert.SumAdamwBranchReferenceIdeal.nD Cert.SumAdamwBranchReferenceIdeal.τ).loc Cert.SumAdamwBranchReferenceIdeal.main_v11) = v2 c
          ∧ r.2.mem ((c.tc : Thread Cert.SumAdamwBranchReferenceIdeal.nD Cert.SumAdamwBranchReferenceIdeal.τ).loc Cert.SumAdamwBranchReferenceIdeal.main_v17) = v3 c
          ∧ r.2.mem ((c.tc : Thread Cert.SumAdamwBranchReferenceIdeal.nD Cert.SumAdamwBranchReferenceIdeal.τ).loc Cert.SumAdamwBranchReferenceIdeal.main_arg0) = m' ((c.tc : Thread Cert.SumAdamwBranchReferenceIdeal.nD Cert.SumAdamwBranchReferenceIdeal.τ).loc Cert.SumAdamwBranchReferenceIdeal.main_arg0)
          ∧ r.2.mem ((c.tc : Thread Cert.SumAdamwBranchReferenceIdeal.nD Cert.SumAdamwBranchReferenceIdeal.τ).loc Cert.SumAdamwBranchReferenceIdeal.main_arg1) = m' ((c.tc : Thread Cert.SumAdamwBranchReferenceIdeal.nD Cert.SumAdamwBranchReferenceIdeal.τ).loc Cert.SumAdamwBranchReferenceIdeal.main_arg1)
          ∧ r.2.mem ((c.tc : Thread Cert.SumAdamwBranchReferenceIdeal.nD Cert.SumAdamwBranchReferenceIdeal.τ).loc Cert.SumAdamwBranchReferenceIdeal.main_arg2) = m' ((c.tc : Thread Cert.SumAdamwBranchReferenceIdeal.nD Cert.SumAdamwBranchReferenceIdeal.τ).loc Cert.SumAdamwBranchReferenceIdeal.main_arg2)
          ∧ r.2.mem ((c.tc : Thread Cert.SumAdamwBranchReferenceIdeal.nD Cert.SumAdamwBranchReferenceIdeal.τ).loc Cert.SumAdamwBranchReferenceIdeal.main_arg3) = m' ((c.tc : Thread Cert.SumAdamwBranchReferenceIdeal.nD Cert.SumAdamwBranchReferenceIdeal.τ).loc Cert.SumAdamwBranchReferenceIdeal.main_arg3)
          ∧ r.2.mem ((c.tc : Thread Cert.SumAdamwBranchReferenceIdeal.nD Cert.SumAdamwBranchReferenceIdeal.τ).loc Cert.SumAdamwBranchReferenceIdeal.main_arg4) = m' ((c.tc : Thread Cert.SumAdamwBranchReferenceIdeal.nD Cert.SumAdamwBranchReferenceIdeal.τ).loc Cert.SumAdamwBranchReferenceIdeal.main_arg4))

def preserves_SumAdamwOut_SumAdamwOutIdeal : Prop :=
  True

def algebraic_SumAdamwOutIdeal_SumAdamwOutReferenceIdeal [hSumAdamwOutIdeal : Cert.SumAdamwOutIdeal.Facts] [hSumAdamwOutReferenceIdeal : Cert.SumAdamwOutReferenceIdeal.Facts] : Prop :=
  ∀ (m : (ℓ : Loc Cert.SumAdamwOutIdeal.nD Cert.SumAdamwOutIdeal.τ Cert.SumAdamwOutIdeal.sig) → Buf (Elt Ideal) ℓ) (g : Dev Cert.SumAdamwOutIdeal.nD → PrngReg)
    (m' : (ℓ : Loc Cert.SumAdamwOutReferenceIdeal.nD Cert.SumAdamwOutReferenceIdeal.τ Cert.SumAdamwOutReferenceIdeal.sig) → Buf (Elt Ideal) ℓ) (g' : Dev Cert.SumAdamwOutReferenceIdeal.nD → PrngReg), Pre_SumAdamwOutIdeal m →
    (∀ c : Dev Cert.SumAdamwOutIdeal.nD,
      m' ((c.tc : Thread Cert.SumAdamwOutReferenceIdeal.nD Cert.SumAdamwOutReferenceIdeal.τ).loc Cert.SumAdamwOutReferenceIdeal.main_arg0) = m ((c.tc : Thread Cert.SumAdamwOutIdeal.nD Cert.SumAdamwOutIdeal.τ).loc Cert.SumAdamwOutIdeal.main_arg0)
      ∧ m' ((c.tc : Thread Cert.SumAdamwOutReferenceIdeal.nD Cert.SumAdamwOutReferenceIdeal.τ).loc Cert.SumAdamwOutReferenceIdeal.main_arg1) = m ((c.tc : Thread Cert.SumAdamwOutIdeal.nD Cert.SumAdamwOutIdeal.τ).loc Cert.SumAdamwOutIdeal.main_arg1)
      ∧ m' ((c.tc : Thread Cert.SumAdamwOutReferenceIdeal.nD Cert.SumAdamwOutReferenceIdeal.τ).loc Cert.SumAdamwOutReferenceIdeal.main_arg2) = m ((c.tc : Thread Cert.SumAdamwOutIdeal.nD Cert.SumAdamwOutIdeal.τ).loc Cert.SumAdamwOutIdeal.main_arg2)
      ∧ m' ((c.tc : Thread Cert.SumAdamwOutReferenceIdeal.nD Cert.SumAdamwOutReferenceIdeal.τ).loc Cert.SumAdamwOutReferenceIdeal.main_arg3) = m ((c.tc : Thread Cert.SumAdamwOutIdeal.nD Cert.SumAdamwOutIdeal.τ).loc Cert.SumAdamwOutIdeal.main_arg3)
      ∧ m' ((c.tc : Thread Cert.SumAdamwOutReferenceIdeal.nD Cert.SumAdamwOutReferenceIdeal.τ).loc Cert.SumAdamwOutReferenceIdeal.main_arg4) = m ((c.tc : Thread Cert.SumAdamwOutIdeal.nD Cert.SumAdamwOutIdeal.τ).loc Cert.SumAdamwOutIdeal.main_arg4)) →
    ∃ (v0 : (c : Dev Cert.SumAdamwOutIdeal.nD) → Buf (Elt Ideal) ((c.tc : Thread Cert.SumAdamwOutIdeal.nD Cert.SumAdamwOutIdeal.τ).loc Cert.SumAdamwOutIdeal.main_v0_0)) (v1 : (c : Dev Cert.SumAdamwOutIdeal.nD) → Buf (Elt Ideal) ((c.tc : Thread Cert.SumAdamwOutIdeal.nD Cert.SumAdamwOutIdeal.τ).loc Cert.SumAdamwOutIdeal.main_v0_1)) (v2 : (c : Dev Cert.SumAdamwOutIdeal.nD) → Buf (Elt Ideal) ((c.tc : Thread Cert.SumAdamwOutIdeal.nD Cert.SumAdamwOutIdeal.τ).loc Cert.SumAdamwOutIdeal.main_v0_2)) (v3 : (c : Dev Cert.SumAdamwOutIdeal.nD) → Buf (Elt Ideal) ((c.tc : Thread Cert.SumAdamwOutIdeal.nD Cert.SumAdamwOutIdeal.τ).loc Cert.SumAdamwOutIdeal.main_v0_3)),
      θ_run (Cert.SumAdamwOutIdeal.defs (F := Ideal)) (onTc (τ := Cert.SumAdamwOutIdeal.τ) (Cert.SumAdamwOutIdeal.main (F := Ideal))) ⟨m, fun _ => 0, g⟩ (fun r => ∀ c : Dev Cert.SumAdamwOutIdeal.nD,
          r.2.mem ((c.tc : Thread Cert.SumAdamwOutIdeal.nD Cert.SumAdamwOutIdeal.τ).loc Cert.SumAdamwOutIdeal.main_v0_0) = v0 c
          ∧ r.2.mem ((c.tc : Thread Cert.SumAdamwOutIdeal.nD Cert.SumAdamwOutIdeal.τ).loc Cert.SumAdamwOutIdeal.main_v0_1) = v1 c
          ∧ r.2.mem ((c.tc : Thread Cert.SumAdamwOutIdeal.nD Cert.SumAdamwOutIdeal.τ).loc Cert.SumAdamwOutIdeal.main_v0_2) = v2 c
          ∧ r.2.mem ((c.tc : Thread Cert.SumAdamwOutIdeal.nD Cert.SumAdamwOutIdeal.τ).loc Cert.SumAdamwOutIdeal.main_v0_3) = v3 c
          ∧ r.2.mem ((c.tc : Thread Cert.SumAdamwOutIdeal.nD Cert.SumAdamwOutIdeal.τ).loc Cert.SumAdamwOutIdeal.main_arg0) = m ((c.tc : Thread Cert.SumAdamwOutIdeal.nD Cert.SumAdamwOutIdeal.τ).loc Cert.SumAdamwOutIdeal.main_arg0)
          ∧ r.2.mem ((c.tc : Thread Cert.SumAdamwOutIdeal.nD Cert.SumAdamwOutIdeal.τ).loc Cert.SumAdamwOutIdeal.main_arg1) = m ((c.tc : Thread Cert.SumAdamwOutIdeal.nD Cert.SumAdamwOutIdeal.τ).loc Cert.SumAdamwOutIdeal.main_arg1)
          ∧ r.2.mem ((c.tc : Thread Cert.SumAdamwOutIdeal.nD Cert.SumAdamwOutIdeal.τ).loc Cert.SumAdamwOutIdeal.main_arg2) = m ((c.tc : Thread Cert.SumAdamwOutIdeal.nD Cert.SumAdamwOutIdeal.τ).loc Cert.SumAdamwOutIdeal.main_arg2)
          ∧ r.2.mem ((c.tc : Thread Cert.SumAdamwOutIdeal.nD Cert.SumAdamwOutIdeal.τ).loc Cert.SumAdamwOutIdeal.main_arg3) = m ((c.tc : Thread Cert.SumAdamwOutIdeal.nD Cert.SumAdamwOutIdeal.τ).loc Cert.SumAdamwOutIdeal.main_arg3)
          ∧ r.2.mem ((c.tc : Thread Cert.SumAdamwOutIdeal.nD Cert.SumAdamwOutIdeal.τ).loc Cert.SumAdamwOutIdeal.main_arg4) = m ((c.tc : Thread Cert.SumAdamwOutIdeal.nD Cert.SumAdamwOutIdeal.τ).loc Cert.SumAdamwOutIdeal.main_arg4))
      ∧ θ_run (Cert.SumAdamwOutReferenceIdeal.defs (F := Ideal)) (onTc (τ := Cert.SumAdamwOutReferenceIdeal.τ) (Cert.SumAdamwOutReferenceIdeal.main (F := Ideal))) ⟨m', fun _ => 0, g'⟩ (fun r => ∀ c : Dev Cert.SumAdamwOutReferenceIdeal.nD,
          r.2.mem ((c.tc : Thread Cert.SumAdamwOutReferenceIdeal.nD Cert.SumAdamwOutReferenceIdeal.τ).loc Cert.SumAdamwOutReferenceIdeal.main_v5) = v0 c
          ∧ r.2.mem ((c.tc : Thread Cert.SumAdamwOutReferenceIdeal.nD Cert.SumAdamwOutReferenceIdeal.τ).loc Cert.SumAdamwOutReferenceIdeal.main_v29) = v1 c
          ∧ r.2.mem ((c.tc : Thread Cert.SumAdamwOutReferenceIdeal.nD Cert.SumAdamwOutReferenceIdeal.τ).loc Cert.SumAdamwOutReferenceIdeal.main_v10) = v2 c
          ∧ r.2.mem ((c.tc : Thread Cert.SumAdamwOutReferenceIdeal.nD Cert.SumAdamwOutReferenceIdeal.τ).loc Cert.SumAdamwOutReferenceIdeal.main_v16) = v3 c
          ∧ r.2.mem ((c.tc : Thread Cert.SumAdamwOutReferenceIdeal.nD Cert.SumAdamwOutReferenceIdeal.τ).loc Cert.SumAdamwOutReferenceIdeal.main_arg0) = m' ((c.tc : Thread Cert.SumAdamwOutReferenceIdeal.nD Cert.SumAdamwOutReferenceIdeal.τ).loc Cert.SumAdamwOutReferenceIdeal.main_arg0)
          ∧ r.2.mem ((c.tc : Thread Cert.SumAdamwOutReferenceIdeal.nD Cert.SumAdamwOutReferenceIdeal.τ).loc Cert.SumAdamwOutReferenceIdeal.main_arg1) = m' ((c.tc : Thread Cert.SumAdamwOutReferenceIdeal.nD Cert.SumAdamwOutReferenceIdeal.τ).loc Cert.SumAdamwOutReferenceIdeal.main_arg1)
          ∧ r.2.mem ((c.tc : Thread Cert.SumAdamwOutReferenceIdeal.nD Cert.SumAdamwOutReferenceIdeal.τ).loc Cert.SumAdamwOutReferenceIdeal.main_arg2) = m' ((c.tc : Thread Cert.SumAdamwOutReferenceIdeal.nD Cert.SumAdamwOutReferenceIdeal.τ).loc Cert.SumAdamwOutReferenceIdeal.main_arg2)
          ∧ r.2.mem ((c.tc : Thread Cert.SumAdamwOutReferenceIdeal.nD Cert.SumAdamwOutReferenceIdeal.τ).loc Cert.SumAdamwOutReferenceIdeal.main_arg3) = m' ((c.tc : Thread Cert.SumAdamwOutReferenceIdeal.nD Cert.SumAdamwOutReferenceIdeal.τ).loc Cert.SumAdamwOutReferenceIdeal.main_arg3)
          ∧ r.2.mem ((c.tc : Thread Cert.SumAdamwOutReferenceIdeal.nD Cert.SumAdamwOutReferenceIdeal.τ).loc Cert.SumAdamwOutReferenceIdeal.main_arg4) = m' ((c.tc : Thread Cert.SumAdamwOutReferenceIdeal.nD Cert.SumAdamwOutReferenceIdeal.τ).loc Cert.SumAdamwOutReferenceIdeal.main_arg4))

def preserves_SumAdamwMlpIn_SumAdamwMlpInIdeal : Prop :=
  True

def algebraic_SumAdamwMlpInIdeal_SumAdamwMlpInReferenceIdeal [hSumAdamwMlpInIdeal : Cert.SumAdamwMlpInIdeal.Facts] [hSumAdamwMlpInReferenceIdeal : Cert.SumAdamwMlpInReferenceIdeal.Facts] : Prop :=
  ∀ (m : (ℓ : Loc Cert.SumAdamwMlpInIdeal.nD Cert.SumAdamwMlpInIdeal.τ Cert.SumAdamwMlpInIdeal.sig) → Buf (Elt Ideal) ℓ) (g : Dev Cert.SumAdamwMlpInIdeal.nD → PrngReg)
    (m' : (ℓ : Loc Cert.SumAdamwMlpInReferenceIdeal.nD Cert.SumAdamwMlpInReferenceIdeal.τ Cert.SumAdamwMlpInReferenceIdeal.sig) → Buf (Elt Ideal) ℓ) (g' : Dev Cert.SumAdamwMlpInReferenceIdeal.nD → PrngReg), Pre_SumAdamwMlpInIdeal m →
    (∀ c : Dev Cert.SumAdamwMlpInIdeal.nD,
      m' ((c.tc : Thread Cert.SumAdamwMlpInReferenceIdeal.nD Cert.SumAdamwMlpInReferenceIdeal.τ).loc Cert.SumAdamwMlpInReferenceIdeal.main_arg0) = m ((c.tc : Thread Cert.SumAdamwMlpInIdeal.nD Cert.SumAdamwMlpInIdeal.τ).loc Cert.SumAdamwMlpInIdeal.main_arg0)
      ∧ m' ((c.tc : Thread Cert.SumAdamwMlpInReferenceIdeal.nD Cert.SumAdamwMlpInReferenceIdeal.τ).loc Cert.SumAdamwMlpInReferenceIdeal.main_arg1) = m ((c.tc : Thread Cert.SumAdamwMlpInIdeal.nD Cert.SumAdamwMlpInIdeal.τ).loc Cert.SumAdamwMlpInIdeal.main_arg1)
      ∧ m' ((c.tc : Thread Cert.SumAdamwMlpInReferenceIdeal.nD Cert.SumAdamwMlpInReferenceIdeal.τ).loc Cert.SumAdamwMlpInReferenceIdeal.main_arg2) = m ((c.tc : Thread Cert.SumAdamwMlpInIdeal.nD Cert.SumAdamwMlpInIdeal.τ).loc Cert.SumAdamwMlpInIdeal.main_arg2)
      ∧ m' ((c.tc : Thread Cert.SumAdamwMlpInReferenceIdeal.nD Cert.SumAdamwMlpInReferenceIdeal.τ).loc Cert.SumAdamwMlpInReferenceIdeal.main_arg3) = m ((c.tc : Thread Cert.SumAdamwMlpInIdeal.nD Cert.SumAdamwMlpInIdeal.τ).loc Cert.SumAdamwMlpInIdeal.main_arg3)
      ∧ m' ((c.tc : Thread Cert.SumAdamwMlpInReferenceIdeal.nD Cert.SumAdamwMlpInReferenceIdeal.τ).loc Cert.SumAdamwMlpInReferenceIdeal.main_arg4) = m ((c.tc : Thread Cert.SumAdamwMlpInIdeal.nD Cert.SumAdamwMlpInIdeal.τ).loc Cert.SumAdamwMlpInIdeal.main_arg4)
      ∧ m' ((c.tc : Thread Cert.SumAdamwMlpInReferenceIdeal.nD Cert.SumAdamwMlpInReferenceIdeal.τ).loc Cert.SumAdamwMlpInReferenceIdeal.main_arg5) = m ((c.tc : Thread Cert.SumAdamwMlpInIdeal.nD Cert.SumAdamwMlpInIdeal.τ).loc Cert.SumAdamwMlpInIdeal.main_arg5)) →
    ∃ (v0 : (c : Dev Cert.SumAdamwMlpInIdeal.nD) → Buf (Elt Ideal) ((c.tc : Thread Cert.SumAdamwMlpInIdeal.nD Cert.SumAdamwMlpInIdeal.τ).loc Cert.SumAdamwMlpInIdeal.main_v0_0)) (v1 : (c : Dev Cert.SumAdamwMlpInIdeal.nD) → Buf (Elt Ideal) ((c.tc : Thread Cert.SumAdamwMlpInIdeal.nD Cert.SumAdamwMlpInIdeal.τ).loc Cert.SumAdamwMlpInIdeal.main_v0_1)) (v2 : (c : Dev Cert.SumAdamwMlpInIdeal.nD) → Buf (Elt Ideal) ((c.tc : Thread Cert.SumAdamwMlpInIdeal.nD Cert.SumAdamwMlpInIdeal.τ).loc Cert.SumAdamwMlpInIdeal.main_v0_2)) (v3 : (c : Dev Cert.SumAdamwMlpInIdeal.nD) → Buf (Elt Ideal) ((c.tc : Thread Cert.SumAdamwMlpInIdeal.nD Cert.SumAdamwMlpInIdeal.τ).loc Cert.SumAdamwMlpInIdeal.main_v0_3)),
      θ_run (Cert.SumAdamwMlpInIdeal.defs (F := Ideal)) (onTc (τ := Cert.SumAdamwMlpInIdeal.τ) (Cert.SumAdamwMlpInIdeal.main (F := Ideal))) ⟨m, fun _ => 0, g⟩ (fun r => ∀ c : Dev Cert.SumAdamwMlpInIdeal.nD,
          r.2.mem ((c.tc : Thread Cert.SumAdamwMlpInIdeal.nD Cert.SumAdamwMlpInIdeal.τ).loc Cert.SumAdamwMlpInIdeal.main_v0_0) = v0 c
          ∧ r.2.mem ((c.tc : Thread Cert.SumAdamwMlpInIdeal.nD Cert.SumAdamwMlpInIdeal.τ).loc Cert.SumAdamwMlpInIdeal.main_v0_1) = v1 c
          ∧ r.2.mem ((c.tc : Thread Cert.SumAdamwMlpInIdeal.nD Cert.SumAdamwMlpInIdeal.τ).loc Cert.SumAdamwMlpInIdeal.main_v0_2) = v2 c
          ∧ r.2.mem ((c.tc : Thread Cert.SumAdamwMlpInIdeal.nD Cert.SumAdamwMlpInIdeal.τ).loc Cert.SumAdamwMlpInIdeal.main_v0_3) = v3 c
          ∧ r.2.mem ((c.tc : Thread Cert.SumAdamwMlpInIdeal.nD Cert.SumAdamwMlpInIdeal.τ).loc Cert.SumAdamwMlpInIdeal.main_arg0) = m ((c.tc : Thread Cert.SumAdamwMlpInIdeal.nD Cert.SumAdamwMlpInIdeal.τ).loc Cert.SumAdamwMlpInIdeal.main_arg0)
          ∧ r.2.mem ((c.tc : Thread Cert.SumAdamwMlpInIdeal.nD Cert.SumAdamwMlpInIdeal.τ).loc Cert.SumAdamwMlpInIdeal.main_arg1) = m ((c.tc : Thread Cert.SumAdamwMlpInIdeal.nD Cert.SumAdamwMlpInIdeal.τ).loc Cert.SumAdamwMlpInIdeal.main_arg1)
          ∧ r.2.mem ((c.tc : Thread Cert.SumAdamwMlpInIdeal.nD Cert.SumAdamwMlpInIdeal.τ).loc Cert.SumAdamwMlpInIdeal.main_arg2) = m ((c.tc : Thread Cert.SumAdamwMlpInIdeal.nD Cert.SumAdamwMlpInIdeal.τ).loc Cert.SumAdamwMlpInIdeal.main_arg2)
          ∧ r.2.mem ((c.tc : Thread Cert.SumAdamwMlpInIdeal.nD Cert.SumAdamwMlpInIdeal.τ).loc Cert.SumAdamwMlpInIdeal.main_arg3) = m ((c.tc : Thread Cert.SumAdamwMlpInIdeal.nD Cert.SumAdamwMlpInIdeal.τ).loc Cert.SumAdamwMlpInIdeal.main_arg3)
          ∧ r.2.mem ((c.tc : Thread Cert.SumAdamwMlpInIdeal.nD Cert.SumAdamwMlpInIdeal.τ).loc Cert.SumAdamwMlpInIdeal.main_arg4) = m ((c.tc : Thread Cert.SumAdamwMlpInIdeal.nD Cert.SumAdamwMlpInIdeal.τ).loc Cert.SumAdamwMlpInIdeal.main_arg4)
          ∧ r.2.mem ((c.tc : Thread Cert.SumAdamwMlpInIdeal.nD Cert.SumAdamwMlpInIdeal.τ).loc Cert.SumAdamwMlpInIdeal.main_arg5) = m ((c.tc : Thread Cert.SumAdamwMlpInIdeal.nD Cert.SumAdamwMlpInIdeal.τ).loc Cert.SumAdamwMlpInIdeal.main_arg5))
      ∧ θ_run (Cert.SumAdamwMlpInReferenceIdeal.defs (F := Ideal)) (onTc (τ := Cert.SumAdamwMlpInReferenceIdeal.τ) (Cert.SumAdamwMlpInReferenceIdeal.main (F := Ideal))) ⟨m', fun _ => 0, g'⟩ (fun r => ∀ c : Dev Cert.SumAdamwMlpInReferenceIdeal.nD,
          r.2.mem ((c.tc : Thread Cert.SumAdamwMlpInReferenceIdeal.nD Cert.SumAdamwMlpInReferenceIdeal.τ).loc Cert.SumAdamwMlpInReferenceIdeal.main_v9) = v0 c
          ∧ r.2.mem ((c.tc : Thread Cert.SumAdamwMlpInReferenceIdeal.nD Cert.SumAdamwMlpInReferenceIdeal.τ).loc Cert.SumAdamwMlpInReferenceIdeal.main_v33) = v1 c
          ∧ r.2.mem ((c.tc : Thread Cert.SumAdamwMlpInReferenceIdeal.nD Cert.SumAdamwMlpInReferenceIdeal.τ).loc Cert.SumAdamwMlpInReferenceIdeal.main_v14) = v2 c
          ∧ r.2.mem ((c.tc : Thread Cert.SumAdamwMlpInReferenceIdeal.nD Cert.SumAdamwMlpInReferenceIdeal.τ).loc Cert.SumAdamwMlpInReferenceIdeal.main_v20) = v3 c
          ∧ r.2.mem ((c.tc : Thread Cert.SumAdamwMlpInReferenceIdeal.nD Cert.SumAdamwMlpInReferenceIdeal.τ).loc Cert.SumAdamwMlpInReferenceIdeal.main_arg0) = m' ((c.tc : Thread Cert.SumAdamwMlpInReferenceIdeal.nD Cert.SumAdamwMlpInReferenceIdeal.τ).loc Cert.SumAdamwMlpInReferenceIdeal.main_arg0)
          ∧ r.2.mem ((c.tc : Thread Cert.SumAdamwMlpInReferenceIdeal.nD Cert.SumAdamwMlpInReferenceIdeal.τ).loc Cert.SumAdamwMlpInReferenceIdeal.main_arg1) = m' ((c.tc : Thread Cert.SumAdamwMlpInReferenceIdeal.nD Cert.SumAdamwMlpInReferenceIdeal.τ).loc Cert.SumAdamwMlpInReferenceIdeal.main_arg1)
          ∧ r.2.mem ((c.tc : Thread Cert.SumAdamwMlpInReferenceIdeal.nD Cert.SumAdamwMlpInReferenceIdeal.τ).loc Cert.SumAdamwMlpInReferenceIdeal.main_arg2) = m' ((c.tc : Thread Cert.SumAdamwMlpInReferenceIdeal.nD Cert.SumAdamwMlpInReferenceIdeal.τ).loc Cert.SumAdamwMlpInReferenceIdeal.main_arg2)
          ∧ r.2.mem ((c.tc : Thread Cert.SumAdamwMlpInReferenceIdeal.nD Cert.SumAdamwMlpInReferenceIdeal.τ).loc Cert.SumAdamwMlpInReferenceIdeal.main_arg3) = m' ((c.tc : Thread Cert.SumAdamwMlpInReferenceIdeal.nD Cert.SumAdamwMlpInReferenceIdeal.τ).loc Cert.SumAdamwMlpInReferenceIdeal.main_arg3)
          ∧ r.2.mem ((c.tc : Thread Cert.SumAdamwMlpInReferenceIdeal.nD Cert.SumAdamwMlpInReferenceIdeal.τ).loc Cert.SumAdamwMlpInReferenceIdeal.main_arg4) = m' ((c.tc : Thread Cert.SumAdamwMlpInReferenceIdeal.nD Cert.SumAdamwMlpInReferenceIdeal.τ).loc Cert.SumAdamwMlpInReferenceIdeal.main_arg4)
          ∧ r.2.mem ((c.tc : Thread Cert.SumAdamwMlpInReferenceIdeal.nD Cert.SumAdamwMlpInReferenceIdeal.τ).loc Cert.SumAdamwMlpInReferenceIdeal.main_arg5) = m' ((c.tc : Thread Cert.SumAdamwMlpInReferenceIdeal.nD Cert.SumAdamwMlpInReferenceIdeal.τ).loc Cert.SumAdamwMlpInReferenceIdeal.main_arg5))

def preserves_SumAdamwMlpOut_SumAdamwMlpOutIdeal : Prop :=
  True

def algebraic_SumAdamwMlpOutIdeal_SumAdamwMlpOutReferenceIdeal [hSumAdamwMlpOutIdeal : Cert.SumAdamwMlpOutIdeal.Facts] [hSumAdamwMlpOutReferenceIdeal : Cert.SumAdamwMlpOutReferenceIdeal.Facts] : Prop :=
  ∀ (m : (ℓ : Loc Cert.SumAdamwMlpOutIdeal.nD Cert.SumAdamwMlpOutIdeal.τ Cert.SumAdamwMlpOutIdeal.sig) → Buf (Elt Ideal) ℓ) (g : Dev Cert.SumAdamwMlpOutIdeal.nD → PrngReg)
    (m' : (ℓ : Loc Cert.SumAdamwMlpOutReferenceIdeal.nD Cert.SumAdamwMlpOutReferenceIdeal.τ Cert.SumAdamwMlpOutReferenceIdeal.sig) → Buf (Elt Ideal) ℓ) (g' : Dev Cert.SumAdamwMlpOutReferenceIdeal.nD → PrngReg), Pre_SumAdamwMlpOutIdeal m →
    (∀ c : Dev Cert.SumAdamwMlpOutIdeal.nD,
      m' ((c.tc : Thread Cert.SumAdamwMlpOutReferenceIdeal.nD Cert.SumAdamwMlpOutReferenceIdeal.τ).loc Cert.SumAdamwMlpOutReferenceIdeal.main_arg0) = m ((c.tc : Thread Cert.SumAdamwMlpOutIdeal.nD Cert.SumAdamwMlpOutIdeal.τ).loc Cert.SumAdamwMlpOutIdeal.main_arg0)
      ∧ m' ((c.tc : Thread Cert.SumAdamwMlpOutReferenceIdeal.nD Cert.SumAdamwMlpOutReferenceIdeal.τ).loc Cert.SumAdamwMlpOutReferenceIdeal.main_arg1) = m ((c.tc : Thread Cert.SumAdamwMlpOutIdeal.nD Cert.SumAdamwMlpOutIdeal.τ).loc Cert.SumAdamwMlpOutIdeal.main_arg1)
      ∧ m' ((c.tc : Thread Cert.SumAdamwMlpOutReferenceIdeal.nD Cert.SumAdamwMlpOutReferenceIdeal.τ).loc Cert.SumAdamwMlpOutReferenceIdeal.main_arg2) = m ((c.tc : Thread Cert.SumAdamwMlpOutIdeal.nD Cert.SumAdamwMlpOutIdeal.τ).loc Cert.SumAdamwMlpOutIdeal.main_arg2)
      ∧ m' ((c.tc : Thread Cert.SumAdamwMlpOutReferenceIdeal.nD Cert.SumAdamwMlpOutReferenceIdeal.τ).loc Cert.SumAdamwMlpOutReferenceIdeal.main_arg3) = m ((c.tc : Thread Cert.SumAdamwMlpOutIdeal.nD Cert.SumAdamwMlpOutIdeal.τ).loc Cert.SumAdamwMlpOutIdeal.main_arg3)
      ∧ m' ((c.tc : Thread Cert.SumAdamwMlpOutReferenceIdeal.nD Cert.SumAdamwMlpOutReferenceIdeal.τ).loc Cert.SumAdamwMlpOutReferenceIdeal.main_arg4) = m ((c.tc : Thread Cert.SumAdamwMlpOutIdeal.nD Cert.SumAdamwMlpOutIdeal.τ).loc Cert.SumAdamwMlpOutIdeal.main_arg4)
      ∧ m' ((c.tc : Thread Cert.SumAdamwMlpOutReferenceIdeal.nD Cert.SumAdamwMlpOutReferenceIdeal.τ).loc Cert.SumAdamwMlpOutReferenceIdeal.main_arg5) = m ((c.tc : Thread Cert.SumAdamwMlpOutIdeal.nD Cert.SumAdamwMlpOutIdeal.τ).loc Cert.SumAdamwMlpOutIdeal.main_arg5)) →
    ∃ (v0 : (c : Dev Cert.SumAdamwMlpOutIdeal.nD) → Buf (Elt Ideal) ((c.tc : Thread Cert.SumAdamwMlpOutIdeal.nD Cert.SumAdamwMlpOutIdeal.τ).loc Cert.SumAdamwMlpOutIdeal.main_v0_0)) (v1 : (c : Dev Cert.SumAdamwMlpOutIdeal.nD) → Buf (Elt Ideal) ((c.tc : Thread Cert.SumAdamwMlpOutIdeal.nD Cert.SumAdamwMlpOutIdeal.τ).loc Cert.SumAdamwMlpOutIdeal.main_v0_1)) (v2 : (c : Dev Cert.SumAdamwMlpOutIdeal.nD) → Buf (Elt Ideal) ((c.tc : Thread Cert.SumAdamwMlpOutIdeal.nD Cert.SumAdamwMlpOutIdeal.τ).loc Cert.SumAdamwMlpOutIdeal.main_v0_2)) (v3 : (c : Dev Cert.SumAdamwMlpOutIdeal.nD) → Buf (Elt Ideal) ((c.tc : Thread Cert.SumAdamwMlpOutIdeal.nD Cert.SumAdamwMlpOutIdeal.τ).loc Cert.SumAdamwMlpOutIdeal.main_v0_3)),
      θ_run (Cert.SumAdamwMlpOutIdeal.defs (F := Ideal)) (onTc (τ := Cert.SumAdamwMlpOutIdeal.τ) (Cert.SumAdamwMlpOutIdeal.main (F := Ideal))) ⟨m, fun _ => 0, g⟩ (fun r => ∀ c : Dev Cert.SumAdamwMlpOutIdeal.nD,
          r.2.mem ((c.tc : Thread Cert.SumAdamwMlpOutIdeal.nD Cert.SumAdamwMlpOutIdeal.τ).loc Cert.SumAdamwMlpOutIdeal.main_v0_0) = v0 c
          ∧ r.2.mem ((c.tc : Thread Cert.SumAdamwMlpOutIdeal.nD Cert.SumAdamwMlpOutIdeal.τ).loc Cert.SumAdamwMlpOutIdeal.main_v0_1) = v1 c
          ∧ r.2.mem ((c.tc : Thread Cert.SumAdamwMlpOutIdeal.nD Cert.SumAdamwMlpOutIdeal.τ).loc Cert.SumAdamwMlpOutIdeal.main_v0_2) = v2 c
          ∧ r.2.mem ((c.tc : Thread Cert.SumAdamwMlpOutIdeal.nD Cert.SumAdamwMlpOutIdeal.τ).loc Cert.SumAdamwMlpOutIdeal.main_v0_3) = v3 c
          ∧ r.2.mem ((c.tc : Thread Cert.SumAdamwMlpOutIdeal.nD Cert.SumAdamwMlpOutIdeal.τ).loc Cert.SumAdamwMlpOutIdeal.main_arg0) = m ((c.tc : Thread Cert.SumAdamwMlpOutIdeal.nD Cert.SumAdamwMlpOutIdeal.τ).loc Cert.SumAdamwMlpOutIdeal.main_arg0)
          ∧ r.2.mem ((c.tc : Thread Cert.SumAdamwMlpOutIdeal.nD Cert.SumAdamwMlpOutIdeal.τ).loc Cert.SumAdamwMlpOutIdeal.main_arg1) = m ((c.tc : Thread Cert.SumAdamwMlpOutIdeal.nD Cert.SumAdamwMlpOutIdeal.τ).loc Cert.SumAdamwMlpOutIdeal.main_arg1)
          ∧ r.2.mem ((c.tc : Thread Cert.SumAdamwMlpOutIdeal.nD Cert.SumAdamwMlpOutIdeal.τ).loc Cert.SumAdamwMlpOutIdeal.main_arg2) = m ((c.tc : Thread Cert.SumAdamwMlpOutIdeal.nD Cert.SumAdamwMlpOutIdeal.τ).loc Cert.SumAdamwMlpOutIdeal.main_arg2)
          ∧ r.2.mem ((c.tc : Thread Cert.SumAdamwMlpOutIdeal.nD Cert.SumAdamwMlpOutIdeal.τ).loc Cert.SumAdamwMlpOutIdeal.main_arg3) = m ((c.tc : Thread Cert.SumAdamwMlpOutIdeal.nD Cert.SumAdamwMlpOutIdeal.τ).loc Cert.SumAdamwMlpOutIdeal.main_arg3)
          ∧ r.2.mem ((c.tc : Thread Cert.SumAdamwMlpOutIdeal.nD Cert.SumAdamwMlpOutIdeal.τ).loc Cert.SumAdamwMlpOutIdeal.main_arg4) = m ((c.tc : Thread Cert.SumAdamwMlpOutIdeal.nD Cert.SumAdamwMlpOutIdeal.τ).loc Cert.SumAdamwMlpOutIdeal.main_arg4)
          ∧ r.2.mem ((c.tc : Thread Cert.SumAdamwMlpOutIdeal.nD Cert.SumAdamwMlpOutIdeal.τ).loc Cert.SumAdamwMlpOutIdeal.main_arg5) = m ((c.tc : Thread Cert.SumAdamwMlpOutIdeal.nD Cert.SumAdamwMlpOutIdeal.τ).loc Cert.SumAdamwMlpOutIdeal.main_arg5))
      ∧ θ_run (Cert.SumAdamwMlpOutReferenceIdeal.defs (F := Ideal)) (onTc (τ := Cert.SumAdamwMlpOutReferenceIdeal.τ) (Cert.SumAdamwMlpOutReferenceIdeal.main (F := Ideal))) ⟨m', fun _ => 0, g'⟩ (fun r => ∀ c : Dev Cert.SumAdamwMlpOutReferenceIdeal.nD,
          r.2.mem ((c.tc : Thread Cert.SumAdamwMlpOutReferenceIdeal.nD Cert.SumAdamwMlpOutReferenceIdeal.τ).loc Cert.SumAdamwMlpOutReferenceIdeal.main_v8) = v0 c
          ∧ r.2.mem ((c.tc : Thread Cert.SumAdamwMlpOutReferenceIdeal.nD Cert.SumAdamwMlpOutReferenceIdeal.τ).loc Cert.SumAdamwMlpOutReferenceIdeal.main_v32) = v1 c
          ∧ r.2.mem ((c.tc : Thread Cert.SumAdamwMlpOutReferenceIdeal.nD Cert.SumAdamwMlpOutReferenceIdeal.τ).loc Cert.SumAdamwMlpOutReferenceIdeal.main_v13) = v2 c
          ∧ r.2.mem ((c.tc : Thread Cert.SumAdamwMlpOutReferenceIdeal.nD Cert.SumAdamwMlpOutReferenceIdeal.τ).loc Cert.SumAdamwMlpOutReferenceIdeal.main_v19) = v3 c
          ∧ r.2.mem ((c.tc : Thread Cert.SumAdamwMlpOutReferenceIdeal.nD Cert.SumAdamwMlpOutReferenceIdeal.τ).loc Cert.SumAdamwMlpOutReferenceIdeal.main_arg0) = m' ((c.tc : Thread Cert.SumAdamwMlpOutReferenceIdeal.nD Cert.SumAdamwMlpOutReferenceIdeal.τ).loc Cert.SumAdamwMlpOutReferenceIdeal.main_arg0)
          ∧ r.2.mem ((c.tc : Thread Cert.SumAdamwMlpOutReferenceIdeal.nD Cert.SumAdamwMlpOutReferenceIdeal.τ).loc Cert.SumAdamwMlpOutReferenceIdeal.main_arg1) = m' ((c.tc : Thread Cert.SumAdamwMlpOutReferenceIdeal.nD Cert.SumAdamwMlpOutReferenceIdeal.τ).loc Cert.SumAdamwMlpOutReferenceIdeal.main_arg1)
          ∧ r.2.mem ((c.tc : Thread Cert.SumAdamwMlpOutReferenceIdeal.nD Cert.SumAdamwMlpOutReferenceIdeal.τ).loc Cert.SumAdamwMlpOutReferenceIdeal.main_arg2) = m' ((c.tc : Thread Cert.SumAdamwMlpOutReferenceIdeal.nD Cert.SumAdamwMlpOutReferenceIdeal.τ).loc Cert.SumAdamwMlpOutReferenceIdeal.main_arg2)
          ∧ r.2.mem ((c.tc : Thread Cert.SumAdamwMlpOutReferenceIdeal.nD Cert.SumAdamwMlpOutReferenceIdeal.τ).loc Cert.SumAdamwMlpOutReferenceIdeal.main_arg3) = m' ((c.tc : Thread Cert.SumAdamwMlpOutReferenceIdeal.nD Cert.SumAdamwMlpOutReferenceIdeal.τ).loc Cert.SumAdamwMlpOutReferenceIdeal.main_arg3)
          ∧ r.2.mem ((c.tc : Thread Cert.SumAdamwMlpOutReferenceIdeal.nD Cert.SumAdamwMlpOutReferenceIdeal.τ).loc Cert.SumAdamwMlpOutReferenceIdeal.main_arg4) = m' ((c.tc : Thread Cert.SumAdamwMlpOutReferenceIdeal.nD Cert.SumAdamwMlpOutReferenceIdeal.τ).loc Cert.SumAdamwMlpOutReferenceIdeal.main_arg4)
          ∧ r.2.mem ((c.tc : Thread Cert.SumAdamwMlpOutReferenceIdeal.nD Cert.SumAdamwMlpOutReferenceIdeal.τ).loc Cert.SumAdamwMlpOutReferenceIdeal.main_arg5) = m' ((c.tc : Thread Cert.SumAdamwMlpOutReferenceIdeal.nD Cert.SumAdamwMlpOutReferenceIdeal.τ).loc Cert.SumAdamwMlpOutReferenceIdeal.main_arg5))

def Claim : Prop :=
  ∃ (hMlpOutDx : Cert.MlpOutDx.Facts) (hMlpOutDxIdeal : Cert.MlpOutDxIdeal.Facts) (hMlpOutDxReferenceIdeal : Cert.MlpOutDxReferenceIdeal.Facts) (hOutProjDx : Cert.OutProjDx.Facts) (hOutProjDxIdeal : Cert.OutProjDxIdeal.Facts) (hOutProjDxReferenceIdeal : Cert.OutProjDxReferenceIdeal.Facts) (hMlpOutDw : Cert.MlpOutDw.Facts) (hMlpOutDwIdeal : Cert.MlpOutDwIdeal.Facts) (hMlpOutDwReferenceIdeal : Cert.MlpOutDwReferenceIdeal.Facts) (hMlpInDx : Cert.MlpInDx.Facts) (hMlpInDxIdeal : Cert.MlpInDxIdeal.Facts) (hMlpInDxReferenceIdeal : Cert.MlpInDxReferenceIdeal.Facts) (hMlpInDw : Cert.MlpInDw.Facts) (hMlpInDwIdeal : Cert.MlpInDwIdeal.Facts) (hMlpInDwReferenceIdeal : Cert.MlpInDwReferenceIdeal.Facts) (hOutProjDw : Cert.OutProjDw.Facts) (hOutProjDwIdeal : Cert.OutProjDwIdeal.Facts) (hOutProjDwReferenceIdeal : Cert.OutProjDwReferenceIdeal.Facts) (hBranchDx : Cert.BranchDx.Facts) (hBranchDxIdeal : Cert.BranchDxIdeal.Facts) (hBranchDxReferenceIdeal : Cert.BranchDxReferenceIdeal.Facts) (hBranchDw : Cert.BranchDw.Facts) (hBranchDwIdeal : Cert.BranchDwIdeal.Facts) (hBranchDwReferenceIdeal : Cert.BranchDwReferenceIdeal.Facts) (hInProj : Cert.InProj.Facts) (hInProjIdeal : Cert.InProjIdeal.Facts) (hInProjReferenceIdeal : Cert.InProjReferenceIdeal.Facts) (hMlpIn : Cert.MlpIn.Facts) (hMlpInIdeal : Cert.MlpInIdeal.Facts) (hMlpInReferenceIdeal : Cert.MlpInReferenceIdeal.Facts) (hBranchMerge : Cert.BranchMerge.Facts) (hBranchMergeIdeal : Cert.BranchMergeIdeal.Facts) (hBranchMergeReferenceIdeal : Cert.BranchMergeReferenceIdeal.Facts) (hRmsFwd : Cert.RmsFwd.Facts) (hRmsFwdIdeal : Cert.RmsFwdIdeal.Facts) (hRmsFwdReferenceIdeal : Cert.RmsFwdReferenceIdeal.Facts) (hAdaUpdate : Cert.AdaUpdate.Facts) (hAdaUpdateIdeal : Cert.AdaUpdateIdeal.Facts) (hAdaUpdateReferenceIdeal : Cert.AdaUpdateReferenceIdeal.Facts) (hAdamwSmall : Cert.AdamwSmall.Facts) (hAdamwSmallIdeal : Cert.AdamwSmallIdeal.Facts) (hAdamwSmallReferenceIdeal : Cert.AdamwSmallReferenceIdeal.Facts) (hSumAdamwIn : Cert.SumAdamwIn.Facts) (hSumAdamwInIdeal : Cert.SumAdamwInIdeal.Facts) (hSumAdamwInReferenceIdeal : Cert.SumAdamwInReferenceIdeal.Facts) (hSumAdamwBranch : Cert.SumAdamwBranch.Facts) (hSumAdamwBranchIdeal : Cert.SumAdamwBranchIdeal.Facts) (hSumAdamwBranchReferenceIdeal : Cert.SumAdamwBranchReferenceIdeal.Facts) (hSumAdamwOut : Cert.SumAdamwOut.Facts) (hSumAdamwOutIdeal : Cert.SumAdamwOutIdeal.Facts) (hSumAdamwOutReferenceIdeal : Cert.SumAdamwOutReferenceIdeal.Facts) (hSumAdamwMlpIn : Cert.SumAdamwMlpIn.Facts) (hSumAdamwMlpInIdeal : Cert.SumAdamwMlpInIdeal.Facts) (hSumAdamwMlpInReferenceIdeal : Cert.SumAdamwMlpInReferenceIdeal.Facts) (hSumAdamwMlpOut : Cert.SumAdamwMlpOut.Facts) (hSumAdamwMlpOutIdeal : Cert.SumAdamwMlpOutIdeal.Facts) (hSumAdamwMlpOutReferenceIdeal : Cert.SumAdamwMlpOutReferenceIdeal.Facts),
    quiescent_MlpOutDx (hMlpOutDx := hMlpOutDx)
    ∧ quiescent_MlpOutDxIdeal (hMlpOutDxIdeal := hMlpOutDxIdeal)
    ∧ quiescent_MlpOutDxReferenceIdeal (hMlpOutDxReferenceIdeal := hMlpOutDxReferenceIdeal)
    ∧ quiescent_OutProjDx (hOutProjDx := hOutProjDx)
    ∧ quiescent_OutProjDxIdeal (hOutProjDxIdeal := hOutProjDxIdeal)
    ∧ quiescent_OutProjDxReferenceIdeal (hOutProjDxReferenceIdeal := hOutProjDxReferenceIdeal)
    ∧ quiescent_MlpOutDw (hMlpOutDw := hMlpOutDw)
    ∧ quiescent_MlpOutDwIdeal (hMlpOutDwIdeal := hMlpOutDwIdeal)
    ∧ quiescent_MlpOutDwReferenceIdeal (hMlpOutDwReferenceIdeal := hMlpOutDwReferenceIdeal)
    ∧ quiescent_MlpInDx (hMlpInDx := hMlpInDx)
    ∧ quiescent_MlpInDxIdeal (hMlpInDxIdeal := hMlpInDxIdeal)
    ∧ quiescent_MlpInDxReferenceIdeal (hMlpInDxReferenceIdeal := hMlpInDxReferenceIdeal)
    ∧ quiescent_MlpInDw (hMlpInDw := hMlpInDw)
    ∧ quiescent_MlpInDwIdeal (hMlpInDwIdeal := hMlpInDwIdeal)
    ∧ quiescent_MlpInDwReferenceIdeal (hMlpInDwReferenceIdeal := hMlpInDwReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_BranchDx (hBranchDx := hBranchDx)
    ∧ quiescent_BranchDxIdeal (hBranchDxIdeal := hBranchDxIdeal)
    ∧ quiescent_BranchDxReferenceIdeal (hBranchDxReferenceIdeal := hBranchDxReferenceIdeal)
    ∧ quiescent_BranchDw (hBranchDw := hBranchDw)
    ∧ quiescent_BranchDwIdeal (hBranchDwIdeal := hBranchDwIdeal)
    ∧ quiescent_BranchDwReferenceIdeal (hBranchDwReferenceIdeal := hBranchDwReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MlpIn (hMlpIn := hMlpIn)
    ∧ quiescent_MlpInIdeal (hMlpInIdeal := hMlpInIdeal)
    ∧ quiescent_MlpInReferenceIdeal (hMlpInReferenceIdeal := hMlpInReferenceIdeal)
    ∧ quiescent_BranchMerge (hBranchMerge := hBranchMerge)
    ∧ quiescent_BranchMergeIdeal (hBranchMergeIdeal := hBranchMergeIdeal)
    ∧ quiescent_BranchMergeReferenceIdeal (hBranchMergeReferenceIdeal := hBranchMergeReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_AdaUpdate (hAdaUpdate := hAdaUpdate)
    ∧ quiescent_AdaUpdateIdeal (hAdaUpdateIdeal := hAdaUpdateIdeal)
    ∧ quiescent_AdaUpdateReferenceIdeal (hAdaUpdateReferenceIdeal := hAdaUpdateReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_SumAdamwIn (hSumAdamwIn := hSumAdamwIn)
    ∧ quiescent_SumAdamwInIdeal (hSumAdamwInIdeal := hSumAdamwInIdeal)
    ∧ quiescent_SumAdamwInReferenceIdeal (hSumAdamwInReferenceIdeal := hSumAdamwInReferenceIdeal)
    ∧ quiescent_SumAdamwBranch (hSumAdamwBranch := hSumAdamwBranch)
    ∧ quiescent_SumAdamwBranchIdeal (hSumAdamwBranchIdeal := hSumAdamwBranchIdeal)
    ∧ quiescent_SumAdamwBranchReferenceIdeal (hSumAdamwBranchReferenceIdeal := hSumAdamwBranchReferenceIdeal)
    ∧ quiescent_SumAdamwOut (hSumAdamwOut := hSumAdamwOut)
    ∧ quiescent_SumAdamwOutIdeal (hSumAdamwOutIdeal := hSumAdamwOutIdeal)
    ∧ quiescent_SumAdamwOutReferenceIdeal (hSumAdamwOutReferenceIdeal := hSumAdamwOutReferenceIdeal)
    ∧ quiescent_SumAdamwMlpIn (hSumAdamwMlpIn := hSumAdamwMlpIn)
    ∧ quiescent_SumAdamwMlpInIdeal (hSumAdamwMlpInIdeal := hSumAdamwMlpInIdeal)
    ∧ quiescent_SumAdamwMlpInReferenceIdeal (hSumAdamwMlpInReferenceIdeal := hSumAdamwMlpInReferenceIdeal)
    ∧ quiescent_SumAdamwMlpOut (hSumAdamwMlpOut := hSumAdamwMlpOut)
    ∧ quiescent_SumAdamwMlpOutIdeal (hSumAdamwMlpOutIdeal := hSumAdamwMlpOutIdeal)
    ∧ quiescent_SumAdamwMlpOutReferenceIdeal (hSumAdamwMlpOutReferenceIdeal := hSumAdamwMlpOutReferenceIdeal)
    ∧ preserves_MlpOutDx_MlpOutDxIdeal
    ∧ algebraic_MlpOutDxIdeal_MlpOutDxReferenceIdeal (hMlpOutDxIdeal := hMlpOutDxIdeal) (hMlpOutDxReferenceIdeal := hMlpOutDxReferenceIdeal)
    ∧ preserves_OutProjDx_OutProjDxIdeal
    ∧ algebraic_OutProjDxIdeal_OutProjDxReferenceIdeal (hOutProjDxIdeal := hOutProjDxIdeal) (hOutProjDxReferenceIdeal := hOutProjDxReferenceIdeal)
    ∧ preserves_MlpOutDw_MlpOutDwIdeal
    ∧ algebraic_MlpOutDwIdeal_MlpOutDwReferenceIdeal (hMlpOutDwIdeal := hMlpOutDwIdeal) (hMlpOutDwReferenceIdeal := hMlpOutDwReferenceIdeal)
    ∧ preserves_MlpInDx_MlpInDxIdeal
    ∧ algebraic_MlpInDxIdeal_MlpInDxReferenceIdeal (hMlpInDxIdeal := hMlpInDxIdeal) (hMlpInDxReferenceIdeal := hMlpInDxReferenceIdeal)
    ∧ preserves_MlpInDw_MlpInDwIdeal
    ∧ algebraic_MlpInDwIdeal_MlpInDwReferenceIdeal (hMlpInDwIdeal := hMlpInDwIdeal) (hMlpInDwReferenceIdeal := hMlpInDwReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_BranchDx_BranchDxIdeal
    ∧ algebraic_BranchDxIdeal_BranchDxReferenceIdeal (hBranchDxIdeal := hBranchDxIdeal) (hBranchDxReferenceIdeal := hBranchDxReferenceIdeal)
    ∧ preserves_BranchDw_BranchDwIdeal
    ∧ algebraic_BranchDwIdeal_BranchDwReferenceIdeal (hBranchDwIdeal := hBranchDwIdeal) (hBranchDwReferenceIdeal := hBranchDwReferenceIdeal)
    ∧ preserves_InProj_InProjIdeal
    ∧ algebraic_InProjIdeal_InProjReferenceIdeal (hInProjIdeal := hInProjIdeal) (hInProjReferenceIdeal := hInProjReferenceIdeal)
    ∧ preserves_MlpIn_MlpInIdeal
    ∧ algebraic_MlpInIdeal_MlpInReferenceIdeal (hMlpInIdeal := hMlpInIdeal) (hMlpInReferenceIdeal := hMlpInReferenceIdeal)
    ∧ preserves_BranchMerge_BranchMergeIdeal
    ∧ algebraic_BranchMergeIdeal_BranchMergeReferenceIdeal (hBranchMergeIdeal := hBranchMergeIdeal) (hBranchMergeReferenceIdeal := hBranchMergeReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_AdaUpdate_AdaUpdateIdeal
    ∧ algebraic_AdaUpdateIdeal_AdaUpdateReferenceIdeal (hAdaUpdateIdeal := hAdaUpdateIdeal) (hAdaUpdateReferenceIdeal := hAdaUpdateReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_SumAdamwIn_SumAdamwInIdeal
    ∧ algebraic_SumAdamwInIdeal_SumAdamwInReferenceIdeal (hSumAdamwInIdeal := hSumAdamwInIdeal) (hSumAdamwInReferenceIdeal := hSumAdamwInReferenceIdeal)
    ∧ preserves_SumAdamwBranch_SumAdamwBranchIdeal
    ∧ algebraic_SumAdamwBranchIdeal_SumAdamwBranchReferenceIdeal (hSumAdamwBranchIdeal := hSumAdamwBranchIdeal) (hSumAdamwBranchReferenceIdeal := hSumAdamwBranchReferenceIdeal)
    ∧ preserves_SumAdamwOut_SumAdamwOutIdeal
    ∧ algebraic_SumAdamwOutIdeal_SumAdamwOutReferenceIdeal (hSumAdamwOutIdeal := hSumAdamwOutIdeal) (hSumAdamwOutReferenceIdeal := hSumAdamwOutReferenceIdeal)
    ∧ preserves_SumAdamwMlpIn_SumAdamwMlpInIdeal
    ∧ algebraic_SumAdamwMlpInIdeal_SumAdamwMlpInReferenceIdeal (hSumAdamwMlpInIdeal := hSumAdamwMlpInIdeal) (hSumAdamwMlpInReferenceIdeal := hSumAdamwMlpInReferenceIdeal)
    ∧ preserves_SumAdamwMlpOut_SumAdamwMlpOutIdeal
    ∧ algebraic_SumAdamwMlpOutIdeal_SumAdamwMlpOutReferenceIdeal (hSumAdamwMlpOutIdeal := hSumAdamwMlpOutIdeal) (hSumAdamwMlpOutReferenceIdeal := hSumAdamwMlpOutReferenceIdeal)
-- ==== MlpOutDx.lean ====
abbrev S4096x2048 : Shape := ⟨2, ![4096, 2048]⟩
abbrev S8192x2048 : Shape := ⟨2, ![8192, 2048]⟩
abbrev S2048x8192 : Shape := ⟨2, ![2048, 8192]⟩
abbrev S4096x8192 : Shape := ⟨2, ![4096, 8192]⟩
abbrev S_ : Shape := ⟨0, ![]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 13
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S8192x2048, .f32⟩
  | .hbm, ⟨6, _⟩ => ⟨S2048x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .bf16⟩
  | .hbm, ⟨12, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDxReferenceIdeal.lean ====
abbrev S4096x2048 : Shape := ⟨2, ![4096, 2048]⟩
abbrev S8192x2048 : Shape := ⟨2, ![8192, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S8192x2048, .f32⟩
  | .hbm, ⟨6, _⟩ => ⟨S2048x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .i1⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S8192x2048, .f32⟩
  | .hbm, ⟨21, _⟩ => ⟨S4096x2048, .f32⟩
  | .hbm, ⟨22, _⟩ => ⟨S4096x2048, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S4096x9728 : Shape := ⟨2, ![4096, 9728]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x9728, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== OutProjDxReferenceIdeal.lean ====
abbrev S4096x2048 : Shape := ⟨2, ![4096, 2048]⟩
abbrev S2048x2048 : Shape := ⟨2, ![2048, 2048]⟩
abbrev S4096x9728 : Shape := ⟨2, ![4096, 9728]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .hbm, ⟨4, _⟩ => ⟨S4096x9728, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S2048x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S4096x2048, .bf16⟩
  | .hbm, ⟨48, _⟩ => ⟨S4096x2048, .bf16⟩
  | .hbm, ⟨49, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== MlpOutDw.lean ====
abbrev S4096x8192 : Shape := ⟨2, ![4096, 8192]⟩
abbrev S4096x2048 : Shape := ⟨2, ![4096, 2048]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c7_i32 : BitVec 32 := 7#32
  let v5 : BitVec 32 := Scalar.maxsi c0_i32_2 v4
  let v6 : BitVec 32 := Scalar.minsi c7_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpInDx.lean ====
abbrev S4096x8192 : Shape := ⟨2, ![4096, 8192]⟩
abbrev S8192x2048 : Shape := ⟨2, ![8192, 2048]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDxReferenceIdeal.lean ====
abbrev S4096x8192 : Shape := ⟨2, ![4096, 8192]⟩
abbrev S8192x2048 : Shape := ⟨2, ![8192, 2048]⟩
abbrev S_ : Shape := ⟨0, ![]⟩
abbrev S4096x2048 : Shape := ⟨2, ![4096, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlpInDw.lean ====
abbrev S4096x8192 : Shape := ⟨2, ![4096, 8192]⟩
abbrev S4096x2048 : Shape := ⟨2, ![4096, 2048]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c7_i32 : BitVec 32 := 7#32
  let v5 : BitVec 32 := Scalar.maxsi c0_i32_2 v4
  let v6 : BitVec 32 := Scalar.minsi c7_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProjDw.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchDx.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .bf16⟩
  | .hbm, ⟨3, _⟩ => ⟨S2048x1024, .bf16⟩
  | .hbm, ⟨4, _⟩ => ⟨S4096x1024, .f32⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== BranchDxReferenceIdeal.lean ====
abbrev S4096x2048 : Shape := ⟨2, ![4096, 2048]⟩
abbrev S2048x1024 : Shape := ⟨2, ![2048, 1024]⟩
abbrev S_ : Shape := ⟨0, ![]⟩
abbrev S4096x1024 : Shape := ⟨2, ![4096, 1024]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .bf16⟩
  | .hbm, ⟨3, _⟩ => ⟨S2048x1024, .bf16⟩
  | .hbm, ⟨4, _⟩ => ⟨S_, .f32⟩
  | .hbm, ⟨5, _⟩ => ⟨S4096x1024, .f32⟩
  | .hbm, ⟨6, _⟩ => ⟨S2048x1024, .f32⟩
  | .hbm, ⟨7, _⟩ => ⟨S1024x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== BranchDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S2048x1024, .bf16⟩
  | .hbm, ⟨5, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg2 : BitVec 32 := BitVec.ofNat 32 (i 2).val
  let c3_i32_16 : BitVec 32 := 3#32
  let v21 : BitVec 1 := Scalar.cmpi .eq arg2 c3_i32_16
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== BranchDwReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S4096x2048, .f32⟩
  | .hbm, ⟨9, _⟩ => ⟨S4096x1024, .f32⟩
  | .hbm, ⟨10, _⟩ => ⟨S1024x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S2048x1024, .f32⟩
  | .hbm, ⟨15, _⟩ => ⟨S1024x2048, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S2048x1024, .f32⟩
  | .hbm, ⟨20, _⟩ => ⟨S2048x1024, .bf16⟩
  | .hbm, ⟨21, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== InProj.lean ====
abbrev S4096x2048 : Shape := ⟨2, ![4096, 2048]⟩
abbrev S9728x2048 : Shape := ⟨2, ![9728, 2048]⟩
abbrev S4096x9728 : Shape := ⟨2, ![4096, 9728]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S9728x2048, .bf16⟩
  | .hbm, ⟨2, _⟩ => ⟨S4096x9728, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S4096x2048 : Shape := ⟨2, ![4096, 2048]⟩
abbrev S9728x2048 : Shape := ⟨2, ![9728, 2048]⟩
abbrev S2048x9728 : Shape := ⟨2, ![2048, 9728]⟩
abbrev S4096x9728 : Shape := ⟨2, ![4096, 9728]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S9728x2048, .bf16⟩
  | .hbm, ⟨2, _⟩ => ⟨S4096x2048, .f32⟩
  | .hbm, ⟨3, _⟩ => ⟨S9728x2048, .f32⟩
  | .hbm, ⟨4, _⟩ => ⟨S2048x9728, .f32⟩
  | .hbm, ⟨5, _⟩ => ⟨S4096x9728, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlpIn.lean ====
abbrev S4096x2048 : Shape := ⟨2, ![4096, 2048]⟩
abbrev S8192x2048 : Shape := ⟨2, ![8192, 2048]⟩
abbrev S4096x8192 : Shape := ⟨2, ![4096, 8192]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInReferenceIdeal.lean ====
abbrev S4096x2048 : Shape := ⟨2, ![4096, 2048]⟩
abbrev S8192x2048 : Shape := ⟨2, ![8192, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x2048, .f32⟩
  | .hbm, ⟨3, _⟩ => ⟨S8192x2048, .f32⟩
  | .hbm, ⟨4, _⟩ => ⟨S2048x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== BranchMerge.lean ====
abbrev S4096x1024 : Shape := ⟨2, ![4096, 1024]⟩
abbrev S2048x1024 : Shape := ⟨2, ![2048, 1024]⟩
abbrev S4096x9728 : Shape := ⟨2, ![4096, 9728]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S2048x1024, .bf16⟩
  | .hbm, ⟨4, _⟩ => ⟨S4096x9728, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BranchMergeReferenceIdeal.lean ====
abbrev S4096x1024 : Shape := ⟨2, ![4096, 1024]⟩
abbrev S2048x1024 : Shape := ⟨2, ![2048, 1024]⟩
abbrev S4096x9728 : Shape := ⟨2, ![4096, 9728]⟩
abbrev S1024x2048 : Shape := ⟨2, ![1024, 2048]⟩
abbrev S4096x2048 : Shape := ⟨2, ![4096, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x1024, .bf16⟩
  | .hbm, ⟨3, _⟩ => ⟨S2048x1024, .bf16⟩
  | .hbm, ⟨4, _⟩ => ⟨S4096x9728, .f32⟩
  | .hbm, ⟨5, _⟩ => ⟨S4096x1024, .f32⟩
  | .hbm, ⟨6, _⟩ => ⟨S2048x1024, .f32⟩
  | .hbm, ⟨7, _⟩ => ⟨S1024x2048, .f32⟩
  | .hbm, ⟨8, _⟩ => ⟨S4096x2048, .f32⟩
  | .hbm, ⟨9, _⟩ => ⟨S4096x1024, .f32⟩
  | .hbm, ⟨10, _⟩ => ⟨S2048x1024, .f32⟩
  | .hbm, ⟨11, _⟩ => ⟨S1024x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | .hbm, ⟨35, _⟩ => ⟨S4096x2048, .bf16⟩
  | .hbm, ⟨36, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsFwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdaUpdate.lean ====
abbrev S2048x8 : Shape := ⟨2, ![2048, 8]⟩
abbrev S8x1536 : Shape := ⟨2, ![8, 1536]⟩
abbrev S2048x1536 : Shape := ⟨2, ![2048, 1536]⟩
abbrev S256x8 : Shape := ⟨2, ![256, 8]⟩
abbrev S256x1536 : Shape := ⟨2, ![256, 1536]⟩

abbrev nBuf : Space → Nat
  | .hbm => 9
  | .vmem => 17
  | .smem => 0
  | _ => 0

abbrev bufTy : (tb : Table) → Fin (tcTables nBuf tb) → BufTy
  | .hbm, ⟨0, _⟩ => ⟨S2048x8, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaUpdateReferenceIdeal.lean ====
abbrev S2048x8 : Shape := ⟨2, ![2048, 8]⟩
abbrev S8x1536 : Shape := ⟨2, ![8, 1536]⟩
abbrev S2048x1536 : Shape := ⟨2, ![2048, 1536]⟩
abbrev S8x2048 : Shape := ⟨2, ![8, 2048]⟩
abbrev S1536x2048 : Shape := ⟨2, ![1536, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S8x2048, .f32⟩
  | .hbm, ⟨6, _⟩ => ⟨S8x1536, .f32⟩
  | .hbm, ⟨7, _⟩ => ⟨S1536x2048, .f32⟩
  | .hbm, ⟨8, _⟩ => ⟨S2048x1536, .f32⟩
  | .hbm, ⟨9, _⟩ => ⟨S_, .f32⟩
  | .hbm, ⟨10, _⟩ => ⟨S2048x1536, .f32⟩
  | .hbm, ⟨11, _⟩ => ⟨S2048x1536, .f32⟩
  | .hbm, ⟨12, _⟩ => ⟨S_, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S_, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S_, .f32⟩
  | .hbm, ⟨21, _⟩ => ⟨S2048x1536, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S_, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S_, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S2048x1536, .f32⟩
  | .hbm, ⟨41, _⟩ => ⟨S2048x1536, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamwSmall.lean ====
abbrev S1x19840 : Shape := ⟨2, ![1, 19840]⟩

abbrev nBuf : Space → Nat
  | .hbm => 7
  | .vmem => 7
  | .smem => 0
  | _ => 0

abbrev bufTy : (tb : Table) → Fin (tcTables nBuf tb) → BufTy
  | .hbm, ⟨0, _⟩ => ⟨S1x19840, .f32⟩
  | .hbm, ⟨1, _⟩ => ⟨S1x19840, .f32⟩
  | .hbm, ⟨2, _⟩ => ⟨S1x19840, .f32⟩
  | .hbm, ⟨3, _⟩ => ⟨S1x19840, .f32⟩
  | .hbm, ⟨4, _⟩ => ⟨S1x19840, .f32⟩
  | .hbm, ⟨5, _⟩ => ⟨S1x19840, .f32⟩
  | .hbm, ⟨6, _⟩ => ⟨S1x19840, .f32⟩
  | .local _ .vmem, ⟨0, _⟩ => ⟨S1x19840, .f32⟩
  | .local _ .vmem, ⟨1, _⟩ => ⟨S1x19840, .f32⟩
  | .local _ .vmem, ⟨2, _⟩ => ⟨S1x19840, .f32⟩
  | .local _ .vmem, ⟨3, _⟩ => ⟨S1x19840, .f32⟩
  | .local _ .vmem, ⟨4, _⟩ => ⟨S1x19840, .f32⟩
  | .local _ .vmem, ⟨5, _⟩ => ⟨S1x19840, .f32⟩
  | .local _ .vmem, ⟨6, _⟩ => ⟨S1x19840, .f32⟩
  | _, _ => ⟨S1x19840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x19840 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x19840 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x19840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x19840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x19840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x19840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x19840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallReferenceIdeal.lean ====
abbrev S1x19840 : Shape := ⟨2, ![1, 19840]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x19840, .f32⟩
  | .hbm, ⟨1, _⟩ => ⟨S1x19840, .f32⟩
  | .hbm, ⟨2, _⟩ => ⟨S1x19840, .f32⟩
  | .hbm, ⟨3, _⟩ => ⟨S1x19840, .f32⟩
  | .hbm, ⟨4, _⟩ => ⟨S_, .f32⟩
  | .hbm, ⟨5, _⟩ => ⟨S1x19840, .f32⟩
  | .hbm, ⟨6, _⟩ => ⟨S1x19840, .f32⟩
  | .hbm, ⟨7, _⟩ => ⟨S_, .f32⟩
  | .hbm, ⟨8, _⟩ => ⟨S1x19840, .f32⟩
  | .hbm, ⟨9, _⟩ => ⟨S1x19840, .f32⟩
  | .hbm, ⟨10, _⟩ => ⟨S1x19840, .f32⟩
  | .hbm, ⟨11, _⟩ => ⟨S_, .f32⟩
  | .hbm, ⟨12, _⟩ => ⟨S1x19840, .f32⟩
  | .hbm, ⟨13, _⟩ => ⟨S1x19840, .f32⟩
  | .hbm, ⟨14, _⟩ => ⟨S1x19840, .f32⟩
  | .hbm, ⟨15, _⟩ => ⟨S_, .f32⟩
  | .hbm, ⟨16, _⟩ => ⟨S1x19840, .f32⟩
  | .hbm, ⟨17, _⟩ => ⟨S1x19840, .f32⟩
  | .hbm, ⟨18, _⟩ => ⟨S1x19840, .f32⟩
  | .hbm, ⟨19, _⟩ => ⟨S_, .f32⟩
  | .hbm, ⟨20, _⟩ => ⟨S1x19840, .f32⟩
  | .hbm, ⟨21, _⟩ => ⟨S1x19840, .f32⟩
  | .hbm, ⟨22, _⟩ => ⟨S_, .f32⟩
  | .hbm, ⟨23, _⟩ => ⟨S1x19840, .f32⟩
  | .hbm, ⟨24, _⟩ => ⟨S1x19840, .f32⟩
  | .hbm, ⟨25, _⟩ => ⟨S1x19840, .f32⟩
  | .hbm, ⟨26, _⟩ => ⟨S_, .f32⟩
  | .hbm, ⟨27, _⟩ => ⟨S1x19840, .f32⟩
  | .hbm, ⟨28, _⟩ => ⟨S1x19840, .f32⟩
  | .hbm, ⟨29, _⟩ => ⟨S1x19840, .f32⟩
  | .hbm, ⟨30, _⟩ => ⟨S_, .f32⟩
  | .hbm, ⟨31, _⟩ => ⟨S1x19840, .f32⟩
  | .hbm, ⟨32, _⟩ => ⟨S1x19840, .f32⟩
  | .hbm, ⟨33, _⟩ => ⟨S1x19840, .f32⟩
  | .hbm, ⟨34, _⟩ => ⟨S_, .f32⟩
  | .hbm, ⟨35, _⟩ => ⟨S1x19840, .f32⟩
  | .hbm, ⟨36, _⟩ => ⟨S1x19840, .f32⟩
  | _, _ => ⟨S1x19840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumAdamwIn.lean ====
abbrev S4x1216x2048 : Shape := ⟨3, ![4, 1216, 2048]⟩
abbrev S3x1216x2048 : Shape := ⟨3, ![3, 1216, 2048]⟩
abbrev S1216x2048 : Shape := ⟨2, ![1216, 2048]⟩
abbrev S1 : Shape := ⟨1, ![1]⟩
abbrev S1x304x2048 : Shape := ⟨3, ![1, 304, 2048]⟩
abbrev S3x304x2048 : Shape := ⟨3, ![3, 304, 2048]⟩
abbrev S304x2048 : Shape := ⟨2, ![304, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x1216x2048, .bf16⟩
  | .hbm, ⟨1, _⟩ => ⟨S3x1216x2048, .bf16⟩
  | .hbm, ⟨2, _⟩ => ⟨S1216x2048, .f32⟩
  | .hbm, ⟨3, _⟩ => ⟨S1216x2048, .f32⟩
  | .hbm, ⟨4, _⟩ => ⟨S1216x2048, .f32⟩
  | .hbm, ⟨5, _⟩ => ⟨S1216x2048, .f32⟩
  | .hbm, ⟨6, _⟩ => ⟨S1216x2048, .f32⟩
  | .hbm, ⟨7, _⟩ => ⟨S1216x2048, .f32⟩
  | .hbm, ⟨8, _⟩ => ⟨S1216x2048, .f32⟩
  | .local _ .vmem, ⟨0, _⟩ => ⟨S1x304x2048, .bf16⟩
  | .local _ .vmem, ⟨1, _⟩ => ⟨S1x304x2048, .bf16⟩
  | .local _ .vmem, ⟨2, _⟩ => ⟨S3x304x2048, .bf16⟩
  | .local _ .vmem, ⟨3, _⟩ => ⟨S3x304x2048, .bf16⟩
  | .local _ .vmem, ⟨4, _⟩ => ⟨S304x2048, .f32⟩
  | .local _ .vmem, ⟨5, _⟩ => ⟨S304x2048, .f32⟩
  | .local _ .vmem, ⟨6, _⟩ => ⟨S304x2048, .f32⟩
  | .local _ .vmem, ⟨7, _⟩ => ⟨S304x2048, .f32⟩
  | .local _ .vmem, ⟨8, _⟩ => ⟨S304x2048, .f32⟩
  | .local _ .vmem, ⟨9, _⟩ => ⟨S304x2048, .f32⟩
  | .local _ .vmem, ⟨10, _⟩ => ⟨S304x2048, .f32⟩
  | .local _ .vmem, ⟨11, _⟩ => ⟨S304x2048, .f32⟩
  | .local _ .vmem, ⟨12, _⟩ => ⟨S304x2048, .f32⟩
  | .local _ .vmem, ⟨13, _⟩ => ⟨S304x2048, .f32⟩
  | .local _ .vmem, ⟨14, _⟩ => ⟨S304x2048, .f32⟩
  | .local _ .vmem, ⟨15, _⟩ => ⟨S304x2048, .f32⟩
  | .local _ .vmem, ⟨16, _⟩ => ⟨S304x2048, .f32⟩
  | .local _ .vmem, ⟨17, _⟩ => ⟨S304x2048, .f32⟩
  | .local _ .smem, ⟨0, _⟩ => ⟨S1, .i32⟩
  | _, _ => ⟨S4x1216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S304x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S304x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S304x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S304x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumAdamwInReferenceIdeal.lean ====
abbrev S4x1216x2048 : Shape := ⟨3, ![4, 1216, 2048]⟩
abbrev S3x1216x2048 : Shape := ⟨3, ![3, 1216, 2048]⟩
abbrev S1216x2048 : Shape := ⟨2, ![1216, 2048]⟩
abbrev S1x1216x2048 : Shape := ⟨3, ![1, 1216, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1216x2048, .bf16⟩
  | .hbm, ⟨1, _⟩ => ⟨S3x1216x2048, .bf16⟩
  | .hbm, ⟨2, _⟩ => ⟨S1216x2048, .f32⟩
  | .hbm, ⟨3, _⟩ => ⟨S1216x2048, .f32⟩
  | .hbm, ⟨4, _⟩ => ⟨S1216x2048, .f32⟩
  | .hbm, ⟨5, _⟩ => ⟨S1x1216x2048, .bf16⟩
  | .hbm, ⟨6, _⟩ => ⟨S1216x2048, .bf16⟩
  | .hbm, ⟨7, _⟩ => ⟨S1216x2048, .f32⟩
  | .hbm, ⟨8, _⟩ => ⟨S3x1216x2048, .f32⟩
  | .hbm, ⟨9, _⟩ => ⟨S_, .f32⟩
  | .hbm, ⟨10, _⟩ => ⟨S1216x2048, .f32⟩
  | .hbm, ⟨11, _⟩ => ⟨S1216x2048, .f32⟩
  | .hbm, ⟨12, _⟩ => ⟨S_, .f32⟩
  | .hbm, ⟨13, _⟩ => ⟨S1216x2048, .f32⟩
  | .hbm, ⟨14, _⟩ => ⟨S1216x2048, .f32⟩
  | .hbm, ⟨15, _⟩ => ⟨S_, .f32⟩
  | .hbm, ⟨16, _⟩ => ⟨S1216x2048, .f32⟩
  | .hbm, ⟨17, _⟩ => ⟨S1216x2048, .f32⟩
  | .hbm, ⟨18, _⟩ => ⟨S1216x2048, .f32⟩
  | .hbm, ⟨19, _⟩ => ⟨S_, .f32⟩
  | .hbm, ⟨20, _⟩ => ⟨S1216x2048, .f32⟩
  | .hbm, ⟨21, _⟩ => ⟨S1216x2048, .f32⟩
  | .hbm, ⟨22, _⟩ => ⟨S1216x2048, .f32⟩
  | .hbm, ⟨23, _⟩ => ⟨S_, .f32⟩
  | .hbm, ⟨24, _⟩ => ⟨S1216x2048, .f32⟩
  | .hbm, ⟨25, _⟩ => ⟨S1216x2048, .f32⟩
  | .hbm, ⟨26, _⟩ => ⟨S1216x2048, .f32⟩
  | .hbm, ⟨27, _⟩ => ⟨S_, .f32⟩
  | .hbm, ⟨28, _⟩ => ⟨S1216x2048, .f32⟩
  | .hbm, ⟨29, _⟩ => ⟨S1216x2048, .f32⟩
  | .hbm, ⟨30, _⟩ => ⟨S_, .f32⟩
  | .hbm, ⟨31, _⟩ => ⟨S1216x2048, .f32⟩
  | .hbm, ⟨32, _⟩ => ⟨S1216x2048, .f32⟩
  | .hbm, ⟨33, _⟩ => ⟨S1216x2048, .f32⟩
  | .hbm, ⟨34, _⟩ => ⟨S_, .f32⟩
  | .hbm, ⟨35, _⟩ => ⟨S1216x2048, .f32⟩
  | .hbm, ⟨36, _⟩ => ⟨S1216x2048, .f32⟩
  | .hbm, ⟨37, _⟩ => ⟨S1216x2048, .f32⟩
  | .hbm, ⟨38, _⟩ => ⟨S_, .f32⟩
  | .hbm, ⟨39, _⟩ => ⟨S1216x2048, .f32⟩
  | .hbm, ⟨40, _⟩ => ⟨S1216x2048, .f32⟩
  | .hbm, ⟨41, _⟩ => ⟨S1216x2048, .f32⟩
  | .hbm, ⟨42, _⟩ => ⟨S_, .f32⟩
  | .hbm, ⟨43, _⟩ => ⟨S1216x2048, .f32⟩
  | .hbm, ⟨44, _⟩ => ⟨S1216x2048, .f32⟩
  | _, _ => ⟨S4x1216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== SumAdamwBranch.lean ====
abbrev S4x256x1024 : Shape := ⟨3, ![4, 256, 1024]⟩
abbrev S3x256x1024 : Shape := ⟨3, ![3, 256, 1024]⟩
abbrev S1024x256 : Shape := ⟨2, ![1024, 256]⟩
abbrev S1 : Shape := ⟨1, ![1]⟩
abbrev S1x256x128 : Shape := ⟨3, ![1, 256, 128]⟩
abbrev S3x256x128 : Shape := ⟨3, ![3, 256, 128]⟩
abbrev S128x256 : Shape := ⟨2, ![128, 256]⟩
abbrev S256x128 : Shape := ⟨2, ![256, 128]⟩

abbrev nBuf : Space → Nat
  | .hbm => 9
  | .vmem => 18
  | .smem => 1
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1x256x128, .bf16⟩
  | .local _ .vmem, ⟨1, _⟩ => ⟨S1x256x128, .bf16⟩
  | .local _ .vmem, ⟨2, _⟩ => ⟨S3x256x128, .bf16⟩
  | .local _ .vmem, ⟨3, _⟩ => ⟨S3x256x128, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumAdamwBranchReferenceIdeal.lean ====
abbrev S4x256x1024 : Shape := ⟨3, ![4, 256, 1024]⟩
abbrev S3x256x1024 : Shape := ⟨3, ![3, 256, 1024]⟩
abbrev S1024x256 : Shape := ⟨2, ![1024, 256]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1x256x1024, .bf16⟩
  | .hbm, ⟨6, _⟩ => ⟨S256x1024, .bf16⟩
  | .hbm, ⟨7, _⟩ => ⟨S256x1024, .f32⟩
  | .hbm, ⟨8, _⟩ => ⟨S3x256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== SumAdamwOut.lean ====
abbrev S4x256x2048 : Shape := ⟨3, ![4, 256, 2048]⟩
abbrev S3x256x2048 : Shape := ⟨3, ![3, 256, 2048]⟩
abbrev S256x2048 : Shape := ⟨2, ![256, 2048]⟩
abbrev S1 : Shape := ⟨1, ![1]⟩
abbrev S1x128x2048 : Shape := ⟨3, ![1, 128, 2048]⟩
abbrev S3x128x2048 : Shape := ⟨3, ![3, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S3x128x2048, .bf16⟩
  | .local _ .vmem, ⟨3, _⟩ => ⟨S3x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumAdamwOutReferenceIdeal.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S3x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== SumAdamwMlpIn.lean ====
abbrev S4x1024x2048 : Shape := ⟨3, ![4, 1024, 2048]⟩
abbrev S2x1024x2048 : Shape := ⟨3, ![2, 1024, 2048]⟩
abbrev S1x1024x2048 : Shape := ⟨3, ![1, 1024, 2048]⟩
abbrev S2048x1024 : Shape := ⟨2, ![2048, 1024]⟩
abbrev S1 : Shape := ⟨1, ![1]⟩
abbrev S1x1024x128 : Shape := ⟨3, ![1, 1024, 128]⟩
abbrev S2x1024x128 : Shape := ⟨3, ![2, 1024, 128]⟩
abbrev S128x1024 : Shape := ⟨2, ![128, 1024]⟩
abbrev S1024x128 : Shape := ⟨2, ![1024, 128]⟩

abbrev nBuf : Space → Nat
  | .hbm => 10
  | .vmem => 20
  | .smem => 1
  | _ => 0

abbrev bufTy : (tb : Table) → Fin (tcTables nBuf tb) → BufTy
  | .hbm, ⟨0, _⟩ => ⟨S4x1024x2048, .bf16⟩
  | .hbm, ⟨1, _⟩ => ⟨S2x1024x2048, .bf16⟩
  | .hbm, ⟨2, _⟩ => ⟨S1x1024x2048, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .smem, ⟨0, _⟩ => ⟨S1, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SumAdamwMlpInReferenceIdeal.lean ====
abbrev S4x1024x2048 : Shape := ⟨3, ![4, 1024, 2048]⟩
abbrev S2x1024x2048 : Shape := ⟨3, ![2, 1024, 2048]⟩
abbrev S1x1024x2048 : Shape := ⟨3, ![1, 1024, 2048]⟩
abbrev S2048x1024 : Shape := ⟨2, ![2048, 1024]⟩
abbrev S1024x2048 : Shape := ⟨2, ![1024, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S2x1024x2048, .bf16⟩
  | .hbm, ⟨2, _⟩ => ⟨S1x1024x2048, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024x2048, .bf16⟩
  | .hbm, ⟨7, _⟩ => ⟨S1024x2048, .bf16⟩
  | .hbm, ⟨8, _⟩ => ⟨S1024x2048, .f32⟩
  | .hbm, ⟨9, _⟩ => ⟨S2x1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== SumAdamwMlpOut.lean ====
abbrev S4x1024x2048 : Shape := ⟨3, ![4, 1024, 2048]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S1 : Shape := ⟨1, ![1]⟩
abbrev S1x128x2048 : Shape := ⟨3, ![1, 128, 2048]⟩
abbrev S2x128x2048 : Shape := ⟨3, ![2, 128, 2048]⟩
abbrev S128x2048 : Shape := ⟨2, ![128, 2048]⟩

abbrev nBuf : Space → Nat
  | .hbm => 10
  | .vmem => 20
  | .smem => 1
  | _ => 0

abbrev bufTy : (tb : Table) → Fin (tcTables nBuf tb) → BufTy
  | .hbm, ⟨0, _⟩ => ⟨S4x1024x2048, .bf16⟩
  | .hbm, ⟨1, _⟩ => ⟨S2x1024x2048, .bf16⟩
  | .hbm, ⟨2, _⟩ => ⟨S1x1024x2048, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S2x128x2048, .bf16⟩
  | .local _ .vmem, ⟨3, _⟩ => ⟨S2x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .smem, ⟨0, _⟩ => ⟨S1, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SumAdamwMlpOutReferenceIdeal.lean ====
abbrev S4x1024x2048 : Shape := ⟨3, ![4, 1024, 2048]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S2x1024x2048, .bf16⟩
  | .hbm, ⟨2, _⟩ => ⟨S1x1024x2048, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1x1024x2048, .bf16⟩
  | .hbm, ⟨7, _⟩ => ⟨S1024x2048, .bf16⟩
  | .hbm, ⟨8, _⟩ => ⟨S1024x2048, .f32⟩
  | .hbm, ⟨9, _⟩ => ⟨S2x1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .f32⟩
  | .hbm, ⟨16, _⟩ => ⟨S_, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.MlpOutDxValue.lean ====
module

public import proofs.«01_k».proof.Defs
public import proofs.«01_k».proof.Proof.Gen.MlpOutDxIdeal.Value
public import proofs.«01_k».proof.Proof.Gen.MlpOutDxReferenceIdeal.Run
public import proofs.«01_k».proof.Proof.Gen.MlpOutDxReferenceIdeal.Read
public import Idealize.ShloMosaic.Lib.Pipeline.ValueKit
public import Idealize.ShloMosaic.Lib.Pointwise

/-! The gradient through the MLP's second product and its squared relu. -/

@[expose] public section

noncomputable section

namespace Cert.Calls.MlpOutDx

open Cert.MlpOutDxIdeal Cert.MlpOutDxIdeal.Gen Idealize.ShloMosaic Idealize.ShloMosaic.TcCoe Idealize.SL.Sem
open Cert.MlpOutDxReferenceIdeal.Read

variable (m : (ℓ : Loc nD τ sig) → Buf (Elt Ideal) ℓ)

/-- The host lines before the call: the relu of the product, kept as the forward pass kept it. -/
theorem saved (c : Dev nD) (i : S4096x8192.Idx) : (V m c main_v5 i : EReal) = val_main_v4 (F := Ideal) (m ((c : Thread nD τ).loc main_arg0)) (m ((c : Thread nD τ).loc main_arg1)) i := by
  have h : (V m c main_v5 : S4096x8192.Idx → EReal) = val_main_v4 (F := Ideal) (m ((c : Thread nD τ).loc main_arg0)) (m ((c : Thread nD τ).loc main_arg1)) := by
    simp only [V, hostOps0, hostOps0_1, hostOps0_2, List.flatten_cons, List.flatten_nil, List.append_nil, List.cons_append, List.nil_append]
    after_results
    rfl
  exact congrFun h i

/-- The squared relu's slope, with and without the reference's choice on the sign. -/
theorem slope (u s two : EReal) : s * (two * max u 0) = if 0 < u then s * (two * max u 0) else 0 := by
  split
  · rfl
  · rw [max_eq_right (not_lt.mp ‹_›), mul_zero, mul_zero]

/-- The blocks of the arguments that the point's block of the result is made from. -/
theorem corners3 : ∀ t : Fin cfg0.N, win0_0.index t = ![win0_3.index t 0, 0] ∧ win0_1.index t = ![win0_3.index t 1, 0] ∧ win0_2.index t = ![win0_3.index t 0, win0_3.index t 1] :=
  (by decide +kernel : ∀ t : Fin grid0.N, win0_0.index t = ![win0_3.index t 0, 0] ∧ win0_1.index t = ![win0_3.index t 1, 0] ∧ win0_2.index t = ![win0_3.index t 0, win0_3.index t 1])

theorem result3 (c : Dev nD) : (dats m 0 c).arrAt 3 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  obtain ⟨e0, e1, e2⟩ := corners3 t
  have b0 : ∀ k : Fin _, (iblk m c 0 t (ix2 (y 0) k) : EReal) = (m ((c : Thread nD τ).loc main_arg3)) (lidx_main_v14 (((View.whole main_v6).slice (win0_3.rect t)).emb y) k) := by
    intro k
    blk_simp [iblk, V_main_arg3]
    refine congrArg (m ((c : Thread nD τ).loc main_arg3)) ?_
    blk_ext [e0]
  have b1 : ∀ k : Fin _, (iblk m c 1 t (ix2 (y 1) k) : EReal) = (m ((c : Thread nD τ).loc main_arg2)) (ridx_main_v14 (((View.whole main_v6).slice (win0_3.rect t)).emb y) k) := by
    intro k
    blk_simp [iblk, V_main_arg2]
    refine congrArg (m ((c : Thread nD τ).loc main_arg2)) ?_
    blk_ext [e1]
  have b2 : (iblk m c 2 t y : EReal) = val_main_v4 (F := Ideal) (m ((c : Thread nD τ).loc main_arg0)) (m ((c : Thread nD τ).loc main_arg1)) (((View.whole main_v6).slice (win0_3.rect t)).emb y) := by
    blk_simp [iblk]
    rw [saved]
    refine congrArg (val_main_v4 (F := Ideal) (m ((c : Thread nD τ).loc main_arg0)) (m ((c : Thread nD τ).loc main_arg1))) ?_
    blk_ext [e2]
  blk_simp
  rw [after0_3]; frame_out
  pointwise [k0_pay1, val_main_v0_apply, val_main_v1_apply, val_main_v2_apply, val_main_v3_apply, val_main_call0_cst_apply, val_main_call0_v0_apply, val_main_v4_apply, val_main_cst_apply, val_main_v5_apply, val_main_v6_apply, val_main_cst_0_apply, val_main_v7_apply, val_main_v8_apply, val_main_cst_1_apply, val_main_v9_apply, val_main_v10_apply, val_main_v11_apply, val_main_v12_apply, val_main_v13_apply, val_main_v14_apply, val_main_v15_apply, val_main_cst_2_apply, val_main_v16_apply, val_main_v17_apply, val_main_v18_apply]
  simp only [b0, b1]
  rw [b2]
  pointwise [val_main_v0_apply, val_main_v1_apply, val_main_v2_apply, val_main_v3_apply, val_main_call0_cst_apply, val_main_call0_v0_apply, val_main_v4_apply, val_main_cst_apply, val_main_v5_apply, val_main_v6_apply, val_main_cst_0_apply, val_main_v7_apply, val_main_v8_apply, val_main_cst_1_apply, val_main_v9_apply, val_main_v10_apply, val_main_v11_apply, val_main_v12_apply, val_main_v13_apply, val_main_v14_apply, val_main_v15_apply, val_main_cst_2_apply, val_main_v16_apply, val_main_v17_apply, val_main_v18_apply]
  exact slope _ _ _

theorem algebraic : Cert.algebraic_MlpOutDxIdeal_MlpOutDxReferenceIdeal := by
  intro m g m' g' _ hagree
  refine ⟨fun c => Cert.MlpOutDxReferenceIdeal.Read.val_main_v18 (F := Ideal) (m ((c : Thread nD τ).loc main_arg0)) (m ((c : Thread nD τ).loc main_arg1)) (m ((c : Thread nD τ).loc main_arg2)) (m ((c : Thread nD τ).loc main_arg3)),
    (θ_run _ _ _).mono (fun r h c => ?_) (Cert.MlpOutDxIdeal.Value.run_blocks m g),
    (θ_run _ _ _).mono (fun r h c => ?_) (Cert.MlpOutDxReferenceIdeal.Value.run m' g')⟩
  · exact ⟨(h c).1.trans (result3 m c), (h c).2⟩
  · obtain ⟨h0, h1, h2, h3⟩ := hagree c
    refine ⟨(h c).1.trans ?_, (h c).2⟩
    · rw [Cert.MlpOutDxReferenceIdeal.Read.val_main_v18_eq, h0, h1, h2, h3]

end Cert.Calls.MlpOutDx
-- ==== Proof.OutProjDxValue.lean ====
module

public import proofs.«01_k».proof.Defs
public import proofs.«01_k».proof.Proof.Gen.OutProjDxIdeal.Value
public import proofs.«01_k».proof.Proof.Gen.OutProjDxReferenceIdeal.Run
public import proofs.«01_k».proof.Proof.Gen.OutProjDxReferenceIdeal.Read
public import Idealize.ShloMosaic.Lib.Pipeline.ValueKit
public import Idealize.ShloMosaic.Lib.Pointwise

/-! The gradient through the output projection and the two gates. -/

@[expose] public section

noncomputable section

namespace Cert.Calls.OutProjDx

open Cert.OutProjDxIdeal Cert.OutProjDxIdeal.Gen Idealize.ShloMosaic Idealize.ShloMosaic.TcCoe Idealize.SL.Sem
open Cert.OutProjDxReferenceIdeal.Read

variable (m : (ℓ : Loc nD τ sig) → Buf (Elt Ideal) ℓ)

/-- The blocks of the arguments that the point's block of the result is made from. -/
theorem corners6 : ∀ t : Fin cfg0.N, win0_0.index t = ![win0_6.index t 0, 0] ∧ win0_1.index t = ![win0_6.index t 1, 0] ∧ win0_4.index t = ![win0_6.index t 0, 11 + win0_6.index t 1] :=
  (by decide +kernel : ∀ t : Fin grid0.N, win0_0.index t = ![win0_6.index t 0, 0] ∧ win0_1.index t = ![win0_6.index t 1, 0] ∧ win0_4.index t = ![win0_6.index t 0, 11 + win0_6.index t 1])

theorem result6 (c : Dev nD) : (dats m 0 c).arrAt 6 cfg0.N = val_main_v35 (F := Ideal) (m ((c : Thread nD τ).loc main_arg0)) (m ((c : Thread nD τ).loc main_arg1)) (m ((c : Thread nD τ).loc main_arg4)) := by
  refine (dats m 0 c).arrAt_eq_of_covers 6 _ (by decide +kernel) fun t hf y => ?_
  obtain ⟨e0, e1, e4⟩ := corners6 t
  have b0 : ∀ k : Fin _, (iblk m c 0 t (ix2 (y 0) k) : EReal) = (m ((c : Thread nD τ).loc main_arg0)) (lidx_main_v28 (((View.whole main_v0_0).slice (win0_6.rect t)).emb y) k) := by
    intro k
    blk_simp [iblk, V_main_arg0]
    refine congrArg (m ((c : Thread nD τ).loc main_arg0)) ?_
    blk_ext [e0]
  have b1 : ∀ k : Fin _, (iblk m c 1 t (ix2 (y 1) k) : EReal) = (m ((c : Thread nD τ).loc main_arg1)) (ridx_main_v28 (((View.whole main_v0_0).slice (win0_6.rect t)).emb y) k) := by
    intro k
    blk_simp [iblk, V_main_arg1]
    refine congrArg (m ((c : Thread nD τ).loc main_arg1)) ?_
    blk_ext [e1]
  have b3 : (iblk m c 4 t y : EReal) = (m ((c : Thread nD τ).loc main_arg4)) (idx_main_v0 (((View.whole main_v0_0).slice (win0_6.rect t)).emb y)) := by
    blk_simp [iblk, V_main_arg4]
    refine congrArg (m ((c : Thread nD τ).loc main_arg4)) ?_
    blk_ext [e4]
  blk_simp
  rw [after0_6]; frame_out
  pointwise [k0_pay4, k0_pay1, k0_pay2, k0_pay3, val_main_v0_apply, val_main_v1_apply, val_main_v2_apply, val_main_v3_apply, val_main_v4_apply, val_main_v5_apply, val_main_cst_apply, val_main_v6_apply, val_main_v7_apply, val_main_cst_0_apply, val_main_v8_apply, val_main_v9_apply, val_main_cst_1_apply, val_main_v10_apply, val_main_v11_apply, val_main_v12_apply, val_main_v13_apply, val_main_v14_apply, val_main_v15_apply, val_main_cst_2_apply, val_main_v16_apply, val_main_v17_apply, val_main_cst_3_apply, val_main_v18_apply, val_main_v19_apply, val_main_cst_4_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply]
  simp only [b0, b1, b3]
  exact mul_comm (G := EReal) _ _

/-- The blocks of the arguments that the point's block of the result is made from. -/
theorem corners7 : ∀ t : Fin cfg0.N, win0_0.index t = ![win0_7.index t 0, 0] ∧ win0_1.index t = ![win0_7.index t 1, 0] ∧ win0_5.index t = ![win0_7.index t 0, 15 + win0_7.index t 1] :=
  (by decide +kernel : ∀ t : Fin grid0.N, win0_0.index t = ![win0_7.index t 0, 0] ∧ win0_1.index t = ![win0_7.index t 1, 0] ∧ win0_5.index t = ![win0_7.index t 0, 15 + win0_7.index t 1])

theorem result7 (c : Dev nD) : (dats m 0 c).arrAt 7 cfg0.N = val_main_v36 (F := Ideal) (m ((c : Thread nD τ).loc main_arg0)) (m ((c : Thread nD τ).loc main_arg1)) (m ((c : Thread nD τ).loc main_arg4)) := by
  refine (dats m 0 c).arrAt_eq_of_covers 7 _ (by decide +kernel) fun t hf y => ?_
  obtain ⟨e0, e1, e5⟩ := corners7 t
  have b0 : ∀ k : Fin _, (iblk m c 0 t (ix2 (y 0) k) : EReal) = (m ((c : Thread nD τ).loc main_arg0)) (lidx_main_v28 (((View.whole main_v0_1).slice (win0_7.rect t)).emb y) k) := by
    intro k
    blk_simp [iblk, V_main_arg0]
    refine congrArg (m ((c : Thread nD τ).loc main_arg0)) ?_
    blk_ext [e0]
  have b1 : ∀ k : Fin _, (iblk m c 1 t (ix2 (y 1) k) : EReal) = (m ((c : Thread nD τ).loc main_arg1)) (ridx_main_v28 (((View.whole main_v0_1).slice (win0_7.rect t)).emb y) k) := by
    intro k
    blk_simp [iblk, V_main_arg1]
    refine congrArg (m ((c : Thread nD τ).loc main_arg1)) ?_
    blk_ext [e1]
  have b3 : (iblk m c 5 t y : EReal) = (m ((c : Thread nD τ).loc main_arg4)) (idx_main_v1 (((View.whole main_v0_1).slice (win0_7.rect t)).emb y)) := by
    blk_simp [iblk, V_main_arg4]
    refine congrArg (m ((c : Thread nD τ).loc main_arg4)) ?_
    blk_ext [e5]
  blk_simp
  rw [after0_7]; frame_out
  pointwise [k0_pay5, k0_pay1, k0_pay2, k0_pay3, val_main_v0_apply, val_main_v1_apply, val_main_v2_apply, val_main_v3_apply, val_main_v4_apply, val_main_v5_apply, val_main_cst_apply, val_main_v6_apply, val_main_v7_apply, val_main_cst_0_apply, val_main_v8_apply, val_main_v9_apply, val_main_cst_1_apply, val_main_v10_apply, val_main_v11_apply, val_main_v12_apply, val_main_v13_apply, val_main_v14_apply, val_main_v15_apply, val_main_cst_2_apply, val_main_v16_apply, val_main_v17_apply, val_main_cst_3_apply, val_main_v18_apply, val_main_v19_apply, val_main_cst_4_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply]
  simp only [b0, b1, b3]
  exact mul_comm (G := EReal) _ _

/-- The blocks of the arguments that the point's block of the result is made from. -/
theorem corners8 : ∀ t : Fin cfg0.N, win0_0.index t = ![win0_8.index t 0, 0] ∧ win0_1.index t = ![win0_8.index t 1, 0] ∧ win0_2.index t = ![win0_8.index t 0, win0_8.index t 1] ∧ win0_4.index t = ![win0_8.index t 0, 11 + win0_8.index t 1] :=
  (by decide +kernel : ∀ t : Fin grid0.N, win0_0.index t = ![win0_8.index t 0, 0] ∧ win0_1.index t = ![win0_8.index t 1, 0] ∧ win0_2.index t = ![win0_8.index t 0, win0_8.index t 1] ∧ win0_4.index t = ![win0_8.index t 0, 11 + win0_8.index t 1])

theorem result8 (c : Dev nD) : (dats m 0 c).arrAt 8 cfg0.N = val_main_v37 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  obtain ⟨e0, e1, e2, e4⟩ := corners8 t
  have b0 : ∀ k : Fin _, (iblk m c 0 t (ix2 (y 0) k) : EReal) = (m ((c : Thread nD τ).loc main_arg0)) (lidx_main_v28 (((View.whole main_v0_2).slice (win0_8.rect t)).emb y) k) := by
    intro k
    blk_simp [iblk, V_main_arg0]
    refine congrArg (m ((c : Thread nD τ).loc main_arg0)) ?_
    blk_ext [e0]
  have b1 : ∀ k : Fin _, (iblk m c 1 t (ix2 (y 1) k) : EReal) = (m ((c : Thread nD τ).loc main_arg1)) (ridx_main_v28 (((View.whole main_v0_2).slice (win0_8.rect t)).emb y) k) := by
    intro k
    blk_simp [iblk, V_main_arg1]
    refine congrArg (m ((c : Thread nD τ).loc main_arg1)) ?_
    blk_ext [e1]
  have b2 : (iblk m c 2 t y : EReal) = (m ((c : Thread nD τ).loc main_arg2)) ((((View.whole main_v0_2).slice (win0_8.rect t)).emb y)) := by
    blk_simp [iblk, V_main_arg2]
    refine congrArg (m ((c : Thread nD τ).loc main_arg2)) ?_
    blk_ext [e2]
  have b3 : (iblk m c 4 t y : EReal) = (m ((c : Thread nD τ).loc main_arg4)) (idx_main_v0 (((View.whole main_v0_2).slice (win0_8.rect t)).emb y)) := by
    blk_simp [iblk, V_main_arg4]
    refine congrArg (m ((c : Thread nD τ).loc main_arg4)) ?_
    blk_ext [e4]
  blk_simp
  rw [after0_8]; frame_out
  pointwise [k0_pay6, k0_pay1, k0_pay2, k0_pay3, val_main_v0_apply, val_main_v1_apply, val_main_v2_apply, val_main_v3_apply, val_main_v4_apply, val_main_v5_apply, val_main_cst_apply, val_main_v6_apply, val_main_v7_apply, val_main_cst_0_apply, val_main_v8_apply, val_main_v9_apply, val_main_cst_1_apply, val_main_v10_apply, val_main_v11_apply, val_main_v12_apply, val_main_v13_apply, val_main_v14_apply, val_main_v15_apply, val_main_cst_2_apply, val_main_v16_apply, val_main_v17_apply, val_main_cst_3_apply, val_main_v18_apply, val_main_v19_apply, val_main_cst_4_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply]
  simp only [b0, b1, b2, b3]
  rfl

/-- The blocks of the arguments that the point's block of the result is made from. -/
theorem corners9 : ∀ t : Fin cfg0.N, win0_0.index t = ![win0_9.index t 0, 0] ∧ win0_1.index t = ![win0_9.index t 1, 0] ∧ win0_3.index t = ![win0_9.index t 0, win0_9.index t 1] ∧ win0_5.index t = ![win0_9.index t 0, 15 + win0_9.index t 1] :=
  (by decide +kernel : ∀ t : Fin grid0.N, win0_0.index t = ![win0_9.index t 0, 0] ∧ win0_1.index t = ![win0_9.index t 1, 0] ∧ win0_3.index t = ![win0_9.index t 0, win0_9.index t 1] ∧ win0_5.index t = ![win0_9.index t 0, 15 + win0_9.index t 1])

theorem result9 (c : Dev nD) : (dats m 0 c).arrAt 9 cfg0.N = val_main_v38 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 9 _ (by decide +kernel) fun t hf y => ?_
  obtain ⟨e0, e1, e3, e5⟩ := corners9 t
  have b0 : ∀ k : Fin _, (iblk m c 0 t (ix2 (y 0) k) : EReal) = (m ((c : Thread nD τ).loc main_arg0)) (lidx_main_v28 (((View.whole main_v0_3).slice (win0_9.rect t)).emb y) k) := by
    intro k
    blk_simp [iblk, V_main_arg0]
    refine congrArg (m ((c : Thread nD τ).loc main_arg0)) ?_
    blk_ext [e0]
  have b1 : ∀ k : Fin _, (iblk m c 1 t (ix2 (y 1) k) : EReal) = (m ((c : Thread nD τ).loc main_arg1)) (ridx_main_v28 (((View.whole main_v0_3).slice (win0_9.rect t)).emb y) k) := by
    intro k
    blk_simp [iblk, V_main_arg1]
    refine congrArg (m ((c : Thread nD τ).loc main_arg1)) ?_
    blk_ext [e1]
  have b2 : (iblk m c 3 t y : EReal) = (m ((c : Thread nD τ).loc main_arg3)) ((((View.whole main_v0_3).slice (win0_9.rect t)).emb y)) := by
    blk_simp [iblk, V_main_arg3]
    refine congrArg (m ((c : Thread nD τ).loc main_arg3)) ?_
    blk_ext [e3]
  have b3 : (iblk m c 5 t y : EReal) = (m ((c : Thread nD τ).loc main_arg4)) (idx_main_v1 (((View.whole main_v0_3).slice (win0_9.rect t)).emb y)) := by
    blk_simp [iblk, V_main_arg4]
    refine congrArg (m ((c : Thread nD τ).loc main_arg4)) ?_
    blk_ext [e5]
  blk_simp
  rw [after0_9]; frame_out
  pointwise [k0_pay7, k0_pay1, k0_pay2, k0_pay3, val_main_v0_apply, val_main_v1_apply, val_main_v2_apply, val_main_v3_apply, val_main_v4_apply, val_main_v5_apply, val_main_cst_apply, val_main_v6_apply, val_main_v7_apply, val_main_cst_0_apply, val_main_v8_apply, val_main_v9_apply, val_main_cst_1_apply, val_main_v10_apply, val_main_v11_apply, val_main_v12_apply, val_main_v13_apply, val_main_v14_apply, val_main_v15_apply, val_main_cst_2_apply, val_main_v16_apply, val_main_v17_apply, val_main_cst_3_apply, val_main_v18_apply, val_main_v19_apply, val_main_cst_4_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply]
  simp only [b0, b1, b2, b3]
  rfl

theorem algebraic : Cert.algebraic_OutProjDxIdeal_OutProjDxReferenceIdeal := by
  intro m g m' g' _ hagree
  refine ⟨fun c => Cert.OutProjDxReferenceIdeal.Read.val_main_v35 (F := Ideal) (m ((c : Thread nD τ).loc main_arg0)) (m ((c : Thread nD τ).loc main_arg1)) (m ((c : Thread nD τ).loc main_arg4)), fun c => Cert.OutProjDxReferenceIdeal.Read.val_main_v36 (F := Ideal) (m ((c : Thread nD τ).loc main_arg0)) (m ((c : Thread nD τ).loc main_arg1)) (m ((c : Thread nD τ).loc main_arg4)), fun c => Cert.OutProjDxReferenceIdeal.Read.val_main_v37 (F := Ideal) (m ((c : Thread nD τ).loc main_arg0)) (m ((c : Thread nD τ).loc main_arg1)) (m ((c : Thread nD τ).loc main_arg2)) (m ((c : Thread nD τ).loc main_arg4)), fun c => Cert.OutProjDxReferenceIdeal.Read.val_main_v38 (F := Ideal) (m ((c : Thread nD τ).loc main_arg0)) (m ((c : Thread nD τ).loc main_arg1)) (m ((c : Thread nD τ).loc main_arg3)) (m ((c : Thread nD τ).loc main_arg4)),
    (θ_run _ _ _).mono (fun r h c => ?_) (Cert.OutProjDxIdeal.Value.run_blocks m g),
    (θ_run _ _ _).mono (fun r h c => ?_) (Cert.OutProjDxReferenceIdeal.Value.run m' g')⟩
  · exact ⟨(h c).1.trans (result6 m c), (h c).2.1.trans (result7 m c), (h c).2.2.1.trans (result8 m c), (h c).2.2.2.1.trans (result9 m c), (h c).2.2.2.2⟩
  · obtain ⟨h0, h1, h2, h3, h4⟩ := hagree c
    refine ⟨(h c).1.trans ?_, (h c).2.1.trans ?_, (h c).2.2.1.trans ?_, (h c).2.2.2.1.trans ?_, (h c).2.2.2.2⟩
    · rw [Cert.OutProjDxReferenceIdeal.Read.val_main_v35_eq, h0, h1, h4]
    · rw [Cert.OutProjDxReferenceIdeal.Read.val_main_v36_eq, h0, h1, h4]
    · rw [Cert.OutProjDxReferenceIdeal.Read.val_main_v37_eq, h0, h1, h2, h4]
    · rw [Cert.OutProjDxReferenceIdeal.Read.val_main_v38_eq, h0, h1, h3, h4]

end Cert.Calls.OutProjDx
-- ==== Proof.MlpOutDwValue.lean ====
module

public import proofs.«01_k».proof.Defs
public import proofs.«01_k».proof.Proof.Gen.MlpOutDwIdeal.Value
public import proofs.«01_k».proof.Proof.Gen.MlpOutDwReferenceIdeal.Run
public import proofs.«01_k».proof.Proof.Gen.MlpOutDwReferenceIdeal.Read
public import Idealize.ShloMosaic.Lib.Pipeline.ValueKit
public import Idealize.ShloMosaic.Lib.Pipeline.ReadBack
public import Idealize.ShloMosaic.Lib.Pointwise

/-! The gradient of the weights of the MLP's second product: the sum over the blocks of rows is the sum over all rows. -/

@[expose] public section

noncomputable section

namespace Cert.Calls.MlpOutDw

open Cert.MlpOutDwIdeal Cert.MlpOutDwIdeal.Gen Idealize.ShloMosaic Idealize.ShloMosaic.TcCoe Idealize.SL.Sem
open Cert.MlpOutDwReferenceIdeal.Read

variable (m : (ℓ : Loc nD τ sig) → Buf (Elt Ideal) ℓ)

/-- The product of two entries. -/
abbrev mul (a b : EReal) : EReal := a * b

theorem corner0 : ∀ t : Fin cfg0.N, win0_0.index t = ![t.val % 4, t.val / 4] :=
  (by decide +kernel : ∀ t : Fin grid0.N, win0_0.index t = ![t.val % 4, t.val / 4])

theorem corner1 : ∀ t : Fin cfg0.N, win0_1.index t = ![t.val % 4, 0] :=
  (by decide +kernel : ∀ t : Fin grid0.N, win0_1.index t = ![t.val % 4, 0])

theorem corner2 : ∀ t : Fin cfg0.N, win0_2.index t = ![t.val / 4, 0] :=
  (by decide +kernel : ∀ t : Fin grid0.N, win0_2.index t = ![t.val / 4, 0])

theorem start (c : Dev nD) (t : Fin cfg0.N) (h : t.val % 4 = 0) (j : S1024x2048.Idx) :
    ((outsAt0 m c t.val t.isLt).2 j : EReal) = 0 + ∑ k : Fin 1024, mul (iblk m c 0 t (ix2 k (j 0))) (iblk m c 1 t (ix2 k (j 1))) := by
  rw [outsAt0_A m c t (by omega) (by omega) (by omega)]; frame_out
  pointwise [k0_pay1]

theorem step (c : Dev nD) (t : Fin cfg0.N) (h : ¬t.val % 4 = 0) (j : S1024x2048.Idx) :
    ((outsAt0 m c t.val t.isLt).2 j : EReal) = (outsAt0 m c (t.val - 1) (Nat.lt_of_le_of_lt (Nat.sub_le _ _) t.isLt)).2 j
      + ∑ k : Fin 1024, mul (iblk m c 0 t (ix2 k (j 0))) (iblk m c 1 t (ix2 k (j 1))) := by
  by_cases h2 : t.val % 4 = 3
  · rw [outsAt0_C m c t (by omega) (by omega) (by omega)]; frame_out
    rw [read_unread_whole]
    pointwise [k0_pay2]
  · rw [outsAt0_B m c t (by omega) (by omega) (by omega)]; frame_out
    rw [read_unread_whole]
    pointwise [k0_pay2]

theorem out (c : Dev nD) (t : Fin cfg0.N) (h : t.val % 4 = 3) (j : S1024x2048.Idx) :
    ((outsAt0 m c t.val t.isLt).1 j : EReal) = (outsAt0 m c t.val t.isLt).2 j := by
  rw [outsAt0_C m c t (by omega) (by omega) (by omega)]; frame_out
  pointwise [k0_pay3]

theorem total (c : Dev nD) (t : Fin cfg0.N) (h : t.val % 4 = 3) (j : S1024x2048.Idx) :
    ((outsAt0 m c t.val t.isLt).1 j : EReal) = ∑ s : Fin 4, ∑ k : Fin 1024,
      mul (iblk m c 0 ⟨4 * (t.val / 4) + s.val, Pipeline.run_point_lt_of_flush t h s⟩ (ix2 k (j 0)))
        (iblk m c 1 ⟨4 * (t.val / 4) + s.val, Pipeline.run_point_lt_of_flush t h s⟩ (ix2 k (j 1))) :=
  (out m c t h j).trans
    ((Pipeline.eq_sum_fin_of_reset_step_apply_of_flush (fun n hn => ((outsAt0 m c n hn).2 : S1024x2048.Idx → EReal)) 4 (fun _ => 0)
      (fun t j => ∑ k : Fin 1024, mul (iblk m c 0 t (ix2 k (j 0))) (iblk m c 1 t (ix2 k (j 1))))
      (start m c) (step m c) t h j).trans (zero_add (M := EReal) _))

theorem result2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  have b0 : ∀ (s : Fin 4) (k : Fin 1024) (hl : s.val * 1024 + k.val < 4096),
      (iblk m c 0 ⟨4 * (t.val / 4) + s.val, Pipeline.run_point_lt_of_flush t hr s⟩ (ix2 k (y 0)) : EReal) = (m ((c : Thread nD τ).loc main_arg0)) (ridx_main_v4 (idx_main_v5 (((View.whole main_v0).slice (win0_2.rect t)).emb y)) ⟨s.val * 1024 + k.val, hl⟩) := by
    intro s k hl
    blk_simp [iblk, V_main_arg0]
    refine congrArg (m ((c : Thread nD τ).loc main_arg0)) ?_
    have hs := s.isLt
    blk_ext [corner0, corner2]
  have b1 : ∀ (s : Fin 4) (k : Fin 1024) (hl : s.val * 1024 + k.val < 4096),
      (iblk m c 1 ⟨4 * (t.val / 4) + s.val, Pipeline.run_point_lt_of_flush t hr s⟩ (ix2 k (y 1)) : EReal) = (m ((c : Thread nD τ).loc main_arg1)) (lidx_main_v4 (idx_main_v5 (((View.whole main_v0).slice (win0_2.rect t)).emb y)) ⟨s.val * 1024 + k.val, hl⟩) := by
    intro s k hl
    blk_simp [iblk, V_main_arg1]
    refine congrArg (m ((c : Thread nD τ).loc main_arg1)) ?_
    have hs := s.isLt
    blk_ext [corner1, corner2]
  blk_simp
  rw [after0_2]
  refine (total m c t hr y).trans ?_
  pointwise [val_main_cst_apply, val_main_v0_apply, val_main_v1_apply, val_main_v2_apply, val_main_v3_apply, val_main_v4_apply, val_main_v5_apply, val_main_v6_apply]
  refine Fin.sum_mul_add_congr (fun s k hl => ?_)
  rw [b0 s k hl, b1 s k hl]
  exact mul_comm (G := EReal) _ _

theorem algebraic : Cert.algebraic_MlpOutDwIdeal_MlpOutDwReferenceIdeal := by
  intro m g m' g' _ hagree
  refine ⟨fun c => Cert.MlpOutDwReferenceIdeal.Read.val_main_v6 (F := Ideal) (m ((c : Thread nD τ).loc main_arg0)) (m ((c : Thread nD τ).loc main_arg1)),
    (θ_run _ _ _).mono (fun r h c => ?_) (Cert.MlpOutDwIdeal.Value.run_blocks m g),
    (θ_run _ _ _).mono (fun r h c => ?_) (Cert.MlpOutDwReferenceIdeal.Value.run m' g')⟩
  · exact ⟨(h c).1.trans (result2 m c), (h c).2⟩
  · obtain ⟨h0, h1⟩ := hagree c
    refine ⟨(h c).1.trans ?_, (h c).2⟩
    · rw [Cert.MlpOutDwReferenceIdeal.Read.val_main_v6_eq, h0, h1]

end Cert.Calls.MlpOutDw
-- ==== Proof.MlpInDxValue.lean ====
module

public import proofs.«01_k».proof.Defs
public import proofs.«01_k».proof.Proof.Gen.MlpInDxIdeal.Value
public import proofs.«01_k».proof.Proof.Gen.MlpInDxReferenceIdeal.Run
public import proofs.«01_k».proof.Proof.Gen.MlpInDxReferenceIdeal.Read
public import Idealize.ShloMosaic.Lib.Pipeline.ValueKit
public import Idealize.ShloMosaic.Lib.Pipeline.ReadBack
public import Idealize.ShloMosaic.Lib.Pointwise

/-! The gradient through the MLP's first product: the sum over the blocks of hidden units is the sum over all of them. -/

@[expose] public section

noncomputable section

namespace Cert.Calls.MlpInDx

open Cert.MlpInDxIdeal Cert.MlpInDxIdeal.Gen Idealize.ShloMosaic Idealize.ShloMosaic.TcCoe Idealize.SL.Sem
open Cert.MlpInDxReferenceIdeal.Read

variable (m : (ℓ : Loc nD τ sig) → Buf (Elt Ideal) ℓ)

/-- The product of two entries. -/
abbrev mul (a b : EReal) : EReal := a * b

theorem corner0 : ∀ t : Fin cfg0.N, win0_0.index t = ![t.val / 8, t.val % 8] :=
  (by decide +kernel : ∀ t : Fin grid0.N, win0_0.index t = ![t.val / 8, t.val % 8])

theorem corner1 : ∀ t : Fin cfg0.N, win0_1.index t = ![t.val % 8, 0] :=
  (by decide +kernel : ∀ t : Fin grid0.N, win0_1.index t = ![t.val % 8, 0])

theorem corner2 : ∀ t : Fin cfg0.N, win0_2.index t = ![t.val / 8, 0] :=
  (by decide +kernel : ∀ t : Fin grid0.N, win0_2.index t = ![t.val / 8, 0])

theorem start (c : Dev nD) (t : Fin cfg0.N) (h : t.val % 8 = 0) (j : S1024x2048.Idx) :
    ((outsAt0 m c t.val t.isLt).2 j : EReal) = 0 + ∑ k : Fin 1024, mul (iblk m c 0 t (ix2 (j 0) k)) (iblk m c 1 t (ix2 k (j 1))) := by
  rw [outsAt0_A m c t (by omega) (by omega) (by omega)]; frame_out
  pointwise [k0_pay1]

theorem step (c : Dev nD) (t : Fin cfg0.N) (h : ¬t.val % 8 = 0) (j : S1024x2048.Idx) :
    ((outsAt0 m c t.val t.isLt).2 j : EReal) = (outsAt0 m c (t.val - 1) (Nat.lt_of_le_of_lt (Nat.sub_le _ _) t.isLt)).2 j
      + ∑ k : Fin 1024, mul (iblk m c 0 t (ix2 (j 0) k)) (iblk m c 1 t (ix2 k (j 1))) := by
  by_cases h2 : t.val % 8 = 7
  · rw [outsAt0_C m c t (by omega) (by omega) (by omega)]; frame_out
    rw [read_unread_whole]
    pointwise [k0_pay2]
  · rw [outsAt0_B m c t (by omega) (by omega) (by omega)]; frame_out
    rw [read_unread_whole]
    pointwise [k0_pay2]

theorem out (c : Dev nD) (t : Fin cfg0.N) (h : t.val % 8 = 7) (j : S1024x2048.Idx) :
    ((outsAt0 m c t.val t.isLt).1 j : EReal) = (outsAt0 m c t.val t.isLt).2 j := by
  rw [outsAt0_C m c t (by omega) (by omega) (by omega)]; frame_out

theorem total (c : Dev nD) (t : Fin cfg0.N) (h : t.val % 8 = 7) (j : S1024x2048.Idx) :
    ((outsAt0 m c t.val t.isLt).1 j : EReal) = ∑ s : Fin 8, ∑ k : Fin 1024,
      mul (iblk m c 0 ⟨8 * (t.val / 8) + s.val, Pipeline.run_point_lt_of_flush t h s⟩ (ix2 (j 0) k))
        (iblk m c 1 ⟨8 * (t.val / 8) + s.val, Pipeline.run_point_lt_of_flush t h s⟩ (ix2 k (j 1))) :=
  (out m c t h j).trans
    ((Pipeline.eq_sum_fin_of_reset_step_apply_of_flush (fun n hn => ((outsAt0 m c n hn).2 : S1024x2048.Idx → EReal)) 8 (fun _ => 0)
      (fun t j => ∑ k : Fin 1024, mul (iblk m c 0 t (ix2 (j 0) k)) (iblk m c 1 t (ix2 k (j 1))))
      (start m c) (step m c) t h j).trans (zero_add (M := EReal) _))

theorem result2 (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  have b0 : ∀ (s : Fin 8) (k : Fin 1024) (hl : s.val * 1024 + k.val < 8192),
      (iblk m c 0 ⟨8 * (t.val / 8) + s.val, Pipeline.run_point_lt_of_flush t hr s⟩ (ix2 (y 0) k) : EReal) = (m ((c : Thread nD τ).loc main_arg0)) (lidx_main_v5 (((View.whole main_v0).slice (win0_2.rect t)).emb y) ⟨s.val * 1024 + k.val, hl⟩) := by
    intro s k hl
    blk_simp [iblk, V_main_arg0]
    refine congrArg (m ((c : Thread nD τ).loc main_arg0)) ?_
    have hs := s.isLt
    blk_ext [corner0, corner2]
  have b1 : ∀ (s : Fin 8) (k : Fin 1024) (hl : s.val * 1024 + k.val < 8192),
      (iblk m c 1 ⟨8 * (t.val / 8) + s.val, Pipeline.run_point_lt_of_flush t hr s⟩ (ix2 k (y 1)) : EReal) = (m ((c : Thread nD τ).loc main_arg1)) (idx_main_v2 (ridx_main_v5 (((View.whole main_v0).slice (win0_2.rect t)).emb y) ⟨s.val * 1024 + k.val, hl⟩)) := by
    intro s k hl
    blk_simp [iblk, V_main_arg1]
    refine congrArg (m ((c : Thread nD τ).loc main_arg1)) ?_
    have hs := s.isLt
    blk_ext [corner1, corner2]
  blk_simp
  rw [after0_2]
  refine (total m c t hr y).trans ?_
  pointwise [val_main_cst_apply, val_main_v0_apply, val_main_v1_apply, val_main_v2_apply, val_main_v3_apply, val_main_v4_apply, val_main_v5_apply]
  refine Fin.sum_mul_add_congr (fun s k hl => ?_)
  rw [b0 s k hl, b1 s k hl]

theorem algebraic : Cert.algebraic_MlpInDxIdeal_MlpInDxReferenceIdeal := by
  intro m g m' g' _ hagree
  refine ⟨fun c => Cert.MlpInDxReferenceIdeal.Read.val_main_v5 (F := Ideal) (m ((c : Thread nD τ).loc main_arg0)) (m ((c : Thread nD τ).loc main_arg1)),
    (θ_run _ _ _).mono (fun r h c => ?_) (Cert.MlpInDxIdeal.Value.run_blocks m g),
    (θ_run _ _ _).mono (fun r h c => ?_) (Cert.MlpInDxReferenceIdeal.Value.run m' g')⟩
  · exact ⟨(h c).1.trans (result2 m c), (h c).2⟩
  · obtain ⟨h0, h1⟩ := hagree c
    refine ⟨(h c).1.trans ?_, (h c).2⟩
    · rw [Cert.MlpInDxReferenceIdeal.Read.val_main_v5_eq, h0, h1]

end Cert.Calls.MlpInDx
-- ==== Proof.MlpInDwValue.lean ====
module

public import proofs.«01_k».proof.Defs
public import proofs.«01_k».proof.Proof.Gen.MlpInDwIdeal.Value
public import proofs.«01_k».proof.Proof.Gen.MlpInDwReferenceIdeal.Run
public import proofs.«01_k».proof.Proof.Gen.MlpInDwReferenceIdeal.Read
public import Idealize.ShloMosaic.Lib.Pipeline.ValueKit
public import Idealize.ShloMosaic.Lib.Pipeline.ReadBack
public import Idealize.ShloMosaic.Lib.Pointwise

/-! The gradient of the weights of the MLP's first product: the sum over the blocks of rows is the sum over all rows. -/

@[expose] public section

noncomputable section

namespace Cert.Calls.MlpInDw

open Cert.MlpInDwIdeal Cert.MlpInDwIdeal.Gen Idealize.ShloMosaic Idealize.ShloMosaic.TcCoe Idealize.SL.Sem
open Cert.MlpInDwReferenceIdeal.Read

variable (m : (ℓ : Loc nD τ sig) → Buf (Elt Ideal) ℓ)

/-- The product of two entries. -/
abbrev mul (a b : EReal) : EReal := a * b

theorem corner0 : ∀ t : Fin cfg0.N, win0_0.index t = ![t.val % 4, t.val / 4] :=
  (by decide +kernel : ∀ t : Fin grid0.N, win0_0.index t = ![t.val % 4, t.val / 4])

theorem corner1 : ∀ t : Fin cfg0.N, win0_1.index t = ![t.val % 4, 0] :=
  (by decide +kernel : ∀ t : Fin grid0.N, win0_1.index t = ![t.val % 4, 0])

theorem corner2 : ∀ t : Fin cfg0.N, win0_2.index t = ![t.val / 4, 0] :=
  (by decide +kernel : ∀ t : Fin grid0.N, win0_2.index t = ![t.val / 4, 0])

theorem start (c : Dev nD) (t : Fin cfg0.N) (h : t.val % 4 = 0) (j : S1024x2048.Idx) :
    ((outsAt0 m c t.val t.isLt).2 j : EReal) = 0 + ∑ k : Fin 1024, mul (iblk m c 0 t (ix2 k (j 0))) (iblk m c 1 t (ix2 k (j 1))) := by
  rw [outsAt0_A m c t (by omega) (by omega) (by omega)]; frame_out
  pointwise [k0_pay1]

theorem step (c : Dev nD) (t : Fin cfg0.N) (h : ¬t.val % 4 = 0) (j : S1024x2048.Idx) :
    ((outsAt0 m c t.val t.isLt).2 j : EReal) = (outsAt0 m c (t.val - 1) (Nat.lt_of_le_of_lt (Nat.sub_le _ _) t.isLt)).2 j
      + ∑ k : Fin 1024, mul (iblk m c 0 t (ix2 k (j 0))) (iblk m c 1 t (ix2 k (j 1))) := by
  by_cases h2 : t.val % 4 = 3
  · rw [outsAt0_C m c t (by omega) (by omega) (by omega)]; frame_out
    rw [read_unread_whole]
    pointwise [k0_pay2]
  · rw [outsAt0_B m c t (by omega) (by omega) (by omega)]; frame_out
    rw [read_unread_whole]
    pointwise [k0_pay2]

theorem out (c : Dev nD) (t : Fin cfg0.N) (h : t.val % 4 = 3) (j : S1024x2048.Idx) :
    ((outsAt0 m c t.val t.isLt).1 j : EReal) = (outsAt0 m c t.val t.isLt).2 j := by
  rw [outsAt0_C m c t (by omega) (by omega) (by omega)]; frame_out
  pointwise [k0_pay3]

theorem total (c : Dev nD) (t : Fin cfg0.N) (h : t.val % 4 = 3) (j : S1024x2048.Idx) :
    ((outsAt0 m c t.val t.isLt).1 j : EReal) = ∑ s : Fin 4, ∑ k : Fin 1024,
      mul (iblk m c 0 ⟨4 * (t.val / 4) + s.val, Pipeline.run_point_lt_of_flush t h s⟩ (ix2 k (j 0)))
        (iblk m c 1 ⟨4 * (t.val / 4) + s.val, Pipeline.run_point_lt_of_flush t h s⟩ (ix2 k (j 1))) :=
  (out m c t h j).trans
    ((Pipeline.eq_sum_fin_of_reset_step_apply_of_flush (fun n hn => ((outsAt0 m c n hn).2 : S1024x2048.Idx → EReal)) 4 (fun _ => 0)
      (fun t j => ∑ k : Fin 1024, mul (iblk m c 0 t (ix2 k (j 0))) (iblk m c 1 t (ix2 k (j 1))))
      (start m c) (step m c) t h j).trans (zero_add (M := EReal) _))

theorem result2 (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  have b0 : ∀ (s : Fin 4) (k : Fin 1024) (hl : s.val * 1024 + k.val < 4096),
      (iblk m c 0 ⟨4 * (t.val / 4) + s.val, Pipeline.run_point_lt_of_flush t hr s⟩ (ix2 k (y 0)) : EReal) = (m ((c : Thread nD τ).loc main_arg0)) (lidx_main_v5 (idx_main_v6 (idx_main_v7 (((View.whole main_v0).slice (win0_2.rect t)).emb y))) ⟨s.val * 1024 + k.val, hl⟩) := by
    intro s k hl
    blk_simp [iblk, V_main_arg0]
    refine congrArg (m ((c : Thread nD τ).loc main_arg0)) ?_
    have hs := s.isLt
    blk_ext [corner0, corner2]
  have b1 : ∀ (s : Fin 4) (k : Fin 1024) (hl : s.val * 1024 + k.val < 4096),
      (iblk m c 1 ⟨4 * (t.val / 4) + s.val, Pipeline.run_point_lt_of_flush t hr s⟩ (ix2 k (y 1)) : EReal) = (m ((c : Thread nD τ).loc main_arg1)) (ridx_main_v5 (idx_main_v6 (idx_main_v7 (((View.whole main_v0).slice (win0_2.rect t)).emb y))) ⟨s.val * 1024 + k.val, hl⟩) := by
    intro s k hl
    blk_simp [iblk, V_main_arg1]
    refine congrArg (m ((c : Thread nD τ).loc main_arg1)) ?_
    have hs := s.isLt
    blk_ext [corner1, corner2]
  blk_simp
  rw [after0_2]
  refine (total m c t hr y).trans ?_
  pointwise [val_main_cst_apply, val_main_v0_apply, val_main_v1_apply, val_main_v2_apply, val_main_v3_apply, val_main_v4_apply, val_main_v5_apply, val_main_v6_apply, val_main_v7_apply, val_main_v8_apply]
  refine Fin.sum_mul_add_congr (fun s k hl => ?_)
  rw [b0 s k hl, b1 s k hl]

theorem algebraic : Cert.algebraic_MlpInDwIdeal_MlpInDwReferenceIdeal := by
  intro m g m' g' _ hagree
  refine ⟨fun c => Cert.MlpInDwReferenceIdeal.Read.val_main_v8 (F := Ideal) (m ((c : Thread nD τ).loc main_arg0)) (m ((c : Thread nD τ).loc main_arg1)),
    (θ_run _ _ _).mono (fun r h c => ?_) (Cert.MlpInDwIdeal.Value.run_blocks m g),
    (θ_run _ _ _).mono (fun r h c => ?_) (Cert.MlpInDwReferenceIdeal.Value.run m' g')⟩
  · exact ⟨(h c).1.trans (result2 m c), (h c).2⟩
  · obtain ⟨h0, h1⟩ := hagree c
    refine ⟨(h c).1.trans ?_, (h c).2⟩
    · rw [Cert.MlpInDwReferenceIdeal.Read.val_main_v8_eq, h0, h1]

end Cert.Calls.MlpInDw
-- ==== Proof.OutProjDwValue.lean ====
module

public import proofs.«01_k».proof.Defs
public import proofs.«01_k».proof.Proof.Gen.OutProjDwIdeal.Value
public import proofs.«01_k».proof.Proof.Gen.OutProjDwReferenceIdeal.Run
public import proofs.«01_k».proof.Proof.Gen.OutProjDwReferenceIdeal.Read
public import Idealize.ShloMosaic.Lib.Pipeline.ValueKit
public import Idealize.ShloMosaic.Lib.Pipeline.ReadBack
public import Idealize.ShloMosaic.Lib.Pointwise

/-! The gradient of the output projection's weights: the sum over the blocks of rows is the sum over all rows. -/

@[expose] public section

noncomputable section

namespace Cert.Calls.OutProjDw

open Cert.OutProjDwIdeal Cert.OutProjDwIdeal.Gen Idealize.ShloMosaic Idealize.ShloMosaic.TcCoe Idealize.SL.Sem
open Cert.OutProjDwReferenceIdeal.Read

variable (m : (ℓ : Loc nD τ sig) → Buf (Elt Ideal) ℓ)

/-- The product of two entries. -/
abbrev mul (a b : EReal) : EReal := a * b

theorem corner0 : ∀ t : Fin cfg0.N, win0_0.index t = ![t.val % 4, t.val / 8] :=
  (by decide +kernel : ∀ t : Fin grid0.N, win0_0.index t = ![t.val % 4, t.val / 8])

theorem corner1 : ∀ t : Fin cfg0.N, win0_1.index t = ![t.val % 4, t.val / 4 % 2] :=
  (by decide +kernel : ∀ t : Fin grid0.N, win0_1.index t = ![t.val % 4, t.val / 4 % 2])

theorem corner2 : ∀ t : Fin cfg0.N, win0_2.index t = ![t.val / 8, t.val / 4 % 2] :=
  (by decide +kernel : ∀ t : Fin grid0.N, win0_2.index t = ![t.val / 8, t.val / 4 % 2])

theorem start (c : Dev nD) (t : Fin cfg0.N) (h : t.val % 4 = 0) (j : S1024x1024.Idx) :
    ((outsAt0 m c t.val t.isLt).2 j : EReal) = 0 + ∑ k : Fin 1024, mul (iblk m c 0 t (ix2 k (j 0))) (iblk m c 1 t (ix2 k (j 1))) := by
  rw [outsAt0_A m c t (by omega) (by omega) (by omega)]; frame_out
  pointwise [k0_pay1]

theorem step (c : Dev nD) (t : Fin cfg0.N) (h : ¬t.val % 4 = 0) (j : S1024x1024.Idx) :
    ((outsAt0 m c t.val t.isLt).2 j : EReal) = (outsAt0 m c (t.val - 1) (Nat.lt_of_le_of_lt (Nat.sub_le _ _) t.isLt)).2 j
      + ∑ k : Fin 1024, mul (iblk m c 0 t (ix2 k (j 0))) (iblk m c 1 t (ix2 k (j 1))) := by
  by_cases h2 : t.val % 4 = 3
  · rw [outsAt0_C m c t (by omega) (by omega) (by omega)]; frame_out
    rw [read_unread_whole]
    pointwise [k0_pay2]
  · rw [outsAt0_B m c t (by omega) (by omega) (by omega)]; frame_out
    rw [read_unread_whole]
    pointwise [k0_pay2]

theorem out (c : Dev nD) (t : Fin cfg0.N) (h : t.val % 4 = 3) (j : S1024x1024.Idx) :
    ((outsAt0 m c t.val t.isLt).1 j : EReal) = (outsAt0 m c t.val t.isLt).2 j := by
  rw [outsAt0_C m c t (by omega) (by omega) (by omega)]; frame_out
  pointwise [k0_pay3]

theorem total (c : Dev nD) (t : Fin cfg0.N) (h : t.val % 4 = 3) (j : S1024x1024.Idx) :
    ((outsAt0 m c t.val t.isLt).1 j : EReal) = ∑ s : Fin 4, ∑ k : Fin 1024,
      mul (iblk m c 0 ⟨4 * (t.val / 4) + s.val, Pipeline.run_point_lt_of_flush t h s⟩ (ix2 k (j 0)))
        (iblk m c 1 ⟨4 * (t.val / 4) + s.val, Pipeline.run_point_lt_of_flush t h s⟩ (ix2 k (j 1))) :=
  (out m c t h j).trans
    ((Pipeline.eq_sum_fin_of_reset_step_apply_of_flush (fun n hn => ((outsAt0 m c n hn).2 : S1024x1024.Idx → EReal)) 4 (fun _ => 0)
      (fun t j => ∑ k : Fin 1024, mul (iblk m c 0 t (ix2 k (j 0))) (iblk m c 1 t (ix2 k (j 1))))
      (start m c) (step m c) t h j).trans (zero_add (M := EReal) _))

theorem result2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  have b0 : ∀ (s : Fin 4) (k : Fin 1024) (hl : s.val * 1024 + k.val < 4096),
      (iblk m c 0 ⟨4 * (t.val / 4) + s.val, Pipeline.run_point_lt_of_flush t hr s⟩ (ix2 k (y 0)) : EReal) = (m ((c : Thread nD τ).loc main_arg0)) (ridx_main_v4 (idx_main_v5 (((View.whole main_v0).slice (win0_2.rect t)).emb y)) ⟨s.val * 1024 + k.val, hl⟩) := by
    intro s k hl
    blk_simp [iblk, V_main_arg0]
    refine congrArg (m ((c : Thread nD τ).loc main_arg0)) ?_
    have hs := s.isLt
    blk_ext [corner0, corner2]
  have b1 : ∀ (s : Fin 4) (k : Fin 1024) (hl : s.val * 1024 + k.val < 4096),
      (iblk m c 1 ⟨4 * (t.val / 4) + s.val, Pipeline.run_point_lt_of_flush t hr s⟩ (ix2 k (y 1)) : EReal) = (m ((c : Thread nD τ).loc main_arg1)) (lidx_main_v4 (idx_main_v5 (((View.whole main_v0).slice (win0_2.rect t)).emb y)) ⟨s.val * 1024 + k.val, hl⟩) := by
    intro s k hl
    blk_simp [iblk, V_main_arg1]
    refine congrArg (m ((c : Thread nD τ).loc main_arg1)) ?_
    have hs := s.isLt
    blk_ext [corner1, corner2]
  blk_simp
  rw [after0_2]
  refine (total m c t hr y).trans ?_
  pointwise [val_main_cst_apply, val_main_v0_apply, val_main_v1_apply, val_main_v2_apply, val_main_v3_apply, val_main_v4_apply, val_main_v5_apply, val_main_v6_apply]
  refine Fin.sum_mul_add_congr (fun s k hl => ?_)
  rw [b0 s k hl, b1 s k hl]
  exact mul_comm (G := EReal) _ _

theorem algebraic : Cert.algebraic_OutProjDwIdeal_OutProjDwReferenceIdeal := by
  intro m g m' g' _ hagree
  refine ⟨fun c => Cert.OutProjDwReferenceIdeal.Read.val_main_v6 (F := Ideal) (m ((c : Thread nD τ).loc main_arg0)) (m ((c : Thread nD τ).loc main_arg1)),
    (θ_run _ _ _).mono (fun r h c => ?_) (Cert.OutProjDwIdeal.Value.run_blocks m g),
    (θ_run _ _ _).mono (fun r h c => ?_) (Cert.OutProjDwReferenceIdeal.Value.run m' g')⟩
  · exact ⟨(h c).1.trans (result2 m c), (h c).2⟩
  · obtain ⟨h0, h1⟩ := hagree c
    refine ⟨(h c).1.trans ?_, (h c).2⟩
    · rw [Cert.OutProjDwReferenceIdeal.Read.val_main_v6_eq, h0, h1]

end Cert.Calls.OutProjDw
-- ==== Proof.BranchDxValue.lean ====
module

public import proofs.«01_k».proof.Defs
public import proofs.«01_k».proof.Proof.Gen.BranchDxIdeal.Value
public import proofs.«01_k».proof.Proof.Gen.BranchDxReferenceIdeal.Run
public import proofs.«01_k».proof.Proof.Gen.BranchDxReferenceIdeal.Read
public import Idealize.ShloMosaic.Lib.Pipeline.ValueKit
public import Idealize.ShloMosaic.Lib.Pointwise

/-! The gradients of the two branch outputs through their products. -/

@[expose] public section

noncomputable section

namespace Cert.Calls.BranchDx

open Cert.BranchDxIdeal Cert.BranchDxIdeal.Gen Idealize.ShloMosaic Idealize.ShloMosaic.TcCoe Idealize.SL.Sem
open Cert.BranchDxReferenceIdeal.Read

variable (m : (ℓ : Loc nD τ sig) → Buf (Elt Ideal) ℓ)

/-- The blocks of the arguments that the point's block of the result is made from. -/
theorem corners4 : ∀ t : Fin cfg0.N, win0_0.index t = ![win0_4.index t 0, 0] ∧ win0_1.index t = ![0, win0_4.index t 1] :=
  (by decide +kernel : ∀ t : Fin grid0.N, win0_0.index t = ![win0_4.index t 0, 0] ∧ win0_1.index t = ![0, win0_4.index t 1])

theorem result4 (c : Dev nD) : (dats m 0 c).arrAt 4 cfg0.N = val_main_v10 (F := Ideal) (m ((c : Thread nD τ).loc main_arg0)) (m ((c : Thread nD τ).loc main_arg1)) := by
  refine (dats m 0 c).arrAt_eq_of_covers 4 _ (by decide +kernel) fun t hf y => ?_
  obtain ⟨e0, e1⟩ := corners4 t
  have b0 : ∀ k : Fin _, (iblk m c 0 t (ix2 (y 0) k) : EReal) = (m ((c : Thread nD τ).loc main_arg0)) (lidx_main_v10 (((View.whole main_v0_0).slice (win0_4.rect t)).emb y) k) := by
    intro k
    blk_simp [iblk, V_main_arg0]
    refine congrArg (m ((c : Thread nD τ).loc main_arg0)) ?_
    blk_ext [e0]
  have b1 : ∀ k : Fin _, (iblk m c 1 t (ix2 k (y 1)) : EReal) = (m ((c : Thread nD τ).loc main_arg1)) (idx_main_v2 (ridx_main_v10 (((View.whole main_v0_0).slice (win0_4.rect t)).emb y) k)) := by
    intro k
    blk_simp [iblk, V_main_arg1]
    refine congrArg (m ((c : Thread nD τ).loc main_arg1)) ?_
    blk_ext [e1]
  blk_simp
  rw [after0_4]; frame_out
  pointwise [k0_pay1, k0_pay2, val_main_cst_apply, val_main_v0_apply, val_main_v1_apply, val_main_v2_apply, val_main_v3_apply, val_main_v4_apply, val_main_v5_apply, val_main_v6_apply, val_main_v7_apply, val_main_v8_apply, val_main_v9_apply, val_main_v10_apply]
  simp only [b0, b1]

/-- The blocks of the arguments that the point's block of the result is made from. -/
theorem corners5 : ∀ t : Fin cfg0.N, win0_2.index t = ![win0_5.index t 0, 0] ∧ win0_3.index t = ![0, win0_5.index t 1] :=
  (by decide +kernel : ∀ t : Fin grid0.N, win0_2.index t = ![win0_5.index t 0, 0] ∧ win0_3.index t = ![0, win0_5.index t 1])

theorem result5 (c : Dev nD) : (dats m 0 c).arrAt 5 cfg0.N = val_main_v9 (F := Ideal) (m ((c : Thread nD τ).loc main_arg2)) (m ((c : Thread nD τ).loc main_arg3)) := by
  refine (dats m 0 c).arrAt_eq_of_covers 5 _ (by decide +kernel) fun t hf y => ?_
  obtain ⟨e2, e3⟩ := corners5 t
  have b0 : ∀ k : Fin _, (iblk m c 2 t (ix2 (y 0) k) : EReal) = (m ((c : Thread nD τ).loc main_arg2)) (lidx_main_v9 (((View.whole main_v0_1).slice (win0_5.rect t)).emb y) k) := by
    intro k
    blk_simp [iblk, V_main_arg2]
    refine congrArg (m ((c : Thread nD τ).loc main_arg2)) ?_
    blk_ext [e2]
  have b1 : ∀ k : Fin _, (iblk m c 3 t (ix2 k (y 1)) : EReal) = (m ((c : Thread nD τ).loc main_arg3)) (idx_main_v5 (ridx_main_v9 (((View.whole main_v0_1).slice (win0_5.rect t)).emb y) k)) := by
    intro k
    blk_simp [iblk, V_main_arg3]
    refine congrArg (m ((c : Thread nD τ).loc main_arg3)) ?_
    blk_ext [e3]
  blk_simp
  rw [after0_5]; frame_out
  pointwise [k0_pay1, k0_pay2, val_main_cst_apply, val_main_v0_apply, val_main_v1_apply, val_main_v2_apply, val_main_v3_apply, val_main_v4_apply, val_main_v5_apply, val_main_v6_apply, val_main_v7_apply, val_main_v8_apply, val_main_v9_apply, val_main_v10_apply]
  simp only [b0, b1]

theorem algebraic : Cert.algebraic_BranchDxIdeal_BranchDxReferenceIdeal := by
  intro m g m' g' _ hagree
  refine ⟨fun c => Cert.BranchDxReferenceIdeal.Read.val_main_v10 (F := Ideal) (m ((c : Thread nD τ).loc main_arg0)) (m ((c : Thread nD τ).loc main_arg1)), fun c => Cert.BranchDxReferenceIdeal.Read.val_main_v9 (F := Ideal) (m ((c : Thread nD τ).loc main_arg2)) (m ((c : Thread nD τ).loc main_arg3)),
    (θ_run _ _ _).mono (fun r h c => ?_) (Cert.BranchDxIdeal.Value.run_blocks m g),
    (θ_run _ _ _).mono (fun r h c => ?_) (Cert.BranchDxReferenceIdeal.Value.run m' g')⟩
  · exact ⟨(h c).1.trans (result4 m c), (h c).2.1.trans (result5 m c), (h c).2.2⟩
  · obtain ⟨h0, h1, h2, h3⟩ := hagree c
    refine ⟨(h c).1.trans ?_, (h c).2.1.trans ?_, (h c).2.2⟩
    · rw [Cert.BranchDxReferenceIdeal.Read.val_main_v10_eq, h0, h1]
    · rw [Cert.BranchDxReferenceIdeal.Read.val_main_v9_eq, h2, h3]

end Cert.Calls.BranchDx
-- ==== Proof.BranchDwValue.lean ====
module

public import proofs.«01_k».proof.Defs
public import proofs.«01_k».proof.Proof.Gen.BranchDwIdeal.Value
public import proofs.«01_k».proof.Proof.Gen.BranchDwReferenceIdeal.Run
public import proofs.«01_k».proof.Proof.Gen.BranchDwReferenceIdeal.Read
public import Idealize.ShloMosaic.Lib.Pipeline.ValueKit
public import Idealize.ShloMosaic.Lib.Pipeline.ReadBack
public import Idealize.ShloMosaic.Lib.Pointwise

/-! The gradients of the two branches' weights: the sums over the blocks of rows are the sums over all rows. -/

@[expose] public section

noncomputable section

namespace Cert.Calls.BranchDw

open Cert.BranchDwIdeal Cert.BranchDwIdeal.Gen Idealize.ShloMosaic Idealize.ShloMosaic.TcCoe Idealize.SL.Sem
open Cert.BranchDwReferenceIdeal.Read

variable (m : (ℓ : Loc nD τ sig) → Buf (Elt Ideal) ℓ)

/-- The product of two entries. -/
abbrev mul (a b : EReal) : EReal := a * b

theorem corner0 : ∀ t : Fin cfg0.N, win0_0.index t = ![t.val % 4, t.val / 4] :=
  (by decide +kernel : ∀ t : Fin grid0.N, win0_0.index t = ![t.val % 4, t.val / 4])

theorem corner1 : ∀ t : Fin cfg0.N, win0_1.index t = ![t.val % 4, 0] :=
  (by decide +kernel : ∀ t : Fin grid0.N, win0_1.index t = ![t.val % 4, 0])

theorem corner2 : ∀ t : Fin cfg0.N, win0_2.index t = ![t.val % 4, t.val / 4] :=
  (by decide +kernel : ∀ t : Fin grid0.N, win0_2.index t = ![t.val % 4, t.val / 4])

theorem corner3 : ∀ t : Fin cfg0.N, win0_3.index t = ![t.val % 4, 0] :=
  (by decide +kernel : ∀ t : Fin grid0.N, win0_3.index t = ![t.val % 4, 0])

theorem corner4 : ∀ t : Fin cfg0.N, win0_4.index t = ![t.val / 4, 0] :=
  (by decide +kernel : ∀ t : Fin grid0.N, win0_4.index t = ![t.val / 4, 0])

theorem corner5 : ∀ t : Fin cfg0.N, win0_5.index t = ![t.val / 4, 0] :=
  (by decide +kernel : ∀ t : Fin grid0.N, win0_5.index t = ![t.val / 4, 0])

theorem startA (c : Dev nD) (t : Fin cfg0.N) (h : t.val % 4 = 0) (j : S1024x1024.Idx) :
    ((outsAt0 m c t.val t.isLt).2.2.1 j : EReal) = 0 + ∑ k : Fin 1024, mul (iblk m c 0 t (ix2 k (j 0))) (iblk m c 1 t (ix2 k (j 1))) := by
  rw [outsAt0_A m c t (by omega) (by omega) (by omega) (by omega) (by omega) (by omega)]; frame_out
  pointwise [k0_pay2, k0_pay1]

theorem stepA (c : Dev nD) (t : Fin cfg0.N) (h : ¬t.val % 4 = 0) (j : S1024x1024.Idx) :
    ((outsAt0 m c t.val t.isLt).2.2.1 j : EReal) = (outsAt0 m c (t.val - 1) (Nat.lt_of_le_of_lt (Nat.sub_le _ _) t.isLt)).2.2.1 j
      + ∑ k : Fin 1024, mul (iblk m c 0 t (ix2 k (j 0))) (iblk m c 1 t (ix2 k (j 1))) := by
  by_cases h2 : t.val % 4 = 3
  · rw [outsAt0_C m c t (by omega) (by omega) (by omega) (by omega) (by omega) (by omega)]; frame_out
    rw [read_unread_whole]
    pointwise [k0_pay3, k0_pay1]
  · rw [outsAt0_B m c t (by omega) (by omega) (by omega) (by omega) (by omega) (by omega)]; frame_out
    rw [read_unread_whole]
    pointwise [k0_pay3, k0_pay1]

theorem outA (c : Dev nD) (t : Fin cfg0.N) (h : t.val % 4 = 3) (j : S1024x1024.Idx) :
    ((outsAt0 m c t.val t.isLt).1 j : EReal) = (outsAt0 m c t.val t.isLt).2.2.1 j := by
  rw [outsAt0_C m c t (by omega) (by omega) (by omega) (by omega) (by omega) (by omega)]; frame_out
  pointwise [k0_pay4]

theorem totalA (c : Dev nD) (t : Fin cfg0.N) (h : t.val % 4 = 3) (j : S1024x1024.Idx) :
    ((outsAt0 m c t.val t.isLt).1 j : EReal) = ∑ s : Fin 4, ∑ k : Fin 1024,
      mul (iblk m c 0 ⟨4 * (t.val / 4) + s.val, Pipeline.run_point_lt_of_flush t h s⟩ (ix2 k (j 0)))
        (iblk m c 1 ⟨4 * (t.val / 4) + s.val, Pipeline.run_point_lt_of_flush t h s⟩ (ix2 k (j 1))) :=
  (outA m c t h j).trans
    ((Pipeline.eq_sum_fin_of_reset_step_apply_of_flush (fun n hn => ((outsAt0 m c n hn).2.2.1 : S1024x1024.Idx → EReal)) 4 (fun _ => 0)
      (fun t j => ∑ k : Fin 1024, mul (iblk m c 0 t (ix2 k (j 0))) (iblk m c 1 t (ix2 k (j 1))))
      (startA m c) (stepA m c) t h j).trans (zero_add (M := EReal) _))

theorem startB (c : Dev nD) (t : Fin cfg0.N) (h : t.val % 4 = 0) (j : S1024x1024.Idx) :
    ((outsAt0 m c t.val t.isLt).2.2.2 j : EReal) = 0 + ∑ k : Fin 1024, mul (iblk m c 2 t (ix2 k (j 0))) (iblk m c 3 t (ix2 k (j 1))) := by
  rw [outsAt0_A m c t (by omega) (by omega) (by omega) (by omega) (by omega) (by omega)]; frame_out
  pointwise [k0_pay6, k0_pay5]

theorem stepB (c : Dev nD) (t : Fin cfg0.N) (h : ¬t.val % 4 = 0) (j : S1024x1024.Idx) :
    ((outsAt0 m c t.val t.isLt).2.2.2 j : EReal) = (outsAt0 m c (t.val - 1) (Nat.lt_of_le_of_lt (Nat.sub_le _ _) t.isLt)).2.2.2 j
      + ∑ k : Fin 1024, mul (iblk m c 2 t (ix2 k (j 0))) (iblk m c 3 t (ix2 k (j 1))) := by
  by_cases h2 : t.val % 4 = 3
  · rw [outsAt0_C m c t (by omega) (by omega) (by omega) (by omega) (by omega) (by omega)]; frame_out
    rw [read_unread_whole]
    pointwise [k0_pay7, k0_pay5]
  · rw [outsAt0_B m c t (by omega) (by omega) (by omega) (by omega) (by omega) (by omega)]; frame_out
    rw [read_unread_whole]
    pointwise [k0_pay7, k0_pay5]

theorem outB (c : Dev nD) (t : Fin cfg0.N) (h : t.val % 4 = 3) (j : S1024x1024.Idx) :
    ((outsAt0 m c t.val t.isLt).2.1 j : EReal) = (outsAt0 m c t.val t.isLt).2.2.2 j := by
  rw [outsAt0_C m c t (by omega) (by omega) (by omega) (by omega) (by omega) (by omega)]; frame_out
  pointwise [k0_pay8]

theorem totalB (c : Dev nD) (t : Fin cfg0.N) (h : t.val % 4 = 3) (j : S1024x1024.Idx) :
    ((outsAt0 m c t.val t.isLt).2.1 j : EReal) = ∑ s : Fin 4, ∑ k : Fin 1024,
      mul (iblk m c 2 ⟨4 * (t.val / 4) + s.val, Pipeline.run_point_lt_of_flush t h s⟩ (ix2 k (j 0)))
        (iblk m c 3 ⟨4 * (t.val / 4) + s.val, Pipeline.run_point_lt_of_flush t h s⟩ (ix2 k (j 1))) :=
  (outB m c t h j).trans
    ((Pipeline.eq_sum_fin_of_reset_step_apply_of_flush (fun n hn => ((outsAt0 m c n hn).2.2.2 : S1024x1024.Idx → EReal)) 4 (fun _ => 0)
      (fun t j => ∑ k : Fin 1024, mul (iblk m c 2 t (ix2 k (j 0))) (iblk m c 3 t (ix2 k (j 1))))
      (startB m c) (stepB m c) t h j).trans (zero_add (M := EReal) _))

theorem result4 (c : Dev nD) : (dats m 0 c).arrAt 4 cfg0.N = val_main_v15 (F := Ideal) (m ((c : Thread nD τ).loc main_arg0)) (m ((c : Thread nD τ).loc main_arg1)) := by
  refine (dats m 0 c).arrAt_eq_of_covers 4 _ (by decide +kernel) fun t hf y => ?_
  have hr := (flush0_4 t).mp hf
  have b0 : ∀ (s : Fin 4) (k : Fin 1024) (hl : s.val * 1024 + k.val < 4096),
      (iblk m c 0 ⟨4 * (t.val / 4) + s.val, Pipeline.run_point_lt_of_flush t hr s⟩ (ix2 k (y 0)) : EReal) = (m ((c : Thread nD τ).loc main_arg0)) (lidx_main_v12 (idx_main_v13 (idx_main_v14 (((View.whole main_v0_0).slice (win0_4.rect t)).emb y))) ⟨s.val * 1024 + k.val, hl⟩) := by
    intro s k hl
    blk_simp [iblk, V_main_arg0]
    refine congrArg (m ((c : Thread nD τ).loc main_arg0)) ?_
    have hs := s.isLt
    blk_ext [corner0, corner4]
  have b1 : ∀ (s : Fin 4) (k : Fin 1024) (hl : s.val * 1024 + k.val < 4096),
      (iblk m c 1 ⟨4 * (t.val / 4) + s.val, Pipeline.run_point_lt_of_flush t hr s⟩ (ix2 k (y 1)) : EReal) = (m ((c : Thread nD τ).loc main_arg1)) (ridx_main_v12 (idx_main_v13 (idx_main_v14 (((View.whole main_v0_0).slice (win0_4.rect t)).emb y))) ⟨s.val * 1024 + k.val, hl⟩) := by
    intro s k hl
    blk_simp [iblk, V_main_arg1]
    refine congrArg (m ((c : Thread nD τ).loc main_arg1)) ?_
    have hs := s.isLt
    blk_ext [corner1, corner4]
  blk_simp
  rw [after0_4]
  refine (totalA m c t hr y).trans ?_
  pointwise [val_main_cst_apply, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply]
  refine Fin.sum_mul_add_congr (fun s k hl => ?_)
  rw [b0 s k hl, b1 s k hl]

theorem result5 (c : Dev nD) : (dats m 0 c).arrAt 5 cfg0.N = val_main_v16 (F := Ideal) (m ((c : Thread nD τ).loc main_arg2)) (m ((c : Thread nD τ).loc main_arg3)) := by
  refine (dats m 0 c).arrAt_eq_of_covers 5 _ (by decide +kernel) fun t hf y => ?_
  have hr := (flush0_5 t).mp hf
  have b0 : ∀ (s : Fin 4) (k : Fin 1024) (hl : s.val * 1024 + k.val < 4096),
      (iblk m c 2 ⟨4 * (t.val / 4) + s.val, Pipeline.run_point_lt_of_flush t hr s⟩ (ix2 k (y 0)) : EReal) = (m ((c : Thread nD τ).loc main_arg2)) (lidx_main_v9 (idx_main_v10 (idx_main_v11 (((View.whole main_v0_1).slice (win0_5.rect t)).emb y))) ⟨s.val * 1024 + k.val, hl⟩) := by
    intro s k hl
    blk_simp [iblk, V_main_arg2]
    refine congrArg (m ((c : Thread nD τ).loc main_arg2)) ?_
    have hs := s.isLt
    blk_ext [corner2, corner5]
  have b1 : ∀ (s : Fin 4) (k : Fin 1024) (hl : s.val * 1024 + k.val < 4096),
      (iblk m c 3 ⟨4 * (t.val / 4) + s.val, Pipeline.run_point_lt_of_flush t hr s⟩ (ix2 k (y 1)) : EReal) = (m ((c : Thread nD τ).loc main_arg3)) (ridx_main_v9 (idx_main_v10 (idx_main_v11 (((View.whole main_v0_1).slice (win0_5.rect t)).emb y))) ⟨s.val * 1024 + k.val, hl⟩) := by
    intro s k hl
    blk_simp [iblk, V_main_arg3]
    refine congrArg (m ((c : Thread nD τ).loc main_arg3)) ?_
    have hs := s.isLt
    blk_ext [corner3, corner5]
  blk_simp
  rw [after0_5]
  refine (totalB m c t hr y).trans ?_
  pointwise [val_main_cst_apply, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply]
  refine Fin.sum_mul_add_congr (fun s k hl => ?_)
  rw [b0 s k hl, b1 s k hl]

theorem algebraic : Cert.algebraic_BranchDwIdeal_BranchDwReferenceIdeal := by
  intro m g m' g' _ hagree
  refine ⟨fun c => Cert.BranchDwReferenceIdeal.Read.val_main_v15 (F := Ideal) (m ((c : Thread nD τ).loc main_arg0)) (m ((c : Thread nD τ).loc main_arg1)), fun c => Cert.BranchDwReferenceIdeal.Read.val_main_v16 (F := Ideal) (m ((c : Thread nD τ).loc main_arg2)) (m ((c : Thread nD τ).loc main_arg3)),
    (θ_run _ _ _).mono (fun r h c => ?_) (Cert.BranchDwIdeal.Value.run_blocks m g),
    (θ_run _ _ _).mono (fun r h c => ?_) (Cert.BranchDwReferenceIdeal.Value.run m' g')⟩
  · exact ⟨(h c).1.trans (result4 m c), (h c).2.1.trans (result5 m c), (h c).2.2⟩
  · obtain ⟨h0, h1, h2, h3⟩ := hagree c
    refine ⟨(h c).1.trans ?_, (h c).2.1.trans ?_, (h c).2.2⟩
    · rw [Cert.BranchDwReferenceIdeal.Read.val_main_v15_eq, h0, h1]
    · rw [Cert.BranchDwReferenceIdeal.Read.val_main_v16_eq, h2, h3]

end Cert.Calls.BranchDw
-- ==== Proof.InProjValue.lean ====
module

public import proofs.«01_k».proof.Defs
public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Pipeline.ValueKit
public import Idealize.ShloMosaic.Lib.Pointwise

/-! The input projection: every block the call writes is the block of the whole product. -/

@[expose] public section

noncomputable section

namespace Cert.Calls.InProj

open Cert.InProjIdeal Cert.InProjIdeal.Gen Idealize.ShloMosaic Idealize.ShloMosaic.TcCoe Idealize.SL.Sem

variable (m : (ℓ : Loc nD τ sig) → Buf (Elt Ideal) ℓ)

/-- Which blocks of the two factors the point's block of the product needs. -/
theorem corners : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem product (c : Dev nD) : (dats m 0 c).arrAt 2 cfg0.N
    = Cert.InProjReferenceIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := corners t
  rw [Cert.InProjReferenceIdeal.Read.val_main_v3_apply]
  pointwise [k0_pay1]
  refine Fintype.sum_congr (M := EReal) _ _ fun x => ?_
  rw [Cert.InProjReferenceIdeal.Read.val_main_v0_apply, Cert.InProjReferenceIdeal.Read.val_main_v2_apply, Cert.InProjReferenceIdeal.Read.val_main_v1_apply]
  refine congr (congrArg _ ?_) ?_
  · blk_simp [iblk, V_main_arg0]
    refine congrArg (m ((c : Thread nD τ).loc main_arg0)) ?_
    blk_ext [e0]
  · blk_simp [iblk, V_main_arg1]
    refine congrArg (m ((c : Thread nD τ).loc main_arg1)) ?_
    blk_ext [e1]

theorem algebraic : Cert.algebraic_InProjIdeal_InProjReferenceIdeal := by
  intro m g m' g' _ hagree
  refine ⟨fun c => Cert.InProjReferenceIdeal.Read.val_main_v3 (F := Ideal) (m ((c : Thread nD τ).loc main_arg0)) (m ((c : Thread nD τ).loc main_arg1)), (θ_run _ _ _).mono (fun r h c => ?_) (Cert.InProjIdeal.Value.run_blocks m g),
    (θ_run _ _ _).mono (fun r h c => ?_) (Cert.InProjReferenceIdeal.Value.run m' g')⟩
  · exact ⟨(h c).1.trans (product m c), (h c).2⟩
  · obtain ⟨h0, h1⟩ := hagree c
    refine ⟨(h c).1.trans ?_, (h c).2⟩
    rw [Cert.InProjReferenceIdeal.Read.val_main_v3_eq, h0, h1]

end Cert.Calls.InProj
-- ==== Proof.MlpInValue.lean ====
module

public import proofs.«01_k».proof.Defs
public import proofs.«01_k».proof.Proof.Gen.MlpInIdeal.Value
public import proofs.«01_k».proof.Proof.Gen.MlpInReferenceIdeal.Run
public import proofs.«01_k».proof.Proof.Gen.MlpInReferenceIdeal.Read
public import Idealize.ShloMosaic.Lib.Pipeline.ValueKit
public import Idealize.ShloMosaic.Lib.Pointwise

/-! The first product of the MLP with its relu and squared relu. -/

@[expose] public section

noncomputable section

namespace Cert.Calls.MlpIn

open Cert.MlpInIdeal Cert.MlpInIdeal.Gen Idealize.ShloMosaic Idealize.ShloMosaic.TcCoe Idealize.SL.Sem
open Cert.MlpInReferenceIdeal.Read

variable (m : (ℓ : Loc nD τ sig) → Buf (Elt Ideal) ℓ)

/-- The blocks of the arguments that the point's block of the result is made from. -/
theorem corners2 : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

theorem result2 (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  obtain ⟨e0, e1⟩ := corners2 t
  have b0 : ∀ k : Fin _, (iblk m c 0 t (ix2 (y 0) k) : EReal) = (m ((c : Thread nD τ).loc main_arg0)) (lidx_main_v3 (((View.whole main_v0_0).slice (win0_2.rect t)).emb y) k) := by
    intro k
    blk_simp [iblk, V_main_arg0]
    refine congrArg (m ((c : Thread nD τ).loc main_arg0)) ?_
    blk_ext [e0]
  have b1 : ∀ k : Fin _, (iblk m c 1 t (ix2 (y 1) k) : EReal) = (m ((c : Thread nD τ).loc main_arg1)) (idx_main_v2 (ridx_main_v3 (((View.whole main_v0_0).slice (win0_2.rect t)).emb y) k)) := by
    intro k
    blk_simp [iblk, V_main_arg1]
    refine congrArg (m ((c : Thread nD τ).loc main_arg1)) ?_
    blk_ext [e1]
  blk_simp
  rw [after0_2]; frame_out
  pointwise [k0_pay2, k0_pay1, val_main_v0_apply, val_main_v1_apply, val_main_v2_apply, val_main_v3_apply, val_main_call0_cst_apply, val_main_call0_v0_apply, val_main_v4_apply, val_main_v5_apply, val_main_v6_apply, val_main_v7_apply]
  simp only [b0, b1]

/-- The blocks of the arguments that the point's block of the result is made from. -/
theorem corners3 : ∀ t : Fin cfg0.N, win0_0.index t = ![win0_3.index t 0, 0] ∧ win0_1.index t = ![win0_3.index t 1, 0] :=
  (by decide +kernel : ∀ t : Fin grid0.N, win0_0.index t = ![win0_3.index t 0, 0] ∧ win0_1.index t = ![win0_3.index t 1, 0])

theorem result3 (c : Dev nD) : (dats m 0 c).arrAt 3 cfg0.N = val_main_v7 (F := Ideal) (m ((c : Thread nD τ).loc main_arg0)) (m ((c : Thread nD τ).loc main_arg1)) := by
  refine (dats m 0 c).arrAt_eq_of_covers 3 _ (by decide +kernel) fun t hf y => ?_
  obtain ⟨e0, e1⟩ := corners3 t
  have b0 : ∀ k : Fin _, (iblk m c 0 t (ix2 (y 0) k) : EReal) = (m ((c : Thread nD τ).loc main_arg0)) (lidx_main_v3 (((View.whole main_v0_1).slice (win0_3.rect t)).emb y) k) := by
    intro k
    blk_simp [iblk, V_main_arg0]
    refine congrArg (m ((c : Thread nD τ).loc main_arg0)) ?_
    blk_ext [e0]
  have b1 : ∀ k : Fin _, (iblk m c 1 t (ix2 (y 1) k) : EReal) = (m ((c : Thread nD τ).loc main_arg1)) (idx_main_v2 (ridx_main_v3 (((View.whole main_v0_1).slice (win0_3.rect t)).emb y) k)) := by
    intro k
    blk_simp [iblk, V_main_arg1]
    refine congrArg (m ((c : Thread nD τ).loc main_arg1)) ?_
    blk_ext [e1]
  blk_simp
  rw [after0_3]; frame_out
  pointwise [k0_pay3, k0_pay1, val_main_v0_apply, val_main_v1_apply, val_main_v2_apply, val_main_v3_apply, val_main_call0_cst_apply, val_main_call0_v0_apply, val_main_v4_apply, val_main_v5_apply, val_main_v6_apply, val_main_v7_apply]
  simp only [b0, b1]

theorem algebraic : Cert.algebraic_MlpInIdeal_MlpInReferenceIdeal := by
  intro m g m' g' _ hagree
  refine ⟨fun c => Cert.MlpInReferenceIdeal.Read.val_main_v5 (F := Ideal) (m ((c : Thread nD τ).loc main_arg0)) (m ((c : Thread nD τ).loc main_arg1)), fun c => Cert.MlpInReferenceIdeal.Read.val_main_v7 (F := Ideal) (m ((c : Thread nD τ).loc main_arg0)) (m ((c : Thread nD τ).loc main_arg1)),
    (θ_run _ _ _).mono (fun r h c => ?_) (Cert.MlpInIdeal.Value.run_blocks m g),
    (θ_run _ _ _).mono (fun r h c => ?_) (Cert.MlpInReferenceIdeal.Value.run m' g')⟩
  · exact ⟨(h c).1.trans (result2 m c), (h c).2.1.trans (result3 m c), (h c).2.2⟩
  · obtain ⟨h0, h1⟩ := hagree c
    refine ⟨(h c).1.trans ?_, (h c).2.1.trans ?_, (h c).2.2⟩
    · rw [Cert.MlpInReferenceIdeal.Read.val_main_v5_eq, h0, h1]
    · rw [Cert.MlpInReferenceIdeal.Read.val_main_v7_eq, h0, h1]

end Cert.Calls.MlpIn
-- ==== Proof.BranchMergeValue.lean ====
module

public import proofs.«01_k».proof.Defs
public import proofs.«01_k».proof.Proof.Gen.BranchMergeIdeal.Value
public import proofs.«01_k».proof.Proof.Gen.BranchMergeReferenceIdeal.Run
public import proofs.«01_k».proof.Proof.Gen.BranchMergeReferenceIdeal.Read
public import Idealize.ShloMosaic.Lib.Pipeline.ValueKit
public import Idealize.ShloMosaic.Lib.Pointwise

/-! The two branch products and their gated sum. -/

@[expose] public section

noncomputable section

namespace Cert.Calls.BranchMerge

open Cert.BranchMergeIdeal Cert.BranchMergeIdeal.Gen Idealize.ShloMosaic Idealize.ShloMosaic.TcCoe Idealize.SL.Sem
open Cert.BranchMergeReferenceIdeal.Read

variable (m : (ℓ : Loc nD τ sig) → Buf (Elt Ideal) ℓ)

/-- The blocks of the arguments that the point's block of the result is made from. -/
theorem corners6 : ∀ t : Fin cfg0.N, win0_0.index t = ![win0_6.index t 0, 0] ∧ win0_2.index t = ![win0_6.index t 1, 0] :=
  (by decide +kernel : ∀ t : Fin grid0.N, win0_0.index t = ![win0_6.index t 0, 0] ∧ win0_2.index t = ![win0_6.index t 1, 0])

theorem result6 (c : Dev nD) : (dats m 0 c).arrAt 6 cfg0.N = val_main_v25 (F := Ideal) (m ((c : Thread nD τ).loc main_arg0)) (m ((c : Thread nD τ).loc main_arg2)) := by
  refine (dats m 0 c).arrAt_eq_of_covers 6 _ (by decide +kernel) fun t hf y => ?_
  obtain ⟨e0, e2⟩ := corners6 t
  have b0 : ∀ k : Fin _, (iblk m c 0 t (ix2 (y 0) k) : EReal) = (m ((c : Thread nD τ).loc main_arg0)) (lidx_main_v3 (((View.whole main_v0_0).slice (win0_6.rect t)).emb y) k) := by
    intro k
    blk_simp [iblk, V_main_arg0]
    refine congrArg (m ((c : Thread nD τ).loc main_arg0)) ?_
    blk_ext [e0]
  have b2 : ∀ k : Fin _, (iblk m c 2 t (ix2 (y 1) k) : EReal) = (m ((c : Thread nD τ).loc main_arg2)) (idx_main_v2 (ridx_main_v3 (((View.whole main_v0_0).slice (win0_6.rect t)).emb y) k)) := by
    intro k
    blk_simp [iblk, V_main_arg2]
    refine congrArg (m ((c : Thread nD τ).loc main_arg2)) ?_
    blk_ext [e2]
  blk_simp
  rw [after0_6]; frame_out
  pointwise [k0_pay1, k0_pay2, k0_pay3, k0_pay4, k0_pay5, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_cst_apply, val_main_v12_apply, val_main_v13_apply, val_main_cst_0_apply, val_main_v14_apply, val_main_v15_apply, val_main_v16_apply, val_main_v17_apply, val_main_v18_apply, val_main_cst_1_apply, val_main_v19_apply, val_main_v20_apply, val_main_cst_2_apply, val_main_v21_apply, val_main_v22_apply, val_main_v23_apply, val_main_v24_apply, val_main_v25_apply, val_main_v26_apply, val_main_v27_apply]
  simp only [b0, b2]

/-- The blocks of the arguments that the point's block of the result is made from. -/
theorem corners7 : ∀ t : Fin cfg0.N, win0_1.index t = ![win0_7.index t 0, 0] ∧ win0_3.index t = ![win0_7.index t 1, 0] :=
  (by decide +kernel : ∀ t : Fin grid0.N, win0_1.index t = ![win0_7.index t 0, 0] ∧ win0_3.index t = ![win0_7.index t 1, 0])

theorem result7 (c : Dev nD) : (dats m 0 c).arrAt 7 cfg0.N = val_main_v26 (F := Ideal) (m ((c : Thread nD τ).loc main_arg1)) (m ((c : Thread nD τ).loc main_arg3)) := by
  refine (dats m 0 c).arrAt_eq_of_covers 7 _ (by decide +kernel) fun t hf y => ?_
  obtain ⟨e1, e3⟩ := corners7 t
  have b1 : ∀ k : Fin _, (iblk m c 1 t (ix2 (y 0) k) : EReal) = (m ((c : Thread nD τ).loc main_arg1)) (lidx_main_v7 (((View.whole main_v0_1).slice (win0_7.rect t)).emb y) k) := by
    intro k
    blk_simp [iblk, V_main_arg1]
    refine congrArg (m ((c : Thread nD τ).loc main_arg1)) ?_
    blk_ext [e1]
  have b3 : ∀ k : Fin _, (iblk m c 3 t (ix2 (y 1) k) : EReal) = (m ((c : Thread nD τ).loc main_arg3)) (idx_main_v6 (ridx_main_v7 (((View.whole main_v0_1).slice (win0_7.rect t)).emb y) k)) := by
    intro k
    blk_simp [iblk, V_main_arg3]
    refine congrArg (m ((c : Thread nD τ).loc main_arg3)) ?_
    blk_ext [e3]
  blk_simp
  rw [after0_7]; frame_out
  pointwise [k0_pay1, k0_pay2, k0_pay3, k0_pay4, k0_pay5, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_cst_apply, val_main_v12_apply, val_main_v13_apply, val_main_cst_0_apply, val_main_v14_apply, val_main_v15_apply, val_main_v16_apply, val_main_v17_apply, val_main_v18_apply, val_main_cst_1_apply, val_main_v19_apply, val_main_v20_apply, val_main_cst_2_apply, val_main_v21_apply, val_main_v22_apply, val_main_v23_apply, val_main_v24_apply, val_main_v25_apply, val_main_v26_apply, val_main_v27_apply]
  simp only [b1, b3]

/-- The blocks of the arguments that the point's block of the result is made from. -/
theorem corners8 : ∀ t : Fin cfg0.N, win0_0.index t = ![win0_8.index t 0, 0] ∧ win0_2.index t = ![win0_8.index t 1, 0] ∧ win0_1.index t = ![win0_8.index t 0, 0] ∧ win0_3.index t = ![win0_8.index t 1, 0] ∧ win0_4.index t = ![win0_8.index t 0, 11 + win0_8.index t 1] ∧ win0_5.index t = ![win0_8.index t 0, 15 + win0_8.index t 1] :=
  (by decide +kernel : ∀ t : Fin grid0.N, win0_0.index t = ![win0_8.index t 0, 0] ∧ win0_2.index t = ![win0_8.index t 1, 0] ∧ win0_1.index t = ![win0_8.index t 0, 0] ∧ win0_3.index t = ![win0_8.index t 1, 0] ∧ win0_4.index t = ![win0_8.index t 0, 11 + win0_8.index t 1] ∧ win0_5.index t = ![win0_8.index t 0, 15 + win0_8.index t 1])

theorem result8 (c : Dev nD) : (dats m 0 c).arrAt 8 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  obtain ⟨e0, e2, e1, e3, e4, e5⟩ := corners8 t
  have b0 : ∀ k : Fin _, (iblk m c 0 t (ix2 (y 0) k) : EReal) = (m ((c : Thread nD τ).loc main_arg0)) (lidx_main_v3 (((View.whole main_v0_2).slice (win0_8.rect t)).emb y) k) := by
    intro k
    blk_simp [iblk, V_main_arg0]
    refine congrArg (m ((c : Thread nD τ).loc main_arg0)) ?_
    blk_ext [e0]
  have b2 : ∀ k : Fin _, (iblk m c 2 t (ix2 (y 1) k) : EReal) = (m ((c : Thread nD τ).loc main_arg2)) (idx_main_v2 (ridx_main_v3 (((View.whole main_v0_2).slice (win0_8.rect t)).emb y) k)) := by
    intro k
    blk_simp [iblk, V_main_arg2]
    refine congrArg (m ((c : Thread nD τ).loc main_arg2)) ?_
    blk_ext [e2]
  have b1 : ∀ k : Fin _, (iblk m c 1 t (ix2 (y 0) k) : EReal) = (m ((c : Thread nD τ).loc main_arg1)) (lidx_main_v7 (((View.whole main_v0_2).slice (win0_8.rect t)).emb y) k) := by
    intro k
    blk_simp [iblk, V_main_arg1]
    refine congrArg (m ((c : Thread nD τ).loc main_arg1)) ?_
    blk_ext [e1]
  have b3 : ∀ k : Fin _, (iblk m c 3 t (ix2 (y 1) k) : EReal) = (m ((c : Thread nD τ).loc main_arg3)) (idx_main_v6 (ridx_main_v7 (((View.whole main_v0_2).slice (win0_8.rect t)).emb y) k)) := by
    intro k
    blk_simp [iblk, V_main_arg3]
    refine congrArg (m ((c : Thread nD τ).loc main_arg3)) ?_
    blk_ext [e3]
  have b4 : (iblk m c 4 t y : EReal) = (m ((c : Thread nD τ).loc main_arg4)) (idx_main_v8 (((View.whole main_v0_2).slice (win0_8.rect t)).emb y)) := by
    blk_simp [iblk, V_main_arg4]
    refine congrArg (m ((c : Thread nD τ).loc main_arg4)) ?_
    blk_ext [e4]
  have b5 : (iblk m c 5 t y : EReal) = (m ((c : Thread nD τ).loc main_arg4)) (idx_main_v9 (((View.whole main_v0_2).slice (win0_8.rect t)).emb y)) := by
    blk_simp [iblk, V_main_arg4]
    refine congrArg (m ((c : Thread nD τ).loc main_arg4)) ?_
    blk_ext [e5]
  blk_simp
  rw [after0_8]; frame_out
  pointwise [k0_pay1, k0_pay2, k0_pay3, k0_pay4, k0_pay5, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_cst_apply, val_main_v12_apply, val_main_v13_apply, val_main_cst_0_apply, val_main_v14_apply, val_main_v15_apply, val_main_v16_apply, val_main_v17_apply, val_main_v18_apply, val_main_cst_1_apply, val_main_v19_apply, val_main_v20_apply, val_main_cst_2_apply, val_main_v21_apply, val_main_v22_apply, val_main_v23_apply, val_main_v24_apply, val_main_v25_apply, val_main_v26_apply, val_main_v27_apply]
  simp only [b0, b2, b1, b3, b4, b5]
  rfl

theorem algebraic : Cert.algebraic_BranchMergeIdeal_BranchMergeReferenceIdeal := by
  intro m g m' g' _ hagree
  refine ⟨fun c => Cert.BranchMergeReferenceIdeal.Read.val_main_v25 (F := Ideal) (m ((c : Thread nD τ).loc main_arg0)) (m ((c : Thread nD τ).loc main_arg2)), fun c => Cert.BranchMergeReferenceIdeal.Read.val_main_v26 (F := Ideal) (m ((c : Thread nD τ).loc main_arg1)) (m ((c : Thread nD τ).loc main_arg3)), fun c => Cert.BranchMergeReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun r h c => ?_) (Cert.BranchMergeIdeal.Value.run_blocks m g),
    (θ_run _ _ _).mono (fun r h c => ?_) (Cert.BranchMergeReferenceIdeal.Value.run m' g')⟩
  · exact ⟨(h c).1.trans (result6 m c), (h c).2.1.trans (result7 m c), (h c).2.2.1.trans (result8 m c), (h c).2.2.2⟩
  · obtain ⟨h0, h1, h2, h3, h4⟩ := hagree c
    refine ⟨(h c).1.trans ?_, (h c).2.1.trans ?_, (h c).2.2.1.trans ?_, (h c).2.2.2⟩
    · rw [Cert.BranchMergeReferenceIdeal.Read.val_main_v25_eq, h0, h2]
    · rw [Cert.BranchMergeReferenceIdeal.Read.val_main_v26_eq, h1, h3]
    · rw [Cert.BranchMergeReferenceIdeal.Read.val_main_v27_eq, h0, h1, h2, h3, h4]

end Cert.Calls.BranchMerge
-- ==== Proof.RmsFwdValue.lean ====
module

public import proofs.«01_k».proof.Defs
public import proofs.«01_k».proof.Proof.Gen.RmsFwdIdeal.Value
public import proofs.«01_k».proof.Proof.Gen.RmsFwdReferenceIdeal.Run
public import proofs.«01_k».proof.Proof.Gen.RmsFwdReferenceIdeal.Read
public import Idealize.ShloMosaic.Lib.Pipeline.ValueKit
public import Idealize.ShloMosaic.Lib.Pointwise

/-! The norm and the modulation before the input projection. -/

@[expose] public section

noncomputable section

namespace Cert.Calls.RmsFwd

open Cert.RmsFwdIdeal Cert.RmsFwdIdeal.Gen Idealize.ShloMosaic Idealize.ShloMosaic.TcCoe Idealize.SL.Sem
open Cert.RmsFwdReferenceIdeal.Read

variable (m : (ℓ : Loc nD τ sig) → Buf (Elt Ideal) ℓ)

/-- The blocks of the arguments that the point's block of the result is made from. -/
theorem corners4 : ∀ t : Fin cfg0.N, win0_0.index t = win0_4.index t ∧ win0_0.index t = ![win0_4.index t 0, 0] ∧ win0_1.index t = ![0, win0_4.index t 1] ∧ win0_2.index t = ![0, win0_4.index t 1] ∧ win0_3.index t = ![0, win0_4.index t 1] :=
  (by decide +kernel : ∀ t : Fin grid0.N, win0_0.index t = win0_4.index t ∧ win0_0.index t = ![win0_4.index t 0, 0] ∧ win0_1.index t = ![0, win0_4.index t 1] ∧ win0_2.index t = ![0, win0_4.index t 1] ∧ win0_3.index t = ![0, win0_4.index t 1])

theorem result4 (c : Dev nD) : (dats m 0 c).arrAt 4 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4⟩ := corners4 t
  have b0 : (iblk m c 0 t y : EReal) = (m ((c : Thread nD τ).loc main_arg0)) (((View.whole main_v0).slice (win0_4.rect t)).emb y) := by
    blk_simp [iblk, V_main_arg0]
    refine congrArg (m ((c : Thread nD τ).loc main_arg0)) ?_
    blk_ext [e0]
  have b1 : ∀ k : Fin _, (iblk m c 0 t (ix2 (y 0) k) : EReal) = (m ((c : Thread nD τ).loc main_arg0)) (idx_main_v1 (idx_main_v2 (idx_main_v8 (((View.whole main_v0).slice (win0_4.rect t)).emb y))) k) := by
    intro k
    blk_simp [iblk, V_main_arg0]
    refine congrArg (m ((c : Thread nD τ).loc main_arg0)) ?_
    blk_ext [e1]
  have b2 : (iblk m c 1 t (ix2 0 (y 1)) : EReal) = (m ((c : Thread nD τ).loc main_arg1)) (idx_main_v10 (((View.whole main_v0).slice (win0_4.rect t)).emb y)) := by
    blk_simp [iblk, V_main_arg1]
    refine congrArg (m ((c : Thread nD τ).loc main_arg1)) ?_
    blk_ext [e2]
  have b3 : (iblk m c 2 t (ix2 0 (y 1)) : EReal) = (m ((c : Thread nD τ).loc main_arg2)) (idx_main_v14 (((View.whole main_v0).slice (win0_4.rect t)).emb y)) := by
    blk_simp [iblk, V_main_arg2]
    refine congrArg (m ((c : Thread nD τ).loc main_arg2)) ?_
    blk_ext [e3]
  have b4 : (iblk m c 3 t (ix2 0 (y 1)) : EReal) = (m ((c : Thread nD τ).loc main_arg3)) (idx_main_v16 (((View.whole main_v0).slice (win0_4.rect t)).emb y)) := by
    blk_simp [iblk, V_main_arg3]
    refine congrArg (m ((c : Thread nD τ).loc main_arg3)) ?_
    blk_ext [e4]
  blk_simp
  rw [after0_4]; frame_out
  pointwise [k0_pay1, val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_cst_2_apply, val_main_v12_apply, val_main_v13_apply, val_main_v14_apply, val_main_v15_apply, val_main_v16_apply, val_main_v17_apply, val_main_v18_apply]
  simp only [b0, b1, b2, b3, b4]

theorem algebraic : Cert.algebraic_RmsFwdIdeal_RmsFwdReferenceIdeal := by
  intro m g m' g' _ hagree
  refine ⟨fun c => Cert.RmsFwdReferenceIdeal.Read.val_main_v18 (F := Ideal) (m ((c : Thread nD τ).loc main_arg0)) (m ((c : Thread nD τ).loc main_arg1)) (m ((c : Thread nD τ).loc main_arg2)) (m ((c : Thread nD τ).loc main_arg3)),
    (θ_run _ _ _).mono (fun r h c => ?_) (Cert.RmsFwdIdeal.Value.run_blocks m g),
    (θ_run _ _ _).mono (fun r h c => ?_) (Cert.RmsFwdReferenceIdeal.Value.run m' g')⟩
  · exact ⟨(h c).1.trans (result4 m c), (h c).2⟩
  · obtain ⟨h0, h1, h2, h3⟩ := hagree c
    refine ⟨(h c).1.trans ?_, (h c).2⟩
    · rw [Cert.RmsFwdReferenceIdeal.Read.val_main_v18_eq, h0, h1, h2, h3]

end Cert.Calls.RmsFwd
-- ==== Proof.AdaUpdateValue.lean ====
module

public import proofs.«01_k».proof.Defs
public import proofs.«01_k».proof.Proof.Gen.AdaUpdateIdeal.Value
public import proofs.«01_k».proof.Proof.Gen.AdaUpdateReferenceIdeal.Run
public import proofs.«01_k».proof.Proof.Gen.AdaUpdateReferenceIdeal.Read
public import Idealize.ShloMosaic.Lib.Pipeline.ValueKit
public import Idealize.ShloMosaic.Lib.Pointwise

/-! The gradient of the modulation's weight and its AdamW update. -/

@[expose] public section

noncomputable section

namespace Cert.Calls.AdaUpdate

open Cert.AdaUpdateIdeal Cert.AdaUpdateIdeal.Gen Idealize.ShloMosaic Idealize.ShloMosaic.TcCoe Idealize.SL.Sem
open Cert.AdaUpdateReferenceIdeal.Read

variable (m : (ℓ : Loc nD τ sig) → Buf (Elt Ideal) ℓ)

/-- The blocks of the arguments that the point's block of the result is made from. -/
theorem corners5 : ∀ t : Fin cfg0.N, win0_0.index t = ![win0_5.index t 0, 0] ∧ win0_1.index t = ![0, win0_5.index t 1] :=
  (by decide +kernel : ∀ t : Fin grid0.N, win0_0.index t = ![win0_5.index t 0, 0] ∧ win0_1.index t = ![0, win0_5.index t 1])

theorem result5 (c : Dev nD) : (dats m 0 c).arrAt 5 cfg0.N = val_main_v3 (F := Ideal) (m ((c : Thread nD τ).loc main_arg0)) (m ((c : Thread nD τ).loc main_arg1)) := by
  refine (dats m 0 c).arrAt_eq_of_covers 5 _ (by decide +kernel) fun t hf y => ?_
  obtain ⟨e0, e1⟩ := corners5 t
  have b0 : ∀ k : Fin _, (iblk m c 0 t (ix2 (y 0) k) : EReal) = (m ((c : Thread nD τ).loc main_arg0)) (idx_main_v0 (ridx_main_v2 (idx_main_v3 (((View.whole main_v0_0).slice (win0_5.rect t)).emb y)) k)) := by
    intro k
    blk_simp [iblk, V_main_arg0]
    refine congrArg (m ((c : Thread nD τ).loc main_arg0)) ?_
    blk_ext [e0]
  have b1 : ∀ k : Fin _, (iblk m c 1 t (ix2 k (y 1)) : EReal) = (m ((c : Thread nD τ).loc main_arg1)) (lidx_main_v2 (idx_main_v3 (((View.whole main_v0_0).slice (win0_5.rect t)).emb y)) k) := by
    intro k
    blk_simp [iblk, V_main_arg1]
    refine congrArg (m ((c : Thread nD τ).loc main_arg1)) ?_
    blk_ext [e1]
  blk_simp
  rw [after0_5]; frame_out
  pointwise [k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_cst_4_apply, val_main_v17_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply]
  simp only [b0, b1]
  exact Fintype.sum_congr (M := EReal) _ _ fun k => mul_comm (G := EReal) _ _

/-- The blocks of the arguments that the point's block of the result is made from. -/
theorem corners6 : ∀ t : Fin cfg0.N, win0_0.index t = ![win0_6.index t 0, 0] ∧ win0_1.index t = ![0, win0_6.index t 1] ∧ win0_2.index t = win0_6.index t ∧ win0_3.index t = win0_6.index t ∧ win0_4.index t = win0_6.index t :=
  (by decide +kernel : ∀ t : Fin grid0.N, win0_0.index t = ![win0_6.index t 0, 0] ∧ win0_1.index t = ![0, win0_6.index t 1] ∧ win0_2.index t = win0_6.index t ∧ win0_3.index t = win0_6.index t ∧ win0_4.index t = win0_6.index t)

theorem result6 (c : Dev nD) : (dats m 0 c).arrAt 6 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e1, e2, e3, e4⟩ := corners6 t
  have b0 : ∀ k : Fin _, (iblk m c 0 t (ix2 (y 0) k) : EReal) = (m ((c : Thread nD τ).loc main_arg0)) (idx_main_v0 (ridx_main_v2 (idx_main_v3 (((View.whole main_v0_1).slice (win0_6.rect t)).emb y)) k)) := by
    intro k
    blk_simp [iblk, V_main_arg0]
    refine congrArg (m ((c : Thread nD τ).loc main_arg0)) ?_
    blk_ext [e0]
  have b1 : ∀ k : Fin _, (iblk m c 1 t (ix2 k (y 1)) : EReal) = (m ((c : Thread nD τ).loc main_arg1)) (lidx_main_v2 (idx_main_v3 (((View.whole main_v0_1).slice (win0_6.rect t)).emb y)) k) := by
    intro k
    blk_simp [iblk, V_main_arg1]
    refine congrArg (m ((c : Thread nD τ).loc main_arg1)) ?_
    blk_ext [e1]
  have b2 : (iblk m c 2 t y : EReal) = (m ((c : Thread nD τ).loc main_arg2)) (((View.whole main_v0_1).slice (win0_6.rect t)).emb y) := by
    blk_simp [iblk, V_main_arg2]
    refine congrArg (m ((c : Thread nD τ).loc main_arg2)) ?_
    blk_ext [e2]
  have b3 : (iblk m c 3 t y : EReal) = (m ((c : Thread nD τ).loc main_arg3)) (((View.whole main_v0_1).slice (win0_6.rect t)).emb y) := by
    blk_simp [iblk, V_main_arg3]
    refine congrArg (m ((c : Thread nD τ).loc main_arg3)) ?_
    blk_ext [e3]
  have b4 : (iblk m c 4 t y : EReal) = (m ((c : Thread nD τ).loc main_arg4)) (((View.whole main_v0_1).slice (win0_6.rect t)).emb y) := by
    blk_simp [iblk, V_main_arg4]
    refine congrArg (m ((c : Thread nD τ).loc main_arg4)) ?_
    blk_ext [e4]
  blk_simp
  rw [after0_6]; frame_out
  pointwise [k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_cst_4_apply, val_main_v17_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply]
  simp only [b0, b1, b2, b3, b4]
  rw [Fintype.sum_congr (M := EReal) _ _ fun k => mul_comm (G := EReal) ((m ((c : Thread nD τ).loc main_arg0)) (idx_main_v0 (ridx_main_v2 (idx_main_v3 (((View.whole main_v0_1).slice (win0_6.rect t)).emb y)) k))) ((m ((c : Thread nD τ).loc main_arg1)) (lidx_main_v2 (idx_main_v3 (((View.whole main_v0_1).slice (win0_6.rect t)).emb y)) k))]

/-- The blocks of the arguments that the point's block of the result is made from. -/
theorem corners7 : ∀ t : Fin cfg0.N, win0_0.index t = ![win0_7.index t 0, 0] ∧ win0_1.index t = ![0, win0_7.index t 1] ∧ win0_3.index t = win0_7.index t :=
  (by decide +kernel : ∀ t : Fin grid0.N, win0_0.index t = ![win0_7.index t 0, 0] ∧ win0_1.index t = ![0, win0_7.index t 1] ∧ win0_3.index t = win0_7.index t)

theorem result7 (c : Dev nD) : (dats m 0 c).arrAt 7 cfg0.N = val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨e0, e1, e2⟩ := corners7 t
  have b0 : ∀ k : Fin _, (iblk m c 0 t (ix2 (y 0) k) : EReal) = (m ((c : Thread nD τ).loc main_arg0)) (idx_main_v0 (ridx_main_v2 (idx_main_v3 (((View.whole main_v0_2).slice (win0_7.rect t)).emb y)) k)) := by
    intro k
    blk_simp [iblk, V_main_arg0]
    refine congrArg (m ((c : Thread nD τ).loc main_arg0)) ?_
    blk_ext [e0]
  have b1 : ∀ k : Fin _, (iblk m c 1 t (ix2 k (y 1)) : EReal) = (m ((c : Thread nD τ).loc main_arg1)) (lidx_main_v2 (idx_main_v3 (((View.whole main_v0_2).slice (win0_7.rect t)).emb y)) k) := by
    intro k
    blk_simp [iblk, V_main_arg1]
    refine congrArg (m ((c : Thread nD τ).loc main_arg1)) ?_
    blk_ext [e1]
  have b2 : (iblk m c 3 t y : EReal) = (m ((c : Thread nD τ).loc main_arg3)) (((View.whole main_v0_2).slice (win0_7.rect t)).emb y) := by
    blk_simp [iblk, V_main_arg3]
    refine congrArg (m ((c : Thread nD τ).loc main_arg3)) ?_
    blk_ext [e2]
  blk_simp
  rw [after0_7]; frame_out
  pointwise [k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_cst_4_apply, val_main_v17_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply]
  simp only [b0, b1, b2]
  rw [Fintype.sum_congr (M := EReal) _ _ fun k => mul_comm (G := EReal) ((m ((c : Thread nD τ).loc main_arg0)) (idx_main_v0 (ridx_main_v2 (idx_main_v3 (((View.whole main_v0_2).slice (win0_7.rect t)).emb y)) k))) ((m ((c : Thread nD τ).loc main_arg1)) (lidx_main_v2 (idx_main_v3 (((View.whole main_v0_2).slice (win0_7.rect t)).emb y)) k))]

/-- The blocks of the arguments that the point's block of the result is made from. -/
theorem corners8 : ∀ t : Fin cfg0.N, win0_0.index t = ![win0_8.index t 0, 0] ∧ win0_1.index t = ![0, win0_8.index t 1] ∧ win0_4.index t = win0_8.index t :=
  (by decide +kernel : ∀ t : Fin grid0.N, win0_0.index t = ![win0_8.index t 0, 0] ∧ win0_1.index t = ![0, win0_8.index t 1] ∧ win0_4.index t = win0_8.index t)

theorem result8 (c : Dev nD) : (dats m 0 c).arrAt 8 cfg0.N = val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  obtain ⟨e0, e1, e2⟩ := corners8 t
  have b0 : ∀ k : Fin _, (iblk m c 0 t (ix2 (y 0) k) : EReal) = (m ((c : Thread nD τ).loc main_arg0)) (idx_main_v0 (ridx_main_v2 (idx_main_v3 (((View.whole main_v0_3).slice (win0_8.rect t)).emb y)) k)) := by
    intro k
    blk_simp [iblk, V_main_arg0]
    refine congrArg (m ((c : Thread nD τ).loc main_arg0)) ?_
    blk_ext [e0]
  have b1 : ∀ k : Fin _, (iblk m c 1 t (ix2 k (y 1)) : EReal) = (m ((c : Thread nD τ).loc main_arg1)) (lidx_main_v2 (idx_main_v3 (((View.whole main_v0_3).slice (win0_8.rect t)).emb y)) k) := by
    intro k
    blk_simp [iblk, V_main_arg1]
    refine congrArg (m ((c : Thread nD τ).loc main_arg1)) ?_
    blk_ext [e1]
  have b2 : (iblk m c 4 t y : EReal) = (m ((c : Thread nD τ).loc main_arg4)) (((View.whole main_v0_3).slice (win0_8.rect t)).emb y) := by
    blk_simp [iblk, V_main_arg4]
    refine congrArg (m ((c : Thread nD τ).loc main_arg4)) ?_
    blk_ext [e2]
  blk_simp
  rw [after0_8]; frame_out
  pointwise [k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_cst_4_apply, val_main_v17_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply]
  simp only [b0, b1, b2]
  rw [Fintype.sum_congr (M := EReal) _ _ fun k => mul_comm (G := EReal) ((m ((c : Thread nD τ).loc main_arg0)) (idx_main_v0 (ridx_main_v2 (idx_main_v3 (((View.whole main_v0_3).slice (win0_8.rect t)).emb y)) k))) ((m ((c : Thread nD τ).loc main_arg1)) (lidx_main_v2 (idx_main_v3 (((View.whole main_v0_3).slice (win0_8.rect t)).emb y)) k))]

theorem algebraic : Cert.algebraic_AdaUpdateIdeal_AdaUpdateReferenceIdeal := by
  intro m g m' g' _ hagree
  refine ⟨fun c => Cert.AdaUpdateReferenceIdeal.Read.val_main_v3 (F := Ideal) (m ((c : Thread nD τ).loc main_arg0)) (m ((c : Thread nD τ).loc main_arg1)), fun c => Cert.AdaUpdateReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => Cert.AdaUpdateReferenceIdeal.Read.val_main_v8 (F := Ideal) (m ((c : Thread nD τ).loc main_arg0)) (m ((c : Thread nD τ).loc main_arg1)) (m ((c : Thread nD τ).loc main_arg3)), fun c => Cert.AdaUpdateReferenceIdeal.Read.val_main_v14 (F := Ideal) (m ((c : Thread nD τ).loc main_arg0)) (m ((c : Thread nD τ).loc main_arg1)) (m ((c : Thread nD τ).loc main_arg4)),
    (θ_run _ _ _).mono (fun r h c => ?_) (Cert.AdaUpdateIdeal.Value.run_blocks m g),
    (θ_run _ _ _).mono (fun r h c => ?_) (Cert.AdaUpdateReferenceIdeal.Value.run m' g')⟩
  · exact ⟨(h c).1.trans (result5 m c), (h c).2.1.trans (result6 m c), (h c).2.2.1.trans (result7 m c), (h c).2.2.2.1.trans (result8 m c), (h c).2.2.2.2⟩
  · obtain ⟨h0, h1, h2, h3, h4⟩ := hagree c
    refine ⟨(h c).1.trans ?_, (h c).2.1.trans ?_, (h c).2.2.1.trans ?_, (h c).2.2.2.1.trans ?_, (h c).2.2.2.2⟩
    · rw [Cert.AdaUpdateReferenceIdeal.Read.val_main_v3_eq, h0, h1]
    · rw [Cert.AdaUpdateReferenceIdeal.Read.val_main_v27_eq, h0, h1, h2, h3, h4]
    · rw [Cert.AdaUpdateReferenceIdeal.Read.val_main_v8_eq, h0, h1, h3]
    · rw [Cert.AdaUpdateReferenceIdeal.Read.val_main_v14_eq, h0, h1, h4]

end Cert.Calls.AdaUpdate
-- ==== Proof.AdamwSmallValue.lean ====
module

public import proofs.«01_k».proof.Defs
public import proofs.«01_k».proof.Proof.Gen.AdamwSmallIdeal.Value
public import proofs.«01_k».proof.Proof.Gen.AdamwSmallReferenceIdeal.Run
public import proofs.«01_k».proof.Proof.Gen.AdamwSmallReferenceIdeal.Read
public import Idealize.ShloMosaic.Lib.Pipeline.ValueKit
public import Idealize.ShloMosaic.Lib.Pointwise

/-! The AdamW update of the small weights. -/

@[expose] public section

noncomputable section

namespace Cert.Calls.AdamwSmall

open Cert.AdamwSmallIdeal Cert.AdamwSmallIdeal.Gen Idealize.ShloMosaic Idealize.ShloMosaic.TcCoe Idealize.SL.Sem
open Cert.AdamwSmallReferenceIdeal.Read

variable (m : (ℓ : Loc nD τ sig) → Buf (Elt Ideal) ℓ)

/-- The blocks of the arguments that the point's block of the result is made from. -/
theorem corners4 : ∀ t : Fin cfg0.N, win0_0.index t = win0_4.index t ∧ win0_1.index t = win0_4.index t ∧ win0_2.index t = win0_4.index t ∧ win0_3.index t = win0_4.index t :=
  (by decide +kernel : ∀ t : Fin grid0.N, win0_0.index t = win0_4.index t ∧ win0_1.index t = win0_4.index t ∧ win0_2.index t = win0_4.index t ∧ win0_3.index t = win0_4.index t)

theorem result4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3⟩ := corners4 t
  have b0 : (iblk m c 0 t y : EReal) = (m ((c : Thread nD τ).loc main_arg0)) (((View.whole main_v0_0).slice (win0_4.rect t)).emb y) := by
    blk_simp [iblk, V_main_arg0]
    refine congrArg (m ((c : Thread nD τ).loc main_arg0)) ?_
    blk_ext [e0]
  have b1 : (iblk m c 1 t y : EReal) = (m ((c : Thread nD τ).loc main_arg1)) (((View.whole main_v0_0).slice (win0_4.rect t)).emb y) := by
    blk_simp [iblk, V_main_arg1]
    refine congrArg (m ((c : Thread nD τ).loc main_arg1)) ?_
    blk_ext [e1]
  have b2 : (iblk m c 2 t y : EReal) = (m ((c : Thread nD τ).loc main_arg2)) (((View.whole main_v0_0).slice (win0_4.rect t)).emb y) := by
    blk_simp [iblk, V_main_arg2]
    refine congrArg (m ((c : Thread nD τ).loc main_arg2)) ?_
    blk_ext [e2]
  have b3 : (iblk m c 3 t y : EReal) = (m ((c : Thread nD τ).loc main_arg3)) (((View.whole main_v0_0).slice (win0_4.rect t)).emb y) := by
    blk_simp [iblk, V_main_arg3]
    refine congrArg (m ((c : Thread nD τ).loc main_arg3)) ?_
    blk_ext [e3]
  blk_simp
  rw [after0_4]; frame_out
  pointwise [k0_pay3, k0_pay2, k0_pay1, val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  simp only [b0, b1, b2, b3]

/-- The blocks of the arguments that the point's block of the result is made from. -/
theorem corners5 : ∀ t : Fin cfg0.N, win0_1.index t = win0_5.index t ∧ win0_2.index t = win0_5.index t :=
  (by decide +kernel : ∀ t : Fin grid0.N, win0_1.index t = win0_5.index t ∧ win0_2.index t = win0_5.index t)

theorem result5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t hf y => ?_
  obtain ⟨e0, e1⟩ := corners5 t
  have b0 : (iblk m c 1 t y : EReal) = (m ((c : Thread nD τ).loc main_arg1)) (((View.whole main_v0_1).slice (win0_5.rect t)).emb y) := by
    blk_simp [iblk, V_main_arg1]
    refine congrArg (m ((c : Thread nD τ).loc main_arg1)) ?_
    blk_ext [e0]
  have b1 : (iblk m c 2 t y : EReal) = (m ((c : Thread nD τ).loc main_arg2)) (((View.whole main_v0_1).slice (win0_5.rect t)).emb y) := by
    blk_simp [iblk, V_main_arg2]
    refine congrArg (m ((c : Thread nD τ).loc main_arg2)) ?_
    blk_ext [e1]
  blk_simp
  rw [after0_5]; frame_out
  pointwise [k0_pay3, k0_pay2, k0_pay1, val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  simp only [b0, b1]

/-- The blocks of the arguments that the point's block of the result is made from. -/
theorem corners6 : ∀ t : Fin cfg0.N, win0_1.index t = win0_6.index t ∧ win0_3.index t = win0_6.index t :=
  (by decide +kernel : ∀ t : Fin grid0.N, win0_1.index t = win0_6.index t ∧ win0_3.index t = win0_6.index t)

theorem result6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t hf y => ?_
  obtain ⟨e0, e1⟩ := corners6 t
  have b0 : (iblk m c 1 t y : EReal) = (m ((c : Thread nD τ).loc main_arg1)) (((View.whole main_v0_2).slice (win0_6.rect t)).emb y) := by
    blk_simp [iblk, V_main_arg1]
    refine congrArg (m ((c : Thread nD τ).loc main_arg1)) ?_
    blk_ext [e0]
  have b1 : (iblk m c 3 t y : EReal) = (m ((c : Thread nD τ).loc main_arg3)) (((View.whole main_v0_2).slice (win0_6.rect t)).emb y) := by
    blk_simp [iblk, V_main_arg3]
    refine congrArg (m ((c : Thread nD τ).loc main_arg3)) ?_
    blk_ext [e1]
  blk_simp
  rw [after0_6]; frame_out
  pointwise [k0_pay3, k0_pay2, k0_pay1, val_main_cst_apply, val_main_v0_apply, val_main_v1_apply, val_main_cst_0_apply, val_main_v2_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_cst_4_apply, val_main_v13_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply]
  simp only [b0, b1]

theorem algebraic : Cert.algebraic_AdamwSmallIdeal_AdamwSmallReferenceIdeal := by
  intro m g m' g' _ hagree
  refine ⟨fun c => Cert.AdamwSmallReferenceIdeal.Read.val_main_v23 (F := Ideal) (m ((c : Thread nD τ).loc main_arg0)) (m ((c : Thread nD τ).loc main_arg1)) (m ((c : Thread nD τ).loc main_arg2)) (m ((c : Thread nD τ).loc main_arg3)), fun c => Cert.AdamwSmallReferenceIdeal.Read.val_main_v4 (F := Ideal) (m ((c : Thread nD τ).loc main_arg1)) (m ((c : Thread nD τ).loc main_arg2)), fun c => Cert.AdamwSmallReferenceIdeal.Read.val_main_v10 (F := Ideal) (m ((c : Thread nD τ).loc main_arg1)) (m ((c : Thread nD τ).loc main_arg3)),
    (θ_run _ _ _).mono (fun r h c => ?_) (Cert.AdamwSmallIdeal.Value.run_blocks m g),
    (θ_run _ _ _).mono (fun r h c => ?_) (Cert.AdamwSmallReferenceIdeal.Value.run m' g')⟩
  · exact ⟨(h c).1.trans (result4 m c), (h c).2.1.trans (result5 m c), (h c).2.2.1.trans (result6 m c), (h c).2.2.2⟩
  · obtain ⟨h0, h1, h2, h3⟩ := hagree c
    refine ⟨(h c).1.trans ?_, (h c).2.1.trans ?_, (h c).2.2.1.trans ?_, (h c).2.2.2⟩
    · rw [Cert.AdamwSmallReferenceIdeal.Read.val_main_v23_eq, h0, h1, h2, h3]
    · rw [Cert.AdamwSmallReferenceIdeal.Read.val_main_v4_eq, h1, h2]
    · rw [Cert.AdamwSmallReferenceIdeal.Read.val_main_v10_eq, h1, h3]

end Cert.Calls.AdamwSmall
-- ==== Proof.SumAdamwInValue.lean ====
module

public import proofs.«01_k».proof.Defs
public import proofs.«01_k».proof.Proof.Gen.SumAdamwIn.Frame
public import proofs.«01_k».proof.Proof.Gen.SumAdamwInIdeal.Frame
public import proofs.«01_k».proof.Proof.Gen.SumAdamwInReferenceIdeal.Run
public import proofs.«01_k».proof.Proof.Gen.SumAdamwInReferenceIdeal.Read
public import Idealize.ShloMosaic.Lib.Pipeline.ValueKit
public import Idealize.ShloMosaic.Lib.Pointwise

/-! The sum of the gradient of the input projection's weight over the devices and its AdamW update. -/

@[expose] public section

noncomputable section

namespace Cert.Calls.SumAdamwIn

open Idealize.ShloMosaic Idealize.ShloMosaic.TcCoe Idealize.SL.Sem

section Words

open Cert.SumAdamwIn Cert.SumAdamwIn.Gen

/-- The position of the device in the mesh, as the call is handed it. -/
def positionWords : pre0.Contents (Elt Bits) := fun | 0 => fun _ => (0#32 : BitVec 32)

theorem tableWords (m : (ℓ : Loc nD τ sig) → Buf (Elt Bits) ℓ) : tbl m = positionWords := funext fun | 0 => rfl

/-- The device's block of the sums is inside the array. -/
theorem okWords (m : (ℓ : Loc nD τ sig) → Buf (Elt Bits) ℓ) : Gen.Ok m :=
  show ok0 (tbl m) from tableWords m ▸ (by decide +kernel : ok0 (F := Bits) positionWords)

end Words

open Cert.SumAdamwInIdeal Cert.SumAdamwInIdeal.Gen
open Cert.SumAdamwInReferenceIdeal.Read

/-- The position of the device in the mesh, as the call over the reals is handed it. -/
def position : pre0.Contents (Elt Ideal) := fun | 0 => fun _ => (0#32 : BitVec 32)

theorem ok_position : ok0 (F := Ideal) position := by decide +kernel

/-- The call's blocks at that position. -/
abbrev placed : (pcfg0 (F := Ideal)).Adm := ⟨position, ok_position⟩

variable (m : (ℓ : Loc nD τ sig) → Buf (Elt Ideal) ℓ)

theorem table : tbl m = position := funext fun | 0 => rfl

/-- The device's block of the sums is inside the array. -/
theorem ok : Gen.Ok m := show ok0 (tbl m) from table m ▸ ok_position

theorem placed_eq : adm m (ok m) = placed := Subtype.ext (table m)

/-! The blocks at a point. -/

theorem corner0 (t : Fin grid0.N) : ((cfgM m (ok m)).win 0).index t = (![0, t.val, 0] : Fin 3 → Nat) := by
  show ((cfg0 (adm m (ok m))).win 0).index t = _
  rw [placed_eq]
  exact (by decide +kernel : ∀ t : Fin grid0.N, (((cfg0 placed).win 0).index t : Fin 3 → Nat) = ![0, t.val, 0]) t

theorem corner1 (t : Fin grid0.N) : ((cfgM m (ok m)).win 1).index t = (![0, t.val, 0] : Fin 3 → Nat) :=
  (by decide +kernel : ∀ t : Fin grid0.N, (((cfg0 placed).win 1).index t : Fin 3 → Nat) = ![0, t.val, 0]) t

theorem corner2 (t : Fin grid0.N) : ((cfgM m (ok m)).win 2).index t = (![t.val, 0] : Fin 2 → Nat) :=
  (by decide +kernel : ∀ t : Fin grid0.N, (((cfg0 placed).win 2).index t : Fin 2 → Nat) = ![t.val, 0]) t

theorem corner3 (t : Fin grid0.N) : ((cfgM m (ok m)).win 3).index t = (![t.val, 0] : Fin 2 → Nat) :=
  (by decide +kernel : ∀ t : Fin grid0.N, (((cfg0 placed).win 3).index t : Fin 2 → Nat) = ![t.val, 0]) t

theorem corner4 (t : Fin grid0.N) : ((cfgM m (ok m)).win 4).index t = (![t.val, 0] : Fin 2 → Nat) :=
  (by decide +kernel : ∀ t : Fin grid0.N, (((cfg0 placed).win 4).index t : Fin 2 → Nat) = ![t.val, 0]) t

theorem corner5 (t : Fin grid0.N) : ((cfgM m (ok m)).win 5).index t = (![t.val, 0] : Fin 2 → Nat) :=
  (by decide +kernel : ∀ t : Fin grid0.N, (((cfg0 placed).win 5).index t : Fin 2 → Nat) = ![t.val, 0]) t

theorem corner6 (t : Fin grid0.N) : ((cfgM m (ok m)).win 6).index t = (![t.val, 0] : Fin 2 → Nat) :=
  (by decide +kernel : ∀ t : Fin grid0.N, (((cfg0 placed).win 6).index t : Fin 2 → Nat) = ![t.val, 0]) t

theorem corner7 (t : Fin grid0.N) : ((cfgM m (ok m)).win 7).index t = (![t.val, 0] : Fin 2 → Nat) :=
  (by decide +kernel : ∀ t : Fin grid0.N, (((cfg0 placed).win 7).index t : Fin 2 → Nat) = ![t.val, 0]) t

theorem corner8 (t : Fin grid0.N) : ((cfgM m (ok m)).win 8).index t = (![t.val, 0] : Fin 2 → Nat) :=
  (by decide +kernel : ∀ t : Fin grid0.N, (((cfg0 placed).win 8).index t : Fin 2 → Nat) = ![t.val, 0]) t

/-! The blocks of the arguments at a point, element by element: `y` is the place in the result's block and `i` in the result. -/

theorem in0 (c : Dev nD) (t : Fin grid0.N) (y : S304x2048.Idx) (i : S1216x2048.Idx) (h0 : (i 0).val = t.val * 304 + (y 0).val) (h1 : (i 1).val = (y 1).val) :
    (iblk m (ok m) c 0 t (ix3 0 (y 0) (y 1)) : EReal) = (m ((c : Thread nD τ).loc main_arg0)) (idx_main_v0 (idx_main_v1 i)) := by
  have ht : t.val < grid0.N := t.isLt
  have e := corner0 m t
  blk_simp [iblk, V_main_arg0]
  refine congrArg (m ((c : Thread nD τ).loc main_arg0)) ?_
  blk_ext [e, h0, h1]

theorem in1 (c : Dev nD) (t : Fin grid0.N) (y : S304x2048.Idx) (i : S1216x2048.Idx) (h0 : (i 0).val = t.val * 304 + (y 0).val) (h1 : (i 1).val = (y 1).val) (k : Fin 3) :
    (iblk m (ok m) c 1 t (ix3 k (y 0) (y 1)) : EReal) = (m ((c : Thread nD τ).loc main_arg1)) (idx_main_v4 i k) := by
  have ht : t.val < grid0.N := t.isLt
  have e := corner1 m t
  blk_simp [iblk, V_main_arg1]
  refine congrArg (m ((c : Thread nD τ).loc main_arg1)) ?_
  blk_ext [e, h0, h1]

theorem in2 (c : Dev nD) (t : Fin grid0.N) (y : S304x2048.Idx) (i : S1216x2048.Idx) (h0 : (i 0).val = t.val * 304 + (y 0).val) (h1 : (i 1).val = (y 1).val) :
    (iblk m (ok m) c 2 t y : EReal) = (m ((c : Thread nD τ).loc main_arg2)) i := by
  have ht : t.val < grid0.N := t.isLt
  have e := corner2 m t
  blk_simp [iblk, V_main_arg2]
  refine congrArg (m ((c : Thread nD τ).loc main_arg2)) ?_
  blk_ext [e, h0, h1]

theorem in3 (c : Dev nD) (t : Fin grid0.N) (y : S304x2048.Idx) (i : S1216x2048.Idx) (h0 : (i 0).val = t.val * 304 + (y 0).val) (h1 : (i 1).val = (y 1).val) :
    (iblk m (ok m) c 3 t y : EReal) = (m ((c : Thread nD τ).loc main_arg3)) i := by
  have ht : t.val < grid0.N := t.isLt
  have e := corner3 m t
  blk_simp [iblk, V_main_arg3]
  refine congrArg (m ((c : Thread nD τ).loc main_arg3)) ?_
  blk_ext [e, h0, h1]

theorem in4 (c : Dev nD) (t : Fin grid0.N) (y : S304x2048.Idx) (i : S1216x2048.Idx) (h0 : (i 0).val = t.val * 304 + (y 0).val) (h1 : (i 1).val = (y 1).val) :
    (iblk m (ok m) c 4 t y : EReal) = (m ((c : Thread nD τ).loc main_arg4)) i := by
  have ht : t.val < grid0.N := t.isLt
  have e := corner4 m t
  blk_simp [iblk, V_main_arg4]
  refine congrArg (m ((c : Thread nD τ).loc main_arg4)) ?_
  blk_ext [e, h0, h1]

/-- The block of this result at a point, made from blocks that hold the arguments' elements. -/
theorem block5 (c : Dev nD) (t : Fin grid0.N) (y : S304x2048.Idx) (i : S1216x2048.Idx) (x0 : Vec Ideal S1x304x2048 .bf16) (x1 : Vec Ideal S3x304x2048 .bf16) (x2 : Vec Ideal S304x2048 .f32) (x3 : Vec Ideal S304x2048 .f32) (x4 : Vec Ideal S304x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k)) :
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v5 (F := Ideal) (m ((c : Thread nD τ).loc main_arg0)) (m ((c : Thread nD τ).loc main_arg1)) i := by
  unfold out0_A_5
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1]
  simp only [Fin.sum_univ_three, ← add_assoc (G := EReal)]

theorem outs5 (c : Dev nD) (t : Fin (cfgM m (ok m)).N) : (outsAt0 m (ok m) c t).1 =
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers5 : ((cfg0 placed).win 5).Covers := by decide +kernel

/-- The place in this result of an element of its block. -/
theorem place5 (t : Fin grid0.N) (y : S304x2048.Idx) : ∃ i : S1216x2048.Idx, (((cfgM m (ok m)).win 5).blk t).view.emb y = i ∧ (i 0).val = t.val * 304 + (y 0).val ∧ (i 1).val = (y 1).val := by
  refine ⟨(((cfgM m (ok m)).win 5).blk t).view.emb y, rfl, ?_, ?_⟩
  · blk_simp [corner5 m t]
  · blk_simp [corner5 m t]

theorem result5 (c : Dev nD) : (dats m (ok m) 0 c).arrAt 5 (cfgM m (ok m)).N = val_main_v5 (F := Ideal) (m ((c : Thread nD τ).loc main_arg0)) (m ((c : Thread nD τ).loc main_arg1)) := by
  refine (dats m (ok m) 0 c).arrAt_eq_of_covers 5 _ covers5 fun t hf (y : S304x2048.Idx) => ?_
  obtain ⟨i, hi, h0, h1⟩ := place5 m t y
  blk_simp
  rw [hi, after0_5, outs5]
  exact block5 m c t y i (iblk m (ok m) c 0 t) (iblk m (ok m) c 1 t) (iblk m (ok m) c 2 t) (iblk m (ok m) c 3 t) (iblk m (ok m) c 4 t) (in0 m c t y i h0 h1) (in1 m c t y i h0 h1)

/-- The block of this result at a point, made from blocks that hold the arguments' elements. -/
theorem block6 (c : Dev nD) (t : Fin grid0.N) (y : S304x2048.Idx) (i : S1216x2048.Idx) (x0 : Vec Ideal S1x304x2048 .bf16) (x1 : Vec Ideal S3x304x2048 .bf16) (x2 : Vec Ideal S304x2048 .f32) (x3 : Vec Ideal S304x2048 .f32) (x4 : Vec Ideal S304x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k))
    (b2 : (x2 y : EReal) = (m ((c : Thread nD τ).loc main_arg2)) i)
    (b3 : (x3 y : EReal) = (m ((c : Thread nD τ).loc main_arg3)) i)
    (b4 : (x4 y : EReal) = (m ((c : Thread nD τ).loc main_arg4)) i) :
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  unfold out0_A_6
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1, b2, b3, b4]
  simp only [Fin.sum_univ_three, ← add_assoc (G := EReal)]

theorem outs6 (c : Dev nD) (t : Fin (cfgM m (ok m)).N) : (outsAt0 m (ok m) c t).2.1 =
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers6 : ((cfg0 placed).win 6).Covers := by decide +kernel

/-- The place in this result of an element of its block. -/
theorem place6 (t : Fin grid0.N) (y : S304x2048.Idx) : ∃ i : S1216x2048.Idx, (((cfgM m (ok m)).win 6).blk t).view.emb y = i ∧ (i 0).val = t.val * 304 + (y 0).val ∧ (i 1).val = (y 1).val := by
  refine ⟨(((cfgM m (ok m)).win 6).blk t).view.emb y, rfl, ?_, ?_⟩
  · blk_simp [corner6 m t]
  · blk_simp [corner6 m t]

theorem result6 (c : Dev nD) : (dats m (ok m) 0 c).arrAt 6 (cfgM m (ok m)).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t hf (y : S304x2048.Idx) => ?_
  obtain ⟨i, hi, h0, h1⟩ := place6 m t y
  blk_simp
  rw [hi, after0_6, outs6]
  exact block6 m c t y i (iblk m (ok m) c 0 t) (iblk m (ok m) c 1 t) (iblk m (ok m) c 2 t) (iblk m (ok m) c 3 t) (iblk m (ok m) c 4 t) (in0 m c t y i h0 h1) (in1 m c t y i h0 h1) (in2 m c t y i h0 h1) (in3 m c t y i h0 h1) (in4 m c t y i h0 h1)

/-- The block of this result at a point, made from blocks that hold the arguments' elements. -/
theorem block7 (c : Dev nD) (t : Fin grid0.N) (y : S304x2048.Idx) (i : S1216x2048.Idx) (x0 : Vec Ideal S1x304x2048 .bf16) (x1 : Vec Ideal S3x304x2048 .bf16) (x2 : Vec Ideal S304x2048 .f32) (x3 : Vec Ideal S304x2048 .f32) (x4 : Vec Ideal S304x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k))
    (b3 : (x3 y : EReal) = (m ((c : Thread nD τ).loc main_arg3)) i) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v10 (F := Ideal) (m ((c : Thread nD τ).loc main_arg0)) (m ((c : Thread nD τ).loc main_arg1)) (m ((c : Thread nD τ).loc main_arg3)) i := by
  unfold out0_A_7
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1, b3]
  simp only [Fin.sum_univ_three, ← add_assoc (G := EReal)]

theorem outs7 (c : Dev nD) (t : Fin (cfgM m (ok m)).N) : (outsAt0 m (ok m) c t).2.2.1 =
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers7 : ((cfg0 placed).win 7).Covers := by decide +kernel

/-- The place in this result of an element of its block. -/
theorem place7 (t : Fin grid0.N) (y : S304x2048.Idx) : ∃ i : S1216x2048.Idx, (((cfgM m (ok m)).win 7).blk t).view.emb y = i ∧ (i 0).val = t.val * 304 + (y 0).val ∧ (i 1).val = (y 1).val := by
  refine ⟨(((cfgM m (ok m)).win 7).blk t).view.emb y, rfl, ?_, ?_⟩
  · blk_simp [corner7 m t]
  · blk_simp [corner7 m t]

theorem result7 (c : Dev nD) : (dats m (ok m) 0 c).arrAt 7 (cfgM m (ok m)).N = val_main_v10 (F := Ideal) (m ((c : Thread nD τ).loc main_arg0)) (m ((c : Thread nD τ).loc main_arg1)) (m ((c : Thread nD τ).loc main_arg3)) := by
  refine (dats m (ok m) 0 c).arrAt_eq_of_covers 7 _ covers7 fun t hf (y : S304x2048.Idx) => ?_
  obtain ⟨i, hi, h0, h1⟩ := place7 m t y
  blk_simp
  rw [hi, after0_7, outs7]
  exact block7 m c t y i (iblk m (ok m) c 0 t) (iblk m (ok m) c 1 t) (iblk m (ok m) c 2 t) (iblk m (ok m) c 3 t) (iblk m (ok m) c 4 t) (in0 m c t y i h0 h1) (in1 m c t y i h0 h1) (in3 m c t y i h0 h1)

/-- The block of this result at a point, made from blocks that hold the arguments' elements. -/
theorem block8 (c : Dev nD) (t : Fin grid0.N) (y : S304x2048.Idx) (i : S1216x2048.Idx) (x0 : Vec Ideal S1x304x2048 .bf16) (x1 : Vec Ideal S3x304x2048 .bf16) (x2 : Vec Ideal S304x2048 .f32) (x3 : Vec Ideal S304x2048 .f32) (x4 : Vec Ideal S304x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k))
    (b4 : (x4 y : EReal) = (m ((c : Thread nD τ).loc main_arg4)) i) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v16 (F := Ideal) (m ((c : Thread nD τ).loc main_arg0)) (m ((c : Thread nD τ).loc main_arg1)) (m ((c : Thread nD τ).loc main_arg4)) i := by
  unfold out0_A_8
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1, b4]
  simp only [Fin.sum_univ_three, ← add_assoc (G := EReal)]

theorem outs8 (c : Dev nD) (t : Fin (cfgM m (ok m)).N) : (outsAt0 m (ok m) c t).2.2.2 =
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers8 : ((cfg0 placed).win 8).Covers := by decide +kernel

/-- The place in this result of an element of its block. -/
theorem place8 (t : Fin grid0.N) (y : S304x2048.Idx) : ∃ i : S1216x2048.Idx, (((cfgM m (ok m)).win 8).blk t).view.emb y = i ∧ (i 0).val = t.val * 304 + (y 0).val ∧ (i 1).val = (y 1).val := by
  refine ⟨(((cfgM m (ok m)).win 8).blk t).view.emb y, rfl, ?_, ?_⟩
  · blk_simp [corner8 m t]
  · blk_simp [corner8 m t]

theorem result8 (c : Dev nD) : (dats m (ok m) 0 c).arrAt 8 (cfgM m (ok m)).N = val_main_v16 (F := Ideal) (m ((c : Thread nD τ).loc main_arg0)) (m ((c : Thread nD τ).loc main_arg1)) (m ((c : Thread nD τ).loc main_arg4)) := by
  refine (dats m (ok m) 0 c).arrAt_eq_of_covers 8 _ covers8 fun t hf (y : S304x2048.Idx) => ?_
  obtain ⟨i, hi, h0, h1⟩ := place8 m t y
  blk_simp
  rw [hi, after0_8, outs8]
  exact block8 m c t y i (iblk m (ok m) c 0 t) (iblk m (ok m) c 1 t) (iblk m (ok m) c 2 t) (iblk m (ok m) c 3 t) (iblk m (ok m) c 4 t) (in0 m c t y i h0 h1) (in1 m c t y i h0 h1) (in4 m c t y i h0 h1)

theorem algebraic : Cert.algebraic_SumAdamwInIdeal_SumAdamwInReferenceIdeal := by
  intro m g m' g' _ hagree
  refine ⟨fun c => val_main_v5 (F := Ideal) (m ((c : Thread nD τ).loc main_arg0)) (m ((c : Thread nD τ).loc main_arg1)), fun c => val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v10 (F := Ideal) (m ((c : Thread nD τ).loc main_arg0)) (m ((c : Thread nD τ).loc main_arg1)) (m ((c : Thread nD τ).loc main_arg3)), fun c => val_main_v16 (F := Ideal) (m ((c : Thread nD τ).loc main_arg0)) (m ((c : Thread nD τ).loc main_arg1)) (m ((c : Thread nD τ).loc main_arg4)),
    (θ_run _ _ _).mono (fun r h c => ?_) (run_main m g (ok m)),
    (θ_run _ _ _).mono (fun r h c => ?_) (Cert.SumAdamwInReferenceIdeal.Value.run m' g')⟩
  · have kept (w : Fin 9) (hw : ((cfgM m (ok m)).win w).isOut = false) := ((h c).1 w).trans (((dats m (ok m) 0 c).arrAt_in w hw _).trans (A_eq m (ok m) c w))
    exact ⟨((h c).1 5).trans (result5 m c), ((h c).1 6).trans (result6 m c), ((h c).1 7).trans (result7 m c), ((h c).1 8).trans (result8 m c),
      (kept 0 rfl).trans (V_main_arg0 m c), (kept 1 rfl).trans (V_main_arg1 m c), (kept 2 rfl).trans (V_main_arg2 m c), (kept 3 rfl).trans (V_main_arg3 m c), (kept 4 rfl).trans (V_main_arg4 m c)⟩
  · obtain ⟨h0, h1, h2, h3, h4⟩ := hagree c
    refine ⟨(h c).1.trans ?_, (h c).2.1.trans ?_, (h c).2.2.1.trans ?_, (h c).2.2.2.1.trans ?_, (h c).2.2.2.2⟩
    · rw [Cert.SumAdamwInReferenceIdeal.Read.val_main_v5_eq, h0, h1]
    · rw [Cert.SumAdamwInReferenceIdeal.Read.val_main_v29_eq, h0, h1, h2, h3, h4]
    · rw [Cert.SumAdamwInReferenceIdeal.Read.val_main_v10_eq, h0, h1, h3]
    · rw [Cert.SumAdamwInReferenceIdeal.Read.val_main_v16_eq, h0, h1, h4]

end Cert.Calls.SumAdamwIn
-- ==== Proof.SumAdamwBranchValue.lean ====
module

public import proofs.«01_k».proof.Defs
public import proofs.«01_k».proof.Proof.Gen.SumAdamwBranch.Frame
public import proofs.«01_k».proof.Proof.Gen.SumAdamwBranchIdeal.Frame
public import proofs.«01_k».proof.Proof.Gen.SumAdamwBranchReferenceIdeal.Run
public import proofs.«01_k».proof.Proof.Gen.SumAdamwBranchReferenceIdeal.Read
public import Idealize.ShloMosaic.Lib.Pipeline.ValueKit
public import Idealize.ShloMosaic.Lib.Pointwise

/-! The sum of the gradient of a branch's weight over the devices and its AdamW update. -/

@[expose] public section

noncomputable section

namespace Cert.Calls.SumAdamwBranch

open Idealize.ShloMosaic Idealize.ShloMosaic.TcCoe Idealize.SL.Sem

section Words

open Cert.SumAdamwBranch Cert.SumAdamwBranch.Gen

/-- The position of the device in the mesh, as the call is handed it. -/
def positionWords : pre0.Contents (Elt Bits) := fun | 0 => fun _ => (0#32 : BitVec 32)

theorem tableWords (m : (ℓ : Loc nD τ sig) → Buf (Elt Bits) ℓ) : tbl m = positionWords := funext fun | 0 => rfl

/-- The device's block of the sums is inside the array. -/
theorem okWords (m : (ℓ : Loc nD τ sig) → Buf (Elt Bits) ℓ) : Gen.Ok m :=
  show ok0 (tbl m) from tableWords m ▸ (by decide +kernel : ok0 (F := Bits) positionWords)

end Words

open Cert.SumAdamwBranchIdeal Cert.SumAdamwBranchIdeal.Gen
open Cert.SumAdamwBranchReferenceIdeal.Read

/-- The position of the device in the mesh, as the call over the reals is handed it. -/
def position : pre0.Contents (Elt Ideal) := fun | 0 => fun _ => (0#32 : BitVec 32)

theorem ok_position : ok0 (F := Ideal) position := by decide +kernel

/-- The call's blocks at that position. -/
abbrev placed : (pcfg0 (F := Ideal)).Adm := ⟨position, ok_position⟩

variable (m : (ℓ : Loc nD τ sig) → Buf (Elt Ideal) ℓ)

theorem table : tbl m = position := funext fun | 0 => rfl

/-- The device's block of the sums is inside the array. -/
theorem ok : Gen.Ok m := show ok0 (tbl m) from table m ▸ ok_position

theorem placed_eq : adm m (ok m) = placed := Subtype.ext (table m)

/-! The blocks at a point. -/

theorem corner0 (t : Fin grid0.N) : ((cfgM m (ok m)).win 0).index t = (![0, 0, t.val] : Fin 3 → Nat) := by
  show ((cfg0 (adm m (ok m))).win 0).index t = _
  rw [placed_eq]
  exact (by decide +kernel : ∀ t : Fin grid0.N, (((cfg0 placed).win 0).index t : Fin 3 → Nat) = ![0, 0, t.val]) t

theorem corner1 (t : Fin grid0.N) : ((cfgM m (ok m)).win 1).index t = (![0, 0, t.val] : Fin 3 → Nat) :=
  (by decide +kernel : ∀ t : Fin grid0.N, (((cfg0 placed).win 1).index t : Fin 3 → Nat) = ![0, 0, t.val]) t

theorem corner2 (t : Fin grid0.N) : ((cfgM m (ok m)).win 2).index t = (![t.val, 0] : Fin 2 → Nat) :=
  (by decide +kernel : ∀ t : Fin grid0.N, (((cfg0 placed).win 2).index t : Fin 2 → Nat) = ![t.val, 0]) t

theorem corner3 (t : Fin grid0.N) : ((cfgM m (ok m)).win 3).index t = (![t.val, 0] : Fin 2 → Nat) :=
  (by decide +kernel : ∀ t : Fin grid0.N, (((cfg0 placed).win 3).index t : Fin 2 → Nat) = ![t.val, 0]) t

theorem corner4 (t : Fin grid0.N) : ((cfgM m (ok m)).win 4).index t = (![t.val, 0] : Fin 2 → Nat) :=
  (by decide +kernel : ∀ t : Fin grid0.N, (((cfg0 placed).win 4).index t : Fin 2 → Nat) = ![t.val, 0]) t

theorem corner5 (t : Fin grid0.N) : ((cfgM m (ok m)).win 5).index t = (![t.val, 0] : Fin 2 → Nat) :=
  (by decide +kernel : ∀ t : Fin grid0.N, (((cfg0 placed).win 5).index t : Fin 2 → Nat) = ![t.val, 0]) t

theorem corner6 (t : Fin grid0.N) : ((cfgM m (ok m)).win 6).index t = (![t.val, 0] : Fin 2 → Nat) :=
  (by decide +kernel : ∀ t : Fin grid0.N, (((cfg0 placed).win 6).index t : Fin 2 → Nat) = ![t.val, 0]) t

theorem corner7 (t : Fin grid0.N) : ((cfgM m (ok m)).win 7).index t = (![t.val, 0] : Fin 2 → Nat) :=
  (by decide +kernel : ∀ t : Fin grid0.N, (((cfg0 placed).win 7).index t : Fin 2 → Nat) = ![t.val, 0]) t

theorem corner8 (t : Fin grid0.N) : ((cfgM m (ok m)).win 8).index t = (![t.val, 0] : Fin 2 → Nat) :=
  (by decide +kernel : ∀ t : Fin grid0.N, (((cfg0 placed).win 8).index t : Fin 2 → Nat) = ![t.val, 0]) t

/-! The blocks of the arguments at a point, element by element: `y` is the place in the result's block and `i` in the result. -/

theorem in0 (c : Dev nD) (t : Fin grid0.N) (y : S128x256.Idx) (i : S1024x256.Idx) (h0 : (i 0).val = t.val * 128 + (y 0).val) (h1 : (i 1).val = (y 1).val) :
    (iblk m (ok m) c 0 t (ix3 0 (y 1) (y 0)) : EReal) = (m ((c : Thread nD τ).loc main_arg0)) (idx_main_v0 (idx_main_v1 (idx_main_v6 i))) := by
  have ht : t.val < grid0.N := t.isLt
  have e := corner0 m t
  blk_simp [iblk, V_main_arg0]
  refine congrArg (m ((c : Thread nD τ).loc main_arg0)) ?_
  blk_ext [e, h0, h1]

theorem in1 (c : Dev nD) (t : Fin grid0.N) (y : S128x256.Idx) (i : S1024x256.Idx) (h0 : (i 0).val = t.val * 128 + (y 0).val) (h1 : (i 1).val = (y 1).val) (k : Fin 3) :
    (iblk m (ok m) c 1 t (ix3 k (y 1) (y 0)) : EReal) = (m ((c : Thread nD τ).loc main_arg1)) (idx_main_v4 (idx_main_v6 i) k) := by
  have ht : t.val < grid0.N := t.isLt
  have e := corner1 m t
  blk_simp [iblk, V_main_arg1]
  refine congrArg (m ((c : Thread nD τ).loc main_arg1)) ?_
  blk_ext [e, h0, h1]

theorem in2 (c : Dev nD) (t : Fin grid0.N) (y : S128x256.Idx) (i : S1024x256.Idx) (h0 : (i 0).val = t.val * 128 + (y 0).val) (h1 : (i 1).val = (y 1).val) :
    (iblk m (ok m) c 2 t y : EReal) = (m ((c : Thread nD τ).loc main_arg2)) i := by
  have ht : t.val < grid0.N := t.isLt
  have e := corner2 m t
  blk_simp [iblk, V_main_arg2]
  refine congrArg (m ((c : Thread nD τ).loc main_arg2)) ?_
  blk_ext [e, h0, h1]

theorem in3 (c : Dev nD) (t : Fin grid0.N) (y : S128x256.Idx) (i : S1024x256.Idx) (h0 : (i 0).val = t.val * 128 + (y 0).val) (h1 : (i 1).val = (y 1).val) :
    (iblk m (ok m) c 3 t y : EReal) = (m ((c : Thread nD τ).loc main_arg3)) i := by
  have ht : t.val < grid0.N := t.isLt
  have e := corner3 m t
  blk_simp [iblk, V_main_arg3]
  refine congrArg (m ((c : Thread nD τ).loc main_arg3)) ?_
  blk_ext [e, h0, h1]

theorem in4 (c : Dev nD) (t : Fin grid0.N) (y : S128x256.Idx) (i : S1024x256.Idx) (h0 : (i 0).val = t.val * 128 + (y 0).val) (h1 : (i 1).val = (y 1).val) :
    (iblk m (ok m) c 4 t y : EReal) = (m ((c : Thread nD τ).loc main_arg4)) i := by
  have ht : t.val < grid0.N := t.isLt
  have e := corner4 m t
  blk_simp [iblk, V_main_arg4]
  refine congrArg (m ((c : Thread nD τ).loc main_arg4)) ?_
  blk_ext [e, h0, h1]

/-- The block of this result at a point, made from blocks that hold the arguments' elements. -/
theorem block5 (c : Dev nD) (t : Fin grid0.N) (y : S128x256.Idx) (i : S1024x256.Idx) (x0 : Vec Ideal S1x256x128 .bf16) (x1 : Vec Ideal S3x256x128 .bf16) (x2 : Vec Ideal S128x256 .f32) (x3 : Vec Ideal S128x256 .f32) (x4 : Vec Ideal S128x256 .f32)
    (b0 : (x0 (ix3 0 (y 1) (y 0)) : EReal) = (m ((c : Thread nD τ).loc main_arg0)) (idx_main_v0 (idx_main_v1 (idx_main_v6 i))))
    (b1 : ∀ k : Fin 3, (x1 (ix3 k (y 1) (y 0)) : EReal) = (m ((c : Thread nD τ).loc main_arg1)) (idx_main_v4 (idx_main_v6 i) k)) :
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v6 (F := Ideal) (m ((c : Thread nD τ).loc main_arg0)) (m ((c : Thread nD τ).loc main_arg1)) i := by
  unfold out0_A_5
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_cst_0_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_v17_apply, val_main_cst_4_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply, val_main_v28_apply, val_main_cst_8_apply, val_main_v29_apply, val_main_v30_apply]
  simp only [Memref.IsWhole.read_unread, b0, b1]
  simp only [Fin.sum_univ_three, ← add_assoc (G := EReal)]

theorem outs5 (c : Dev nD) (t : Fin (cfgM m (ok m)).N) : (outsAt0 m (ok m) c t).1 =
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers5 : ((cfg0 placed).win 5).Covers := by decide +kernel

/-- The place in this result of an element of its block. -/
theorem place5 (t : Fin grid0.N) (y : S128x256.Idx) : ∃ i : S1024x256.Idx, (((cfgM m (ok m)).win 5).blk t).view.emb y = i ∧ (i 0).val = t.val * 128 + (y 0).val ∧ (i 1).val = (y 1).val := by
  refine ⟨(((cfgM m (ok m)).win 5).blk t).view.emb y, rfl, ?_, ?_⟩
  · blk_simp [corner5 m t]
  · blk_simp [corner5 m t]

theorem result5 (c : Dev nD) : (dats m (ok m) 0 c).arrAt 5 (cfgM m (ok m)).N = val_main_v6 (F := Ideal) (m ((c : Thread nD τ).loc main_arg0)) (m ((c : Thread nD τ).loc main_arg1)) := by
  refine (dats m (ok m) 0 c).arrAt_eq_of_covers 5 _ covers5 fun t hf (y : S128x256.Idx) => ?_
  obtain ⟨i, hi, h0, h1⟩ := place5 m t y
  blk_simp
  rw [hi, after0_5, outs5]
  exact block5 m c t y i (iblk m (ok m) c 0 t) (iblk m (ok m) c 1 t) (iblk m (ok m) c 2 t) (iblk m (ok m) c 3 t) (iblk m (ok m) c 4 t) (in0 m c t y i h0 h1) (in1 m c t y i h0 h1)

/-- The block of this result at a point, made from blocks that hold the arguments' elements. -/
theorem block6 (c : Dev nD) (t : Fin grid0.N) (y : S128x256.Idx) (i : S1024x256.Idx) (x0 : Vec Ideal S1x256x128 .bf16) (x1 : Vec Ideal S3x256x128 .bf16) (x2 : Vec Ideal S128x256 .f32) (x3 : Vec Ideal S128x256 .f32) (x4 : Vec Ideal S128x256 .f32)
    (b0 : (x0 (ix3 0 (y 1) (y 0)) : EReal) = (m ((c : Thread nD τ).loc main_arg0)) (idx_main_v0 (idx_main_v1 (idx_main_v6 i))))
    (b1 : ∀ k : Fin 3, (x1 (ix3 k (y 1) (y 0)) : EReal) = (m ((c : Thread nD τ).loc main_arg1)) (idx_main_v4 (idx_main_v6 i) k))
    (b2 : (x2 y : EReal) = (m ((c : Thread nD τ).loc main_arg2)) i)
    (b3 : (x3 y : EReal) = (m ((c : Thread nD τ).loc main_arg3)) i)
    (b4 : (x4 y : EReal) = (m ((c : Thread nD τ).loc main_arg4)) i) :
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  unfold out0_A_6
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_cst_0_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_v17_apply, val_main_cst_4_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply, val_main_v28_apply, val_main_cst_8_apply, val_main_v29_apply, val_main_v30_apply]
  simp only [Memref.IsWhole.read_unread, b0, b1, b2, b3, b4]
  simp only [Fin.sum_univ_three, ← add_assoc (G := EReal)]

theorem outs6 (c : Dev nD) (t : Fin (cfgM m (ok m)).N) : (outsAt0 m (ok m) c t).2.1 =
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers6 : ((cfg0 placed).win 6).Covers := by decide +kernel

/-- The place in this result of an element of its block. -/
theorem place6 (t : Fin grid0.N) (y : S128x256.Idx) : ∃ i : S1024x256.Idx, (((cfgM m (ok m)).win 6).blk t).view.emb y = i ∧ (i 0).val = t.val * 128 + (y 0).val ∧ (i 1).val = (y 1).val := by
  refine ⟨(((cfgM m (ok m)).win 6).blk t).view.emb y, rfl, ?_, ?_⟩
  · blk_simp [corner6 m t]
  · blk_simp [corner6 m t]

theorem result6 (c : Dev nD) : (dats m (ok m) 0 c).arrAt 6 (cfgM m (ok m)).N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t hf (y : S128x256.Idx) => ?_
  obtain ⟨i, hi, h0, h1⟩ := place6 m t y
  blk_simp
  rw [hi, after0_6, outs6]
  exact block6 m c t y i (iblk m (ok m) c 0 t) (iblk m (ok m) c 1 t) (iblk m (ok m) c 2 t) (iblk m (ok m) c 3 t) (iblk m (ok m) c 4 t) (in0 m c t y i h0 h1) (in1 m c t y i h0 h1) (in2 m c t y i h0 h1) (in3 m c t y i h0 h1) (in4 m c t y i h0 h1)

/-- The block of this result at a point, made from blocks that hold the arguments' elements. -/
theorem block7 (c : Dev nD) (t : Fin grid0.N) (y : S128x256.Idx) (i : S1024x256.Idx) (x0 : Vec Ideal S1x256x128 .bf16) (x1 : Vec Ideal S3x256x128 .bf16) (x2 : Vec Ideal S128x256 .f32) (x3 : Vec Ideal S128x256 .f32) (x4 : Vec Ideal S128x256 .f32)
    (b0 : (x0 (ix3 0 (y 1) (y 0)) : EReal) = (m ((c : Thread nD τ).loc main_arg0)) (idx_main_v0 (idx_main_v1 (idx_main_v6 i))))
    (b1 : ∀ k : Fin 3, (x1 (ix3 k (y 1) (y 0)) : EReal) = (m ((c : Thread nD τ).loc main_arg1)) (idx_main_v4 (idx_main_v6 i) k))
    (b3 : (x3 y : EReal) = (m ((c : Thread nD τ).loc main_arg3)) i) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v11 (F := Ideal) (m ((c : Thread nD τ).loc main_arg0)) (m ((c : Thread nD τ).loc main_arg1)) (m ((c : Thread nD τ).loc main_arg3)) i := by
  unfold out0_A_7
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_cst_0_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_v17_apply, val_main_cst_4_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply, val_main_v28_apply, val_main_cst_8_apply, val_main_v29_apply, val_main_v30_apply]
  simp only [Memref.IsWhole.read_unread, b0, b1, b3]
  simp only [Fin.sum_univ_three, ← add_assoc (G := EReal)]

theorem outs7 (c : Dev nD) (t : Fin (cfgM m (ok m)).N) : (outsAt0 m (ok m) c t).2.2.1 =
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers7 : ((cfg0 placed).win 7).Covers := by decide +kernel

/-- The place in this result of an element of its block. -/
theorem place7 (t : Fin grid0.N) (y : S128x256.Idx) : ∃ i : S1024x256.Idx, (((cfgM m (ok m)).win 7).blk t).view.emb y = i ∧ (i 0).val = t.val * 128 + (y 0).val ∧ (i 1).val = (y 1).val := by
  refine ⟨(((cfgM m (ok m)).win 7).blk t).view.emb y, rfl, ?_, ?_⟩
  · blk_simp [corner7 m t]
  · blk_simp [corner7 m t]

theorem result7 (c : Dev nD) : (dats m (ok m) 0 c).arrAt 7 (cfgM m (ok m)).N = val_main_v11 (F := Ideal) (m ((c : Thread nD τ).loc main_arg0)) (m ((c : Thread nD τ).loc main_arg1)) (m ((c : Thread nD τ).loc main_arg3)) := by
  refine (dats m (ok m) 0 c).arrAt_eq_of_covers 7 _ covers7 fun t hf (y : S128x256.Idx) => ?_
  obtain ⟨i, hi, h0, h1⟩ := place7 m t y
  blk_simp
  rw [hi, after0_7, outs7]
  exact block7 m c t y i (iblk m (ok m) c 0 t) (iblk m (ok m) c 1 t) (iblk m (ok m) c 2 t) (iblk m (ok m) c 3 t) (iblk m (ok m) c 4 t) (in0 m c t y i h0 h1) (in1 m c t y i h0 h1) (in3 m c t y i h0 h1)

/-- The block of this result at a point, made from blocks that hold the arguments' elements. -/
theorem block8 (c : Dev nD) (t : Fin grid0.N) (y : S128x256.Idx) (i : S1024x256.Idx) (x0 : Vec Ideal S1x256x128 .bf16) (x1 : Vec Ideal S3x256x128 .bf16) (x2 : Vec Ideal S128x256 .f32) (x3 : Vec Ideal S128x256 .f32) (x4 : Vec Ideal S128x256 .f32)
    (b0 : (x0 (ix3 0 (y 1) (y 0)) : EReal) = (m ((c : Thread nD τ).loc main_arg0)) (idx_main_v0 (idx_main_v1 (idx_main_v6 i))))
    (b1 : ∀ k : Fin 3, (x1 (ix3 k (y 1) (y 0)) : EReal) = (m ((c : Thread nD τ).loc main_arg1)) (idx_main_v4 (idx_main_v6 i) k))
    (b4 : (x4 y : EReal) = (m ((c : Thread nD τ).loc main_arg4)) i) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v17 (F := Ideal) (m ((c : Thread nD τ).loc main_arg0)) (m ((c : Thread nD τ).loc main_arg1)) (m ((c : Thread nD τ).loc main_arg4)) i := by
  unfold out0_A_8
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_cst_0_apply, val_main_v7_apply, val_main_v8_apply, val_main_cst_1_apply, val_main_v9_apply, val_main_v10_apply, val_main_v11_apply, val_main_cst_2_apply, val_main_v12_apply, val_main_v13_apply, val_main_v14_apply, val_main_cst_3_apply, val_main_v15_apply, val_main_v16_apply, val_main_v17_apply, val_main_cst_4_apply, val_main_v18_apply, val_main_v19_apply, val_main_cst_5_apply, val_main_v20_apply, val_main_v21_apply, val_main_v22_apply, val_main_cst_6_apply, val_main_v23_apply, val_main_v24_apply, val_main_v25_apply, val_main_cst_7_apply, val_main_v26_apply, val_main_v27_apply, val_main_v28_apply, val_main_cst_8_apply, val_main_v29_apply, val_main_v30_apply]
  simp only [Memref.IsWhole.read_unread, b0, b1, b4]
  simp only [Fin.sum_univ_three, ← add_assoc (G := EReal)]

theorem outs8 (c : Dev nD) (t : Fin (cfgM m (ok m)).N) : (outsAt0 m (ok m) c t).2.2.2 =
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers8 : ((cfg0 placed).win 8).Covers := by decide +kernel

/-- The place in this result of an element of its block. -/
theorem place8 (t : Fin grid0.N) (y : S128x256.Idx) : ∃ i : S1024x256.Idx, (((cfgM m (ok m)).win 8).blk t).view.emb y = i ∧ (i 0).val = t.val * 128 + (y 0).val ∧ (i 1).val = (y 1).val := by
  refine ⟨(((cfgM m (ok m)).win 8).blk t).view.emb y, rfl, ?_, ?_⟩
  · blk_simp [corner8 m t]
  · blk_simp [corner8 m t]

theorem result8 (c : Dev nD) : (dats m (ok m) 0 c).arrAt 8 (cfgM m (ok m)).N = val_main_v17 (F := Ideal) (m ((c : Thread nD τ).loc main_arg0)) (m ((c : Thread nD τ).loc main_arg1)) (m ((c : Thread nD τ).loc main_arg4)) := by
  refine (dats m (ok m) 0 c).arrAt_eq_of_covers 8 _ covers8 fun t hf (y : S128x256.Idx) => ?_
  obtain ⟨i, hi, h0, h1⟩ := place8 m t y
  blk_simp
  rw [hi, after0_8, outs8]
  exact block8 m c t y i (iblk m (ok m) c 0 t) (iblk m (ok m) c 1 t) (iblk m (ok m) c 2 t) (iblk m (ok m) c 3 t) (iblk m (ok m) c 4 t) (in0 m c t y i h0 h1) (in1 m c t y i h0 h1) (in4 m c t y i h0 h1)

theorem algebraic : Cert.algebraic_SumAdamwBranchIdeal_SumAdamwBranchReferenceIdeal := by
  intro m g m' g' _ hagree
  refine ⟨fun c => val_main_v6 (F := Ideal) (m ((c : Thread nD τ).loc main_arg0)) (m ((c : Thread nD τ).loc main_arg1)), fun c => val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v11 (F := Ideal) (m ((c : Thread nD τ).loc main_arg0)) (m ((c : Thread nD τ).loc main_arg1)) (m ((c : Thread nD τ).loc main_arg3)), fun c => val_main_v17 (F := Ideal) (m ((c : Thread nD τ).loc main_arg0)) (m ((c : Thread nD τ).loc main_arg1)) (m ((c : Thread nD τ).loc main_arg4)),
    (θ_run _ _ _).mono (fun r h c => ?_) (run_main m g (ok m)),
    (θ_run _ _ _).mono (fun r h c => ?_) (Cert.SumAdamwBranchReferenceIdeal.Value.run m' g')⟩
  · have kept (w : Fin 9) (hw : ((cfgM m (ok m)).win w).isOut = false) := ((h c).1 w).trans (((dats m (ok m) 0 c).arrAt_in w hw _).trans (A_eq m (ok m) c w))
    exact ⟨((h c).1 5).trans (result5 m c), ((h c).1 6).trans (result6 m c), ((h c).1 7).trans (result7 m c), ((h c).1 8).trans (result8 m c),
      (kept 0 rfl).trans (V_main_arg0 m c), (kept 1 rfl).trans (V_main_arg1 m c), (kept 2 rfl).trans (V_main_arg2 m c), (kept 3 rfl).trans (V_main_arg3 m c), (kept 4 rfl).trans (V_main_arg4 m c)⟩
  · obtain ⟨h0, h1, h2, h3, h4⟩ := hagree c
    refine ⟨(h c).1.trans ?_, (h c).2.1.trans ?_, (h c).2.2.1.trans ?_, (h c).2.2.2.1.trans ?_, (h c).2.2.2.2⟩
    · rw [Cert.SumAdamwBranchReferenceIdeal.Read.val_main_v6_eq, h0, h1]
    · rw [Cert.SumAdamwBranchReferenceIdeal.Read.val_main_v30_eq, h0, h1, h2, h3, h4]
    · rw [Cert.SumAdamwBranchReferenceIdeal.Read.val_main_v11_eq, h0, h1, h3]
    · rw [Cert.SumAdamwBranchReferenceIdeal.Read.val_main_v17_eq, h0, h1, h4]

end Cert.Calls.SumAdamwBranch
-- ==== Proof.SumAdamwOutValue.lean ====
module

public import proofs.«01_k».proof.Defs
public import proofs.«01_k».proof.Proof.Gen.SumAdamwOut.Frame
public import proofs.«01_k».proof.Proof.Gen.SumAdamwOutIdeal.Frame
public import proofs.«01_k».proof.Proof.Gen.SumAdamwOutReferenceIdeal.Run
public import proofs.«01_k».proof.Proof.Gen.SumAdamwOutReferenceIdeal.Read
public import Idealize.ShloMosaic.Lib.Pipeline.ValueKit
public import Idealize.ShloMosaic.Lib.Pointwise

/-! The sum of the gradient of the output projection's weight over the devices and its AdamW update. -/

@[expose] public section

noncomputable section

namespace Cert.Calls.SumAdamwOut

open Idealize.ShloMosaic Idealize.ShloMosaic.TcCoe Idealize.SL.Sem

section Words

open Cert.SumAdamwOut Cert.SumAdamwOut.Gen

/-- The position of the device in the mesh, as the call is handed it. -/
def positionWords : pre0.Contents (Elt Bits) := fun | 0 => fun _ => (0#32 : BitVec 32)

theorem tableWords (m : (ℓ : Loc nD τ sig) → Buf (Elt Bits) ℓ) : tbl m = positionWords := funext fun | 0 => rfl

/-- The device's block of the sums is inside the array. -/
theorem okWords (m : (ℓ : Loc nD τ sig) → Buf (Elt Bits) ℓ) : Gen.Ok m :=
  show ok0 (tbl m) from tableWords m ▸ (by decide +kernel : ok0 (F := Bits) positionWords)

end Words

open Cert.SumAdamwOutIdeal Cert.SumAdamwOutIdeal.Gen
open Cert.SumAdamwOutReferenceIdeal.Read

/-- The position of the device in the mesh, as the call over the reals is handed it. -/
def position : pre0.Contents (Elt Ideal) := fun | 0 => fun _ => (0#32 : BitVec 32)

theorem ok_position : ok0 (F := Ideal) position := by decide +kernel

/-- The call's blocks at that position. -/
abbrev placed : (pcfg0 (F := Ideal)).Adm := ⟨position, ok_position⟩

variable (m : (ℓ : Loc nD τ sig) → Buf (Elt Ideal) ℓ)

theorem table : tbl m = position := funext fun | 0 => rfl

/-- The device's block of the sums is inside the array. -/
theorem ok : Gen.Ok m := show ok0 (tbl m) from table m ▸ ok_position

theorem placed_eq : adm m (ok m) = placed := Subtype.ext (table m)

/-! The blocks at a point. -/

theorem corner0 (t : Fin grid0.N) : ((cfgM m (ok m)).win 0).index t = (![0, t.val, 0] : Fin 3 → Nat) := by
  show ((cfg0 (adm m (ok m))).win 0).index t = _
  rw [placed_eq]
  exact (by decide +kernel : ∀ t : Fin grid0.N, (((cfg0 placed).win 0).index t : Fin 3 → Nat) = ![0, t.val, 0]) t

theorem corner1 (t : Fin grid0.N) : ((cfgM m (ok m)).win 1).index t = (![0, t.val, 0] : Fin 3 → Nat) :=
  (by decide +kernel : ∀ t : Fin grid0.N, (((cfg0 placed).win 1).index t : Fin 3 → Nat) = ![0, t.val, 0]) t

theorem corner2 (t : Fin grid0.N) : ((cfgM m (ok m)).win 2).index t = (![t.val, 0] : Fin 2 → Nat) :=
  (by decide +kernel : ∀ t : Fin grid0.N, (((cfg0 placed).win 2).index t : Fin 2 → Nat) = ![t.val, 0]) t

theorem corner3 (t : Fin grid0.N) : ((cfgM m (ok m)).win 3).index t = (![t.val, 0] : Fin 2 → Nat) :=
  (by decide +kernel : ∀ t : Fin grid0.N, (((cfg0 placed).win 3).index t : Fin 2 → Nat) = ![t.val, 0]) t

theorem corner4 (t : Fin grid0.N) : ((cfgM m (ok m)).win 4).index t = (![t.val, 0] : Fin 2 → Nat) :=
  (by decide +kernel : ∀ t : Fin grid0.N, (((cfg0 placed).win 4).index t : Fin 2 → Nat) = ![t.val, 0]) t

theorem corner5 (t : Fin grid0.N) : ((cfgM m (ok m)).win 5).index t = (![t.val, 0] : Fin 2 → Nat) :=
  (by decide +kernel : ∀ t : Fin grid0.N, (((cfg0 placed).win 5).index t : Fin 2 → Nat) = ![t.val, 0]) t

theorem corner6 (t : Fin grid0.N) : ((cfgM m (ok m)).win 6).index t = (![t.val, 0] : Fin 2 → Nat) :=
  (by decide +kernel : ∀ t : Fin grid0.N, (((cfg0 placed).win 6).index t : Fin 2 → Nat) = ![t.val, 0]) t

theorem corner7 (t : Fin grid0.N) : ((cfgM m (ok m)).win 7).index t = (![t.val, 0] : Fin 2 → Nat) :=
  (by decide +kernel : ∀ t : Fin grid0.N, (((cfg0 placed).win 7).index t : Fin 2 → Nat) = ![t.val, 0]) t

theorem corner8 (t : Fin grid0.N) : ((cfgM m (ok m)).win 8).index t = (![t.val, 0] : Fin 2 → Nat) :=
  (by decide +kernel : ∀ t : Fin grid0.N, (((cfg0 placed).win 8).index t : Fin 2 → Nat) = ![t.val, 0]) t

/-! The blocks of the arguments at a point, element by element: `y` is the place in the result's block and `i` in the result. -/

theorem in0 (c : Dev nD) (t : Fin grid0.N) (y : S128x2048.Idx) (i : S256x2048.Idx) (h0 : (i 0).val = t.val * 128 + (y 0).val) (h1 : (i 1).val = (y 1).val) :
    (iblk m (ok m) c 0 t (ix3 0 (y 0) (y 1)) : EReal) = (m ((c : Thread nD τ).loc main_arg0)) (idx_main_v0 (idx_main_v1 i)) := by
  have ht : t.val < grid0.N := t.isLt
  have e := corner0 m t
  blk_simp [iblk, V_main_arg0]
  refine congrArg (m ((c : Thread nD τ).loc main_arg0)) ?_
  blk_ext [e, h0, h1]

theorem in1 (c : Dev nD) (t : Fin grid0.N) (y : S128x2048.Idx) (i : S256x2048.Idx) (h0 : (i 0).val = t.val * 128 + (y 0).val) (h1 : (i 1).val = (y 1).val) (k : Fin 3) :
    (iblk m (ok m) c 1 t (ix3 k (y 0) (y 1)) : EReal) = (m ((c : Thread nD τ).loc main_arg1)) (idx_main_v4 i k) := by
  have ht : t.val < grid0.N := t.isLt
  have e := corner1 m t
  blk_simp [iblk, V_main_arg1]
  refine congrArg (m ((c : Thread nD τ).loc main_arg1)) ?_
  blk_ext [e, h0, h1]

theorem in2 (c : Dev nD) (t : Fin grid0.N) (y : S128x2048.Idx) (i : S256x2048.Idx) (h0 : (i 0).val = t.val * 128 + (y 0).val) (h1 : (i 1).val = (y 1).val) :
    (iblk m (ok m) c 2 t y : EReal) = (m ((c : Thread nD τ).loc main_arg2)) i := by
  have ht : t.val < grid0.N := t.isLt
  have e := corner2 m t
  blk_simp [iblk, V_main_arg2]
  refine congrArg (m ((c : Thread nD τ).loc main_arg2)) ?_
  blk_ext [e, h0, h1]

theorem in3 (c : Dev nD) (t : Fin grid0.N) (y : S128x2048.Idx) (i : S256x2048.Idx) (h0 : (i 0).val = t.val * 128 + (y 0).val) (h1 : (i 1).val = (y 1).val) :
    (iblk m (ok m) c 3 t y : EReal) = (m ((c : Thread nD τ).loc main_arg3)) i := by
  have ht : t.val < grid0.N := t.isLt
  have e := corner3 m t
  blk_simp [iblk, V_main_arg3]
  refine congrArg (m ((c : Thread nD τ).loc main_arg3)) ?_
  blk_ext [e, h0, h1]

theorem in4 (c : Dev nD) (t : Fin grid0.N) (y : S128x2048.Idx) (i : S256x2048.Idx) (h0 : (i 0).val = t.val * 128 + (y 0).val) (h1 : (i 1).val = (y 1).val) :
    (iblk m (ok m) c 4 t y : EReal) = (m ((c : Thread nD τ).loc main_arg4)) i := by
  have ht : t.val < grid0.N := t.isLt
  have e := corner4 m t
  blk_simp [iblk, V_main_arg4]
  refine congrArg (m ((c : Thread nD τ).loc main_arg4)) ?_
  blk_ext [e, h0, h1]

/-- The block of this result at a point, made from blocks that hold the arguments' elements. -/
theorem block5 (c : Dev nD) (t : Fin grid0.N) (y : S128x2048.Idx) (i : S256x2048.Idx) (x0 : Vec Ideal S1x128x2048 .bf16) (x1 : Vec Ideal S3x128x2048 .bf16) (x2 : Vec Ideal S128x2048 .f32) (x3 : Vec Ideal S128x2048 .f32) (x4 : Vec Ideal S128x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k)) :
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v5 (F := Ideal) (m ((c : Thread nD τ).loc main_arg0)) (m ((c : Thread nD τ).loc main_arg1)) i := by
  unfold out0_A_5
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1]
  simp only [Fin.sum_univ_three, ← add_assoc (G := EReal)]

theorem outs5 (c : Dev nD) (t : Fin (cfgM m (ok m)).N) : (outsAt0 m (ok m) c t).1 =
    out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers5 : ((cfg0 placed).win 5).Covers := by decide +kernel

/-- The place in this result of an element of its block. -/
theorem place5 (t : Fin grid0.N) (y : S128x2048.Idx) : ∃ i : S256x2048.Idx, (((cfgM m (ok m)).win 5).blk t).view.emb y = i ∧ (i 0).val = t.val * 128 + (y 0).val ∧ (i 1).val = (y 1).val := by
  refine ⟨(((cfgM m (ok m)).win 5).blk t).view.emb y, rfl, ?_, ?_⟩
  · blk_simp [corner5 m t]
  · blk_simp [corner5 m t]

theorem result5 (c : Dev nD) : (dats m (ok m) 0 c).arrAt 5 (cfgM m (ok m)).N = val_main_v5 (F := Ideal) (m ((c : Thread nD τ).loc main_arg0)) (m ((c : Thread nD τ).loc main_arg1)) := by
  refine (dats m (ok m) 0 c).arrAt_eq_of_covers 5 _ covers5 fun t hf (y : S128x2048.Idx) => ?_
  obtain ⟨i, hi, h0, h1⟩ := place5 m t y
  blk_simp
  rw [hi, after0_5, outs5]
  exact block5 m c t y i (iblk m (ok m) c 0 t) (iblk m (ok m) c 1 t) (iblk m (ok m) c 2 t) (iblk m (ok m) c 3 t) (iblk m (ok m) c 4 t) (in0 m c t y i h0 h1) (in1 m c t y i h0 h1)

/-- The block of this result at a point, made from blocks that hold the arguments' elements. -/
theorem block6 (c : Dev nD) (t : Fin grid0.N) (y : S128x2048.Idx) (i : S256x2048.Idx) (x0 : Vec Ideal S1x128x2048 .bf16) (x1 : Vec Ideal S3x128x2048 .bf16) (x2 : Vec Ideal S128x2048 .f32) (x3 : Vec Ideal S128x2048 .f32) (x4 : Vec Ideal S128x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k))
    (b2 : (x2 y : EReal) = (m ((c : Thread nD τ).loc main_arg2)) i)
    (b3 : (x3 y : EReal) = (m ((c : Thread nD τ).loc main_arg3)) i)
    (b4 : (x4 y : EReal) = (m ((c : Thread nD τ).loc main_arg4)) i) :
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  unfold out0_A_6
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1, b2, b3, b4]
  simp only [Fin.sum_univ_three, ← add_assoc (G := EReal)]

theorem outs6 (c : Dev nD) (t : Fin (cfgM m (ok m)).N) : (outsAt0 m (ok m) c t).2.1 =
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers6 : ((cfg0 placed).win 6).Covers := by decide +kernel

/-- The place in this result of an element of its block. -/
theorem place6 (t : Fin grid0.N) (y : S128x2048.Idx) : ∃ i : S256x2048.Idx, (((cfgM m (ok m)).win 6).blk t).view.emb y = i ∧ (i 0).val = t.val * 128 + (y 0).val ∧ (i 1).val = (y 1).val := by
  refine ⟨(((cfgM m (ok m)).win 6).blk t).view.emb y, rfl, ?_, ?_⟩
  · blk_simp [corner6 m t]
  · blk_simp [corner6 m t]

theorem result6 (c : Dev nD) : (dats m (ok m) 0 c).arrAt 6 (cfgM m (ok m)).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t hf (y : S128x2048.Idx) => ?_
  obtain ⟨i, hi, h0, h1⟩ := place6 m t y
  blk_simp
  rw [hi, after0_6, outs6]
  exact block6 m c t y i (iblk m (ok m) c 0 t) (iblk m (ok m) c 1 t) (iblk m (ok m) c 2 t) (iblk m (ok m) c 3 t) (iblk m (ok m) c 4 t) (in0 m c t y i h0 h1) (in1 m c t y i h0 h1) (in2 m c t y i h0 h1) (in3 m c t y i h0 h1) (in4 m c t y i h0 h1)

/-- The block of this result at a point, made from blocks that hold the arguments' elements. -/
theorem block7 (c : Dev nD) (t : Fin grid0.N) (y : S128x2048.Idx) (i : S256x2048.Idx) (x0 : Vec Ideal S1x128x2048 .bf16) (x1 : Vec Ideal S3x128x2048 .bf16) (x2 : Vec Ideal S128x2048 .f32) (x3 : Vec Ideal S128x2048 .f32) (x4 : Vec Ideal S128x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k))
    (b3 : (x3 y : EReal) = (m ((c : Thread nD τ).loc main_arg3)) i) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v10 (F := Ideal) (m ((c : Thread nD τ).loc main_arg0)) (m ((c : Thread nD τ).loc main_arg1)) (m ((c : Thread nD τ).loc main_arg3)) i := by
  unfold out0_A_7
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1, b3]
  simp only [Fin.sum_univ_three, ← add_assoc (G := EReal)]

theorem outs7 (c : Dev nD) (t : Fin (cfgM m (ok m)).N) : (outsAt0 m (ok m) c t).2.2.1 =
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers7 : ((cfg0 placed).win 7).Covers := by decide +kernel

/-- The place in this result of an element of its block. -/
theorem place7 (t : Fin grid0.N) (y : S128x2048.Idx) : ∃ i : S256x2048.Idx, (((cfgM m (ok m)).win 7).blk t).view.emb y = i ∧ (i 0).val = t.val * 128 + (y 0).val ∧ (i 1).val = (y 1).val := by
  refine ⟨(((cfgM m (ok m)).win 7).blk t).view.emb y, rfl, ?_, ?_⟩
  · blk_simp [corner7 m t]
  · blk_simp [corner7 m t]

theorem result7 (c : Dev nD) : (dats m (ok m) 0 c).arrAt 7 (cfgM m (ok m)).N = val_main_v10 (F := Ideal) (m ((c : Thread nD τ).loc main_arg0)) (m ((c : Thread nD τ).loc main_arg1)) (m ((c : Thread nD τ).loc main_arg3)) := by
  refine (dats m (ok m) 0 c).arrAt_eq_of_covers 7 _ covers7 fun t hf (y : S128x2048.Idx) => ?_
  obtain ⟨i, hi, h0, h1⟩ := place7 m t y
  blk_simp
  rw [hi, after0_7, outs7]
  exact block7 m c t y i (iblk m (ok m) c 0 t) (iblk m (ok m) c 1 t) (iblk m (ok m) c 2 t) (iblk m (ok m) c 3 t) (iblk m (ok m) c 4 t) (in0 m c t y i h0 h1) (in1 m c t y i h0 h1) (in3 m c t y i h0 h1)

/-- The block of this result at a point, made from blocks that hold the arguments' elements. -/
theorem block8 (c : Dev nD) (t : Fin grid0.N) (y : S128x2048.Idx) (i : S256x2048.Idx) (x0 : Vec Ideal S1x128x2048 .bf16) (x1 : Vec Ideal S3x128x2048 .bf16) (x2 : Vec Ideal S128x2048 .f32) (x3 : Vec Ideal S128x2048 .f32) (x4 : Vec Ideal S128x2048 .f32)
    (b0 : (x0 (ix3 0 (y 0) (y 1)) : EReal) = (m ((c : Thread nD τ).loc main_arg0)) (idx_main_v0 (idx_main_v1 i)))
    (b1 : ∀ k : Fin 3, (x1 (ix3 k (y 0) (y 1)) : EReal) = (m ((c : Thread nD τ).loc main_arg1)) (idx_main_v4 i k))
    (b4 : (x4 y : EReal) = (m ((c : Thread nD τ).loc main_arg4)) i) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) x0 x1 x2 x3 x4 (tbl m 0) y = val_main_v16 (F := Ideal) (m ((c : Thread nD τ).loc main_arg0)) (m ((c : Thread nD τ).loc main_arg1)) (m ((c : Thread nD τ).loc main_arg4)) i := by
  unfold out0_A_8
  frame_out
  pointwise [k0_pay5, k0_pay4, k0_pay3, k0_pay2, k0_pay1, val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_cst_2_apply, val_main_v11_apply, val_main_v12_apply, val_main_v13_apply, val_main_cst_3_apply, val_main_v14_apply, val_main_v15_apply, val_main_v16_apply, val_main_cst_4_apply, val_main_v17_apply, val_main_v18_apply, val_main_cst_5_apply, val_main_v19_apply, val_main_v20_apply, val_main_v21_apply, val_main_cst_6_apply, val_main_v22_apply, val_main_v23_apply, val_main_v24_apply, val_main_cst_7_apply, val_main_v25_apply, val_main_v26_apply, val_main_v27_apply, val_main_cst_8_apply, val_main_v28_apply, val_main_v29_apply]
  simp only [Memref.IsWhole.read_unread, b0, b1, b4]
  simp only [Fin.sum_univ_three, ← add_assoc (G := EReal)]

theorem outs8 (c : Dev nD) (t : Fin (cfgM m (ok m)).N) : (outsAt0 m (ok m) c t).2.2.2 =
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0) := by
  unfold outsAt0
  dsimp only

theorem covers8 : ((cfg0 placed).win 8).Covers := by decide +kernel

/-- The place in this result of an element of its block. -/
theorem place8 (t : Fin grid0.N) (y : S128x2048.Idx) : ∃ i : S256x2048.Idx, (((cfgM m (ok m)).win 8).blk t).view.emb y = i ∧ (i 0).val = t.val * 128 + (y 0).val ∧ (i 1).val = (y 1).val := by
  refine ⟨(((cfgM m (ok m)).win 8).blk t).view.emb y, rfl, ?_, ?_⟩
  · blk_simp [corner8 m t]
  · blk_simp [corner8 m t]

theorem result8 (c : Dev nD) : (dats m (ok m) 0 c).arrAt 8 (cfgM m (ok m)).N = val_main_v16 (F := Ideal) (m ((c : Thread nD τ).loc main_arg0)) (m ((c : Thread nD τ).loc main_arg1)) (m ((c : Thread nD τ).loc main_arg4)) := by
  refine (dats m (ok m) 0 c).arrAt_eq_of_covers 8 _ covers8 fun t hf (y : S128x2048.Idx) => ?_
  obtain ⟨i, hi, h0, h1⟩ := place8 m t y
  blk_simp
  rw [hi, after0_8, outs8]
  exact block8 m c t y i (iblk m (ok m) c 0 t) (iblk m (ok m) c 1 t) (iblk m (ok m) c 2 t) (iblk m (ok m) c 3 t) (iblk m (ok m) c 4 t) (in0 m c t y i h0 h1) (in1 m c t y i h0 h1) (in4 m c t y i h0 h1)

theorem algebraic : Cert.algebraic_SumAdamwOutIdeal_SumAdamwOutReferenceIdeal := by
  intro m g m' g' _ hagree
  refine ⟨fun c => val_main_v5 (F := Ideal) (m ((c : Thread nD τ).loc main_arg0)) (m ((c : Thread nD τ).loc main_arg1)), fun c => val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v10 (F := Ideal) (m ((c : Thread nD τ).loc main_arg0)) (m ((c : Thread nD τ).loc main_arg1)) (m ((c : Thread nD τ).loc main_arg3)), fun c => val_main_v16 (F := Ideal) (m ((c : Thread nD τ).loc main_arg0)) (m ((c : Thread nD τ).loc main_arg1)) (m ((c : Thread nD τ).loc main_arg4)),
    (θ_run _ _ _).mono (fun r h c => ?_) (run_main m g (ok m)),
    (θ_run _ _ _).mono (fun r h c => ?_) (Cert.SumAdamwOutReferenceIdeal.Value.run m' g')⟩
  · have kept (w : Fin 9) (hw : ((cfgM m (ok m)).win w).isOut = false) := ((h c).1 w).trans (((dats m (ok m) 0 c).arrAt_in w hw _).trans (A_eq m (ok m) c w))
    exact ⟨((h c).1 5).trans (result5 m c), ((h c).1 6).trans (result6 m c), ((h c).1 7).trans (result7 m c), ((h c).1 8).trans (result8 m c),
      (kept 0 rfl).trans (V_main_arg0 m c), (kept 1 rfl).trans (V_main_arg1 m c), (kept 2 rfl).trans (V_main_arg2 m c), (kept 3 rfl).trans (V_main_arg3 m c), (kept 4 rfl).trans (V_main_arg4 m c)⟩
  · obtain ⟨h0, h1, h2, h3, h4⟩ := hagree c
    refine ⟨(h c).1.trans ?_, (h c).2.1.trans ?_, (h c).2.2.1.trans ?_, (h c).2.2.2.1.trans ?_, (h c).2.2.2.2⟩
    · rw [Cert.SumAdamwOutReferenceIdeal.Read.val_main_v5_eq, h0, h1]
    · rw [Cert.SumAdamwOutReferenceIdeal.Read.val_main_v29_eq, h0, h1, h2, h3, h4]
    · rw [Cert.SumAdamwOutReferenceIdeal.Read.val_main_v10_eq, h0, h1, h3]
    · rw [Cert.SumAdamwOutReferenceIdeal.Read.val_main_v16_eq, h0, h1, h4]

end Cert.Calls.SumAdamwOut
-- ==== Proof.SumAdamwMlpInValue.lean ====
module

public import proofs.«01_k».proof.Defs
public import proofs.«01_k».proof.Proof.Gen.SumAdamwMlpIn.Frame
public import proofs.«01_k».proof.Proof.Gen.SumAdamwMlpInIdeal.Frame
public import proofs.«01_k».proof.Proof.Gen.SumAdamwMlpInReferenceIdeal.Run
public import proofs.«01_k».proof.Proof.Gen.SumAdamwMlpInReferenceIdeal.Read
public import Idealize.ShloMosaic.Lib.Pipeline.ValueKit
public import Idealize.ShloMosaic.Lib.Pointwise

/-! The sum of the gradient of the MLP's first weight over the devices and its AdamW update. -/

@[expose] public section

noncomputable section

namespace Cert.Calls.SumAdamwMlpIn

open Idealize.ShloMosaic Idealize.ShloMosaic.TcCoe Idealize.SL.Sem

section Words

open Cert.SumAdamwMlpIn Cert.SumAdamwMlpIn.Gen

/-- The position of the device in the mesh, as the call is handed it. -/
def positionWords : pre0.Contents (Elt Bits) := fun | 0 => fun _ => (0#32 : BitVec 32)

theorem tableWords (m : (ℓ : Loc nD τ sig) → Buf (Elt Bits) ℓ) : tbl m = positionWords := funext fun | 0 => rfl

/-- The device's block of the sums is inside the array. -/
theorem okWords (m : (ℓ : Loc nD τ sig) → Buf (Elt Bits) ℓ) : Gen.Ok m :=
  show ok0 (tbl m) from tableWords m ▸ (by decide +kernel : ok0 (F := Bits) positionWords)

end Words

open Cert.SumAdamwMlpInIdeal Cert.SumAdamwMlpInIdeal.Gen
open Cert.SumAdamwMlpInReferenceIdeal.Read

/-- The position of the device in the mesh, as the call over the reals is handed it. -/
def position : pre0.Contents (Elt Ideal) := fun | 0 => fun _ => (0#32 : BitVec 32)

theorem ok_position : ok0 (F := Ideal) position := by decide +kernel

/-- The call's blocks at that position. -/
abbrev placed : (pcfg0 (F := Ideal)).Adm := ⟨position, ok_position⟩

variable (m : (ℓ : Loc nD τ sig) → Buf (Elt Ideal) ℓ)

theorem table : tbl m = position := funext fun | 0 => rfl

/-- The device's block of the sums is inside the array. -/
theorem ok : Gen.Ok m := show ok0 (tbl m) from table m ▸ ok_position

theorem placed_eq : adm m (ok m) = placed := Subtype.ext (table m)

/-! The blocks at a point. -/

theorem corner0 (t : Fin grid0.N) : ((cfgM m (ok m)).win 0).index t = (![0, 0, t.val] : Fin 3 → Nat) := by
  show ((cfg0 (adm m (ok m))).win 0).index t = _
  rw [placed_eq]
  exact (by decide +kernel : ∀ t : Fin grid0.N, (((cfg0 placed).win 0).index t : Fin 3 → Nat) = ![0, 0, t.val]) t

theorem corner1 (t : Fin grid0.N) : ((cfgM m (ok m)).win 1).index t = (![0, 0, t.val] : Fin 3 → Nat) :=
  (by decide +kernel : ∀ t : Fin grid0.N, (((cfg0 placed).win 1).index t : Fin 3 → Nat) = ![0, 0, t.val]) t

theorem corner2 (t : Fin grid0.N) : ((cfgM m (ok m)).win 2).index t = (![0, 0, t.val] : Fin 3 → Nat) :=
  (by decide +kernel : ∀ t : Fin grid0.N, (((cfg0 placed).win 2).index t : Fin 3 → Nat) = ![0, 0, t.val]) t

theorem corner3 (t : Fin grid0.N) : ((cfgM m (ok m)).win 3).index t = (![t.val, 0] : Fin 2 → Nat) :=
  (by decide +kernel : ∀ t : Fin grid0.N, (((cfg0 placed).win 3).index t : Fin 2 → Nat) = ![t.val, 0]) t

theorem corner4 (t : Fin grid0.N) : ((cfgM m (ok m)).win 4).index t = (![t.val, 0] : Fin 2 → Nat) :=
  (by decide +kernel : ∀ t : Fin grid0.N, (((cfg0 placed).win 4).index t : Fin 2 → Nat) = ![t.val, 0]) t

theorem corner5 (t : Fin grid0.N) : ((cfgM m (ok m)).win 5).index t = (![t.val, 0] : Fin 2 → Nat) :=
  (by decide +kernel : ∀ t : Fin grid0.N, (((cfg0 placed).win 5).index t : Fin 2 → Nat) = ![t.val, 0]) t

theorem corner6 (t : Fin grid0.N) : ((cfgM m (ok m)).win 6).index t = (![t.val, 0] : Fin 2 → Nat) :=
  (by decide +kernel : ∀ t : Fin grid0.N, (((cfg0 placed).win 6).index t : Fin 2 → Nat) = ![t.val, 0]) t

theorem corner7 (t : Fin grid0.N) : ((cfgM m (ok m)).win 7).index t = (![t.val, 0] : Fin 2 → Nat) :=
  (by decide +kernel : ∀ t : Fin grid0.N, (((cfg0 placed).win 7).index t : Fin 2 → Nat) = ![t.val, 0]) t

theorem corner8 (t : Fin grid0.N) : ((cfgM m (ok m)).win 8).index t = (![t.val, 0] : Fin 2 → Nat) :=
  (by decide +kernel : ∀ t : Fin grid0.N, (((cfg0 placed).win 8).index t : Fin 2 → Nat) = ![t.val, 0]) t

theorem corner9 (t : Fin grid0.N) : ((cfgM m (ok m)).win 9).index t = (![t.val, 0] : Fin 2 → Nat) :=
  (by decide +kernel : ∀ t : Fin grid0.N, (((cfg0 placed).win 9).index t : Fin 2 → Nat) = ![t.val, 0]) t

/-! The blocks of the arguments at a point, element by element: `y` is the place in the result's block and `i` in the result. -/

theorem in0 (c : Dev nD) (t : Fin grid0.N) (y : S128x1024.Idx) (i : S2048x1024.Idx) (h0 : (i 0).val = t.val * 128 + (y 0).val) (h1 : (i 1).val = (y 1).val) :
    (iblk m (ok m) c 0 t (ix3 0 (y 1) (y 0)) : EReal) = (m ((c : Thread nD τ).loc main_arg0)) (idx_main_v0 (idx_main_v1 (idx_main_v9 i))) := by
  have ht : t.val < grid0.N := t.isLt
  have e := corner0 m t
  blk_simp [iblk, V_main_arg0]
  refine congrArg (m ((c : Thread nD τ).loc main_arg0)) ?_
  blk_ext [e, h0, h1]

theorem in1 (c : Dev nD) (t : Fin grid0.N) (y : S128x1024.Idx) (i : S2048x1024.Idx) (h0 : (i 0).val = t.val * 128 + (y 0).val) (h1 : (i 1).val = (y 1).val) (k : Fin 2) :
    (iblk m (ok m) c 1 t (ix3 k (y 1) (y 0)) : EReal) = (m ((c : Thread nD τ).loc main_arg1)) (idx_main_v4 (idx_main_v9 i) k) := by
  have ht : t.val < grid0.N := t.isLt
  have e := corner1 m t
  blk_simp [iblk, V_main_arg1]
  refine congrArg (m ((c : Thread nD τ).loc main_arg1)) ?_
  blk_ext [e, h0, h1]

theorem in2 (c : Dev nD) (t : Fin grid0.N) (y : S128x1024.Idx) (i : S2048x1024.Idx) (h0 : (i 0).val = t.val * 128 + (y 0).val) (h1 : (i 1).val = (y 1).val) :
    (iblk m (ok m) c 2 t (ix3 0 (y 1) (y 0)) : EReal) = (m ((c : Thread nD τ).loc main_arg2)) (idx_main_v6 (idx_main_v9 i)) := by
  have ht : t.val < grid0.N := t.isLt
  have e := corner2 m t
  blk_simp [iblk, V_main_arg2]
  refine congrArg (m ((c : Thread nD τ).loc main_arg2)) ?_
  blk_ext [e, h0, h1]

theorem in3 (c : Dev nD) (t : Fin grid0.N) (y : S128x1024.Idx) (i : S2048x1024.Idx) (h0 : (i 0).val = t.val * 128 + (y 0).val) (h1 : (i 1).val = (y 1).val) :
    (iblk m (ok m) c 3 t y : EReal) = (m ((c : Thread nD τ).loc main_arg3)) i := by
  have ht : t.val < grid0.N := t.isLt
  have e := corner3 m t
  blk_simp [iblk, V_main_arg3]
  refine congrArg (m ((c : Thread nD τ).loc main_arg3)) ?_
  blk_ext [e, h0, h1]

theorem in4 (c : Dev nD) (t : Fin grid0.N) (y : S128x1024.Idx) (i : S2048x1024.Idx) (h0 : (i 0).val = t.val * 128 + (y 0).val) (h1 : (i 1).val = (y 1).val) :
    (iblk m (ok m) c 4 t y : EReal) = (m ((c : Thread nD τ).loc main_arg4)) i := by
  have ht : t.val < grid0.N := t.isLt
  have e := corner4 m t
  blk_simp [iblk, V_main_arg4]
  refine congrArg (m ((c : Thread nD τ).loc main_arg4)) ?_
  blk_ext [e, h0, h1]

theorem in5 (c : Dev nD) (t : Fin grid0.N) (y : S128x1024.Idx) (i : S2048x1024.Idx) (h0 : (i 0).val = t.val * 128 + (y 0).val) (h1 : (i 1).val = (y 1).val) :
    (iblk m (ok m) c 5 t y : EReal) = (m ((c : Thread nD τ).loc main_arg5)) i := by
  have ht : t.val < grid0.N := t.isLt
  have e := corner5 m t
  blk_simp [iblk, V_main_arg5]
  refine congrArg (m ((c : Thread nD τ).loc main_arg5)) ?_
  blk_ext [e, h0, h1]

/-- The block of this result at a point, made from blocks that hold the arguments' elements. -/
theorem block6 (c : Dev nD) (t : Fin grid0.N) (y : S128x1024.Idx) (i : S2048x1024.Idx) (x0 : Vec Ideal S1x1024x128 .bf16) (x1 : Vec Ideal S2x1024x128 .bf16) (x2 : Vec Ideal S1x1024x128 .bf16) (x3 : Vec Ideal S128x1024 .f32) (x4 : Vec Ideal S128x1024 .f32) (x5 : Vec Ideal S128x1024 .f32)
    (b0 : (x0 (ix3 0 (y 1) (y 0)) : EReal) = (m ((c : Thread nD τ).loc main_arg0)) (idx_main_v0 (idx_main_v1 (idx_main_v9 i))))
    (b1 : ∀ k : Fin 2, (x1 (ix3 k (y 1) (y 0)) : EReal) = (m ((c : Thread nD τ).loc main_arg1)) (idx_main_v4 (idx_main_v9 i) k))
    (b2 : (x2 (ix3 0 (y 1) (y 0)) : EReal) = (m ((c : Thread nD τ).loc main_arg2)) (idx_main_v6 (idx_main_v9 i))) :
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v9 (F := Ideal) (m ((c : Thread nD τ).loc main_arg0)) (m ((c : Thread nD τ).loc main_arg1)) (m ((c : Thread nD τ).loc main_arg2)) i := by
  unfold out0_A_6
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_v9_apply, val_main_cst_0_apply, val_main_v10_apply, val_main_v11_apply, val_main_cst_1_apply, val_main_v12_apply, val_main_v13_apply, val_main_v14_apply, val_main_cst_2_apply, val_main_v15_apply, val_main_v16_apply, val_main_v17_apply, val_main_cst_3_apply, val_main_v18_apply, val_main_v19_apply, val_main_v20_apply, val_main_cst_4_apply, val_main_v21_apply, val_main_v22_apply, val_main_cst_5_apply, val_main_v23_apply, val_main_v24_apply, val_main_v25_apply, val_main_cst_6_apply, val_main_v26_apply, val_main_v27_apply, val_main_v28_apply, val_main_cst_7_apply, val_main_v29_apply, val_main_v30_apply, val_main_v31_apply, val_main_cst_8_apply, val_main_v32_apply, val_main_v33_apply]
  simp only [Memref.IsWhole.read_unread, b0, b1, b2]
  simp only [Fin.sum_univ_two, ← add_assoc (G := EReal)]

theorem outs6 (c : Dev nD) (t : Fin (cfgM m (ok m)).N) : (outsAt0 m (ok m) c t).1 =
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers6 : ((cfg0 placed).win 6).Covers := by decide +kernel

/-- The place in this result of an element of its block. -/
theorem place6 (t : Fin grid0.N) (y : S128x1024.Idx) : ∃ i : S2048x1024.Idx, (((cfgM m (ok m)).win 6).blk t).view.emb y = i ∧ (i 0).val = t.val * 128 + (y 0).val ∧ (i 1).val = (y 1).val := by
  refine ⟨(((cfgM m (ok m)).win 6).blk t).view.emb y, rfl, ?_, ?_⟩
  · blk_simp [corner6 m t]
  · blk_simp [corner6 m t]

theorem result6 (c : Dev nD) : (dats m (ok m) 0 c).arrAt 6 (cfgM m (ok m)).N = val_main_v9 (F := Ideal) (m ((c : Thread nD τ).loc main_arg0)) (m ((c : Thread nD τ).loc main_arg1)) (m ((c : Thread nD τ).loc main_arg2)) := by
  refine (dats m (ok m) 0 c).arrAt_eq_of_covers 6 _ covers6 fun t hf (y : S128x1024.Idx) => ?_
  obtain ⟨i, hi, h0, h1⟩ := place6 m t y
  blk_simp
  rw [hi, after0_6, outs6]
  exact block6 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1)

/-- The block of this result at a point, made from blocks that hold the arguments' elements. -/
theorem block7 (c : Dev nD) (t : Fin grid0.N) (y : S128x1024.Idx) (i : S2048x1024.Idx) (x0 : Vec Ideal S1x1024x128 .bf16) (x1 : Vec Ideal S2x1024x128 .bf16) (x2 : Vec Ideal S1x1024x128 .bf16) (x3 : Vec Ideal S128x1024 .f32) (x4 : Vec Ideal S128x1024 .f32) (x5 : Vec Ideal S128x1024 .f32)
    (b0 : (x0 (ix3 0 (y 1) (y 0)) : EReal) = (m ((c : Thread nD τ).loc main_arg0)) (idx_main_v0 (idx_main_v1 (idx_main_v9 i))))
    (b1 : ∀ k : Fin 2, (x1 (ix3 k (y 1) (y 0)) : EReal) = (m ((c : Thread nD τ).loc main_arg1)) (idx_main_v4 (idx_main_v9 i) k))
    (b2 : (x2 (ix3 0 (y 1) (y 0)) : EReal) = (m ((c : Thread nD τ).loc main_arg2)) (idx_main_v6 (idx_main_v9 i)))
    (b3 : (x3 y : EReal) = (m ((c : Thread nD τ).loc main_arg3)) i)
    (b4 : (x4 y : EReal) = (m ((c : Thread nD τ).loc main_arg4)) i)
    (b5 : (x5 y : EReal) = (m ((c : Thread nD τ).loc main_arg5)) i) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold out0_A_7
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_v9_apply, val_main_cst_0_apply, val_main_v10_apply, val_main_v11_apply, val_main_cst_1_apply, val_main_v12_apply, val_main_v13_apply, val_main_v14_apply, val_main_cst_2_apply, val_main_v15_apply, val_main_v16_apply, val_main_v17_apply, val_main_cst_3_apply, val_main_v18_apply, val_main_v19_apply, val_main_v20_apply, val_main_cst_4_apply, val_main_v21_apply, val_main_v22_apply, val_main_cst_5_apply, val_main_v23_apply, val_main_v24_apply, val_main_v25_apply, val_main_cst_6_apply, val_main_v26_apply, val_main_v27_apply, val_main_v28_apply, val_main_cst_7_apply, val_main_v29_apply, val_main_v30_apply, val_main_v31_apply, val_main_cst_8_apply, val_main_v32_apply, val_main_v33_apply]
  simp only [Memref.IsWhole.read_unread, b0, b1, b2, b3, b4, b5]
  simp only [Fin.sum_univ_two, ← add_assoc (G := EReal)]

theorem outs7 (c : Dev nD) (t : Fin (cfgM m (ok m)).N) : (outsAt0 m (ok m) c t).2.1 =
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers7 : ((cfg0 placed).win 7).Covers := by decide +kernel

/-- The place in this result of an element of its block. -/
theorem place7 (t : Fin grid0.N) (y : S128x1024.Idx) : ∃ i : S2048x1024.Idx, (((cfgM m (ok m)).win 7).blk t).view.emb y = i ∧ (i 0).val = t.val * 128 + (y 0).val ∧ (i 1).val = (y 1).val := by
  refine ⟨(((cfgM m (ok m)).win 7).blk t).view.emb y, rfl, ?_, ?_⟩
  · blk_simp [corner7 m t]
  · blk_simp [corner7 m t]

theorem result7 (c : Dev nD) : (dats m (ok m) 0 c).arrAt 7 (cfgM m (ok m)).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 7 _ covers7 fun t hf (y : S128x1024.Idx) => ?_
  obtain ⟨i, hi, h0, h1⟩ := place7 m t y
  blk_simp
  rw [hi, after0_7, outs7]
  exact block7 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1) (in3 m c t y i h0 h1) (in4 m c t y i h0 h1) (in5 m c t y i h0 h1)

/-- The block of this result at a point, made from blocks that hold the arguments' elements. -/
theorem block8 (c : Dev nD) (t : Fin grid0.N) (y : S128x1024.Idx) (i : S2048x1024.Idx) (x0 : Vec Ideal S1x1024x128 .bf16) (x1 : Vec Ideal S2x1024x128 .bf16) (x2 : Vec Ideal S1x1024x128 .bf16) (x3 : Vec Ideal S128x1024 .f32) (x4 : Vec Ideal S128x1024 .f32) (x5 : Vec Ideal S128x1024 .f32)
    (b0 : (x0 (ix3 0 (y 1) (y 0)) : EReal) = (m ((c : Thread nD τ).loc main_arg0)) (idx_main_v0 (idx_main_v1 (idx_main_v9 i))))
    (b1 : ∀ k : Fin 2, (x1 (ix3 k (y 1) (y 0)) : EReal) = (m ((c : Thread nD τ).loc main_arg1)) (idx_main_v4 (idx_main_v9 i) k))
    (b2 : (x2 (ix3 0 (y 1) (y 0)) : EReal) = (m ((c : Thread nD τ).loc main_arg2)) (idx_main_v6 (idx_main_v9 i)))
    (b4 : (x4 y : EReal) = (m ((c : Thread nD τ).loc main_arg4)) i) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v14 (F := Ideal) (m ((c : Thread nD τ).loc main_arg0)) (m ((c : Thread nD τ).loc main_arg1)) (m ((c : Thread nD τ).loc main_arg2)) (m ((c : Thread nD τ).loc main_arg4)) i := by
  unfold out0_A_8
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_v9_apply, val_main_cst_0_apply, val_main_v10_apply, val_main_v11_apply, val_main_cst_1_apply, val_main_v12_apply, val_main_v13_apply, val_main_v14_apply, val_main_cst_2_apply, val_main_v15_apply, val_main_v16_apply, val_main_v17_apply, val_main_cst_3_apply, val_main_v18_apply, val_main_v19_apply, val_main_v20_apply, val_main_cst_4_apply, val_main_v21_apply, val_main_v22_apply, val_main_cst_5_apply, val_main_v23_apply, val_main_v24_apply, val_main_v25_apply, val_main_cst_6_apply, val_main_v26_apply, val_main_v27_apply, val_main_v28_apply, val_main_cst_7_apply, val_main_v29_apply, val_main_v30_apply, val_main_v31_apply, val_main_cst_8_apply, val_main_v32_apply, val_main_v33_apply]
  simp only [Memref.IsWhole.read_unread, b0, b1, b2, b4]
  simp only [Fin.sum_univ_two, ← add_assoc (G := EReal)]

theorem outs8 (c : Dev nD) (t : Fin (cfgM m (ok m)).N) : (outsAt0 m (ok m) c t).2.2.1 =
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers8 : ((cfg0 placed).win 8).Covers := by decide +kernel

/-- The place in this result of an element of its block. -/
theorem place8 (t : Fin grid0.N) (y : S128x1024.Idx) : ∃ i : S2048x1024.Idx, (((cfgM m (ok m)).win 8).blk t).view.emb y = i ∧ (i 0).val = t.val * 128 + (y 0).val ∧ (i 1).val = (y 1).val := by
  refine ⟨(((cfgM m (ok m)).win 8).blk t).view.emb y, rfl, ?_, ?_⟩
  · blk_simp [corner8 m t]
  · blk_simp [corner8 m t]

theorem result8 (c : Dev nD) : (dats m (ok m) 0 c).arrAt 8 (cfgM m (ok m)).N = val_main_v14 (F := Ideal) (m ((c : Thread nD τ).loc main_arg0)) (m ((c : Thread nD τ).loc main_arg1)) (m ((c : Thread nD τ).loc main_arg2)) (m ((c : Thread nD τ).loc main_arg4)) := by
  refine (dats m (ok m) 0 c).arrAt_eq_of_covers 8 _ covers8 fun t hf (y : S128x1024.Idx) => ?_
  obtain ⟨i, hi, h0, h1⟩ := place8 m t y
  blk_simp
  rw [hi, after0_8, outs8]
  exact block8 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1) (in4 m c t y i h0 h1)

/-- The block of this result at a point, made from blocks that hold the arguments' elements. -/
theorem block9 (c : Dev nD) (t : Fin grid0.N) (y : S128x1024.Idx) (i : S2048x1024.Idx) (x0 : Vec Ideal S1x1024x128 .bf16) (x1 : Vec Ideal S2x1024x128 .bf16) (x2 : Vec Ideal S1x1024x128 .bf16) (x3 : Vec Ideal S128x1024 .f32) (x4 : Vec Ideal S128x1024 .f32) (x5 : Vec Ideal S128x1024 .f32)
    (b0 : (x0 (ix3 0 (y 1) (y 0)) : EReal) = (m ((c : Thread nD τ).loc main_arg0)) (idx_main_v0 (idx_main_v1 (idx_main_v9 i))))
    (b1 : ∀ k : Fin 2, (x1 (ix3 k (y 1) (y 0)) : EReal) = (m ((c : Thread nD τ).loc main_arg1)) (idx_main_v4 (idx_main_v9 i) k))
    (b2 : (x2 (ix3 0 (y 1) (y 0)) : EReal) = (m ((c : Thread nD τ).loc main_arg2)) (idx_main_v6 (idx_main_v9 i)))
    (b5 : (x5 y : EReal) = (m ((c : Thread nD τ).loc main_arg5)) i) :
    out0_A_9 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v20 (F := Ideal) (m ((c : Thread nD τ).loc main_arg0)) (m ((c : Thread nD τ).loc main_arg1)) (m ((c : Thread nD τ).loc main_arg2)) (m ((c : Thread nD τ).loc main_arg5)) i := by
  unfold out0_A_9
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_v9_apply, val_main_cst_0_apply, val_main_v10_apply, val_main_v11_apply, val_main_cst_1_apply, val_main_v12_apply, val_main_v13_apply, val_main_v14_apply, val_main_cst_2_apply, val_main_v15_apply, val_main_v16_apply, val_main_v17_apply, val_main_cst_3_apply, val_main_v18_apply, val_main_v19_apply, val_main_v20_apply, val_main_cst_4_apply, val_main_v21_apply, val_main_v22_apply, val_main_cst_5_apply, val_main_v23_apply, val_main_v24_apply, val_main_v25_apply, val_main_cst_6_apply, val_main_v26_apply, val_main_v27_apply, val_main_v28_apply, val_main_cst_7_apply, val_main_v29_apply, val_main_v30_apply, val_main_v31_apply, val_main_cst_8_apply, val_main_v32_apply, val_main_v33_apply]
  simp only [Memref.IsWhole.read_unread, b0, b1, b2, b5]
  simp only [Fin.sum_univ_two, ← add_assoc (G := EReal)]

theorem outs9 (c : Dev nD) (t : Fin (cfgM m (ok m)).N) : (outsAt0 m (ok m) c t).2.2.2 =
    out0_A_9 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers9 : ((cfg0 placed).win 9).Covers := by decide +kernel

/-- The place in this result of an element of its block. -/
theorem place9 (t : Fin grid0.N) (y : S128x1024.Idx) : ∃ i : S2048x1024.Idx, (((cfgM m (ok m)).win 9).blk t).view.emb y = i ∧ (i 0).val = t.val * 128 + (y 0).val ∧ (i 1).val = (y 1).val := by
  refine ⟨(((cfgM m (ok m)).win 9).blk t).view.emb y, rfl, ?_, ?_⟩
  · blk_simp [corner9 m t]
  · blk_simp [corner9 m t]

theorem result9 (c : Dev nD) : (dats m (ok m) 0 c).arrAt 9 (cfgM m (ok m)).N = val_main_v20 (F := Ideal) (m ((c : Thread nD τ).loc main_arg0)) (m ((c : Thread nD τ).loc main_arg1)) (m ((c : Thread nD τ).loc main_arg2)) (m ((c : Thread nD τ).loc main_arg5)) := by
  refine (dats m (ok m) 0 c).arrAt_eq_of_covers 9 _ covers9 fun t hf (y : S128x1024.Idx) => ?_
  obtain ⟨i, hi, h0, h1⟩ := place9 m t y
  blk_simp
  rw [hi, after0_9, outs9]
  exact block9 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1) (in5 m c t y i h0 h1)

theorem algebraic : Cert.algebraic_SumAdamwMlpInIdeal_SumAdamwMlpInReferenceIdeal := by
  intro m g m' g' _ hagree
  refine ⟨fun c => val_main_v9 (F := Ideal) (m ((c : Thread nD τ).loc main_arg0)) (m ((c : Thread nD τ).loc main_arg1)) (m ((c : Thread nD τ).loc main_arg2)), fun c => val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => val_main_v14 (F := Ideal) (m ((c : Thread nD τ).loc main_arg0)) (m ((c : Thread nD τ).loc main_arg1)) (m ((c : Thread nD τ).loc main_arg2)) (m ((c : Thread nD τ).loc main_arg4)), fun c => val_main_v20 (F := Ideal) (m ((c : Thread nD τ).loc main_arg0)) (m ((c : Thread nD τ).loc main_arg1)) (m ((c : Thread nD τ).loc main_arg2)) (m ((c : Thread nD τ).loc main_arg5)),
    (θ_run _ _ _).mono (fun r h c => ?_) (run_main m g (ok m)),
    (θ_run _ _ _).mono (fun r h c => ?_) (Cert.SumAdamwMlpInReferenceIdeal.Value.run m' g')⟩
  · have kept (w : Fin 10) (hw : ((cfgM m (ok m)).win w).isOut = false) := ((h c).1 w).trans (((dats m (ok m) 0 c).arrAt_in w hw _).trans (A_eq m (ok m) c w))
    exact ⟨((h c).1 6).trans (result6 m c), ((h c).1 7).trans (result7 m c), ((h c).1 8).trans (result8 m c), ((h c).1 9).trans (result9 m c),
      (kept 0 rfl).trans (V_main_arg0 m c), (kept 1 rfl).trans (V_main_arg1 m c), (kept 2 rfl).trans (V_main_arg2 m c), (kept 3 rfl).trans (V_main_arg3 m c), (kept 4 rfl).trans (V_main_arg4 m c), (kept 5 rfl).trans (V_main_arg5 m c)⟩
  · obtain ⟨h0, h1, h2, h3, h4, h5⟩ := hagree c
    refine ⟨(h c).1.trans ?_, (h c).2.1.trans ?_, (h c).2.2.1.trans ?_, (h c).2.2.2.1.trans ?_, (h c).2.2.2.2⟩
    · rw [Cert.SumAdamwMlpInReferenceIdeal.Read.val_main_v9_eq, h0, h1, h2]
    · rw [Cert.SumAdamwMlpInReferenceIdeal.Read.val_main_v33_eq, h0, h1, h2, h3, h4, h5]
    · rw [Cert.SumAdamwMlpInReferenceIdeal.Read.val_main_v14_eq, h0, h1, h2, h4]
    · rw [Cert.SumAdamwMlpInReferenceIdeal.Read.val_main_v20_eq, h0, h1, h2, h5]

end Cert.Calls.SumAdamwMlpIn
-- ==== Proof.SumAdamwMlpOutValue.lean ====
module

public import proofs.«01_k».proof.Defs
public import proofs.«01_k».proof.Proof.Gen.SumAdamwMlpOut.Frame
public import proofs.«01_k».proof.Proof.Gen.SumAdamwMlpOutIdeal.Frame
public import proofs.«01_k».proof.Proof.Gen.SumAdamwMlpOutReferenceIdeal.Run
public import proofs.«01_k».proof.Proof.Gen.SumAdamwMlpOutReferenceIdeal.Read
public import Idealize.ShloMosaic.Lib.Pipeline.ValueKit
public import Idealize.ShloMosaic.Lib.Pointwise

/-! The sum of the gradient of the MLP's second weight over the devices and its AdamW update. -/

@[expose] public section

noncomputable section

namespace Cert.Calls.SumAdamwMlpOut

open Idealize.ShloMosaic Idealize.ShloMosaic.TcCoe Idealize.SL.Sem

section Words

open Cert.SumAdamwMlpOut Cert.SumAdamwMlpOut.Gen

/-- The position of the device in the mesh, as the call is handed it. -/
def positionWords : pre0.Contents (Elt Bits) := fun | 0 => fun _ => (0#32 : BitVec 32)

theorem tableWords (m : (ℓ : Loc nD τ sig) → Buf (Elt Bits) ℓ) : tbl m = positionWords := funext fun | 0 => rfl

/-- The device's block of the sums is inside the array. -/
theorem okWords (m : (ℓ : Loc nD τ sig) → Buf (Elt Bits) ℓ) : Gen.Ok m :=
  show ok0 (tbl m) from tableWords m ▸ (by decide +kernel : ok0 (F := Bits) positionWords)

end Words

open Cert.SumAdamwMlpOutIdeal Cert.SumAdamwMlpOutIdeal.Gen
open Cert.SumAdamwMlpOutReferenceIdeal.Read

/-- The position of the device in the mesh, as the call over the reals is handed it. -/
def position : pre0.Contents (Elt Ideal) := fun | 0 => fun _ => (0#32 : BitVec 32)

theorem ok_position : ok0 (F := Ideal) position := by decide +kernel

/-- The call's blocks at that position. -/
abbrev placed : (pcfg0 (F := Ideal)).Adm := ⟨position, ok_position⟩

variable (m : (ℓ : Loc nD τ sig) → Buf (Elt Ideal) ℓ)

theorem table : tbl m = position := funext fun | 0 => rfl

/-- The device's block of the sums is inside the array. -/
theorem ok : Gen.Ok m := show ok0 (tbl m) from table m ▸ ok_position

theorem placed_eq : adm m (ok m) = placed := Subtype.ext (table m)

/-! The blocks at a point. -/

theorem corner0 (t : Fin grid0.N) : ((cfgM m (ok m)).win 0).index t = (![0, t.val, 0] : Fin 3 → Nat) := by
  show ((cfg0 (adm m (ok m))).win 0).index t = _
  rw [placed_eq]
  exact (by decide +kernel : ∀ t : Fin grid0.N, (((cfg0 placed).win 0).index t : Fin 3 → Nat) = ![0, t.val, 0]) t

theorem corner1 (t : Fin grid0.N) : ((cfgM m (ok m)).win 1).index t = (![0, t.val, 0] : Fin 3 → Nat) :=
  (by decide +kernel : ∀ t : Fin grid0.N, (((cfg0 placed).win 1).index t : Fin 3 → Nat) = ![0, t.val, 0]) t

theorem corner2 (t : Fin grid0.N) : ((cfgM m (ok m)).win 2).index t = (![0, t.val, 0] : Fin 3 → Nat) :=
  (by decide +kernel : ∀ t : Fin grid0.N, (((cfg0 placed).win 2).index t : Fin 3 → Nat) = ![0, t.val, 0]) t

theorem corner3 (t : Fin grid0.N) : ((cfgM m (ok m)).win 3).index t = (![t.val, 0] : Fin 2 → Nat) :=
  (by decide +kernel : ∀ t : Fin grid0.N, (((cfg0 placed).win 3).index t : Fin 2 → Nat) = ![t.val, 0]) t

theorem corner4 (t : Fin grid0.N) : ((cfgM m (ok m)).win 4).index t = (![t.val, 0] : Fin 2 → Nat) :=
  (by decide +kernel : ∀ t : Fin grid0.N, (((cfg0 placed).win 4).index t : Fin 2 → Nat) = ![t.val, 0]) t

theorem corner5 (t : Fin grid0.N) : ((cfgM m (ok m)).win 5).index t = (![t.val, 0] : Fin 2 → Nat) :=
  (by decide +kernel : ∀ t : Fin grid0.N, (((cfg0 placed).win 5).index t : Fin 2 → Nat) = ![t.val, 0]) t

theorem corner6 (t : Fin grid0.N) : ((cfgM m (ok m)).win 6).index t = (![t.val, 0] : Fin 2 → Nat) :=
  (by decide +kernel : ∀ t : Fin grid0.N, (((cfg0 placed).win 6).index t : Fin 2 → Nat) = ![t.val, 0]) t

theorem corner7 (t : Fin grid0.N) : ((cfgM m (ok m)).win 7).index t = (![t.val, 0] : Fin 2 → Nat) :=
  (by decide +kernel : ∀ t : Fin grid0.N, (((cfg0 placed).win 7).index t : Fin 2 → Nat) = ![t.val, 0]) t

theorem corner8 (t : Fin grid0.N) : ((cfgM m (ok m)).win 8).index t = (![t.val, 0] : Fin 2 → Nat) :=
  (by decide +kernel : ∀ t : Fin grid0.N, (((cfg0 placed).win 8).index t : Fin 2 → Nat) = ![t.val, 0]) t

theorem corner9 (t : Fin grid0.N) : ((cfgM m (ok m)).win 9).index t = (![t.val, 0] : Fin 2 → Nat) :=
  (by decide +kernel : ∀ t : Fin grid0.N, (((cfg0 placed).win 9).index t : Fin 2 → Nat) = ![t.val, 0]) t

/-! The blocks of the arguments at a point, element by element: `y` is the place in the result's block and `i` in the result. -/

theorem in0 (c : Dev nD) (t : Fin grid0.N) (y : S128x2048.Idx) (i : S1024x2048.Idx) (h0 : (i 0).val = t.val * 128 + (y 0).val) (h1 : (i 1).val = (y 1).val) :
    (iblk m (ok m) c 0 t (ix3 0 (y 0) (y 1)) : EReal) = (m ((c : Thread nD τ).loc main_arg0)) (idx_main_v0 (idx_main_v1 i)) := by
  have ht : t.val < grid0.N := t.isLt
  have e := corner0 m t
  blk_simp [iblk, V_main_arg0]
  refine congrArg (m ((c : Thread nD τ).loc main_arg0)) ?_
  blk_ext [e, h0, h1]

theorem in1 (c : Dev nD) (t : Fin grid0.N) (y : S128x2048.Idx) (i : S1024x2048.Idx) (h0 : (i 0).val = t.val * 128 + (y 0).val) (h1 : (i 1).val = (y 1).val) (k : Fin 2) :
    (iblk m (ok m) c 1 t (ix3 k (y 0) (y 1)) : EReal) = (m ((c : Thread nD τ).loc main_arg1)) (idx_main_v4 i k) := by
  have ht : t.val < grid0.N := t.isLt
  have e := corner1 m t
  blk_simp [iblk, V_main_arg1]
  refine congrArg (m ((c : Thread nD τ).loc main_arg1)) ?_
  blk_ext [e, h0, h1]

theorem in2 (c : Dev nD) (t : Fin grid0.N) (y : S128x2048.Idx) (i : S1024x2048.Idx) (h0 : (i 0).val = t.val * 128 + (y 0).val) (h1 : (i 1).val = (y 1).val) :
    (iblk m (ok m) c 2 t (ix3 0 (y 0) (y 1)) : EReal) = (m ((c : Thread nD τ).loc main_arg2)) (idx_main_v6 i) := by
  have ht : t.val < grid0.N := t.isLt
  have e := corner2 m t
  blk_simp [iblk, V_main_arg2]
  refine congrArg (m ((c : Thread nD τ).loc main_arg2)) ?_
  blk_ext [e, h0, h1]

theorem in3 (c : Dev nD) (t : Fin grid0.N) (y : S128x2048.Idx) (i : S1024x2048.Idx) (h0 : (i 0).val = t.val * 128 + (y 0).val) (h1 : (i 1).val = (y 1).val) :
    (iblk m (ok m) c 3 t y : EReal) = (m ((c : Thread nD τ).loc main_arg3)) i := by
  have ht : t.val < grid0.N := t.isLt
  have e := corner3 m t
  blk_simp [iblk, V_main_arg3]
  refine congrArg (m ((c : Thread nD τ).loc main_arg3)) ?_
  blk_ext [e, h0, h1]

theorem in4 (c : Dev nD) (t : Fin grid0.N) (y : S128x2048.Idx) (i : S1024x2048.Idx) (h0 : (i 0).val = t.val * 128 + (y 0).val) (h1 : (i 1).val = (y 1).val) :
    (iblk m (ok m) c 4 t y : EReal) = (m ((c : Thread nD τ).loc main_arg4)) i := by
  have ht : t.val < grid0.N := t.isLt
  have e := corner4 m t
  blk_simp [iblk, V_main_arg4]
  refine congrArg (m ((c : Thread nD τ).loc main_arg4)) ?_
  blk_ext [e, h0, h1]

theorem in5 (c : Dev nD) (t : Fin grid0.N) (y : S128x2048.Idx) (i : S1024x2048.Idx) (h0 : (i 0).val = t.val * 128 + (y 0).val) (h1 : (i 1).val = (y 1).val) :
    (iblk m (ok m) c 5 t y : EReal) = (m ((c : Thread nD τ).loc main_arg5)) i := by
  have ht : t.val < grid0.N := t.isLt
  have e := corner5 m t
  blk_simp [iblk, V_main_arg5]
  refine congrArg (m ((c : Thread nD τ).loc main_arg5)) ?_
  blk_ext [e, h0, h1]

/-- The block of this result at a point, made from blocks that hold the arguments' elements. -/
theorem block6 (c : Dev nD) (t : Fin grid0.N) (y : S128x2048.Idx) (i : S1024x2048.Idx) (x0 : Vec Ideal S1x128x2048 .bf16) (x1 : Vec Ideal S2x128x2048 .bf16) (x2 : Vec Ideal S1x128x2048 .bf16) (x3 : Vec Ideal S128x2048 .f32) (x4 : Vec Ideal S128x2048 .f32) (x5 : Vec Ideal S128x2048 .f32)
    (b0 : (x0 (ix3 0 (y 0) (y 1)) : EReal) = (m ((c : Thread nD τ).loc main_arg0)) (idx_main_v0 (idx_main_v1 i)))
    (b1 : ∀ k : Fin 2, (x1 (ix3 k (y 0) (y 1)) : EReal) = (m ((c : Thread nD τ).loc main_arg1)) (idx_main_v4 i k))
    (b2 : (x2 (ix3 0 (y 0) (y 1)) : EReal) = (m ((c : Thread nD τ).loc main_arg2)) (idx_main_v6 i)) :
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v8 (F := Ideal) (m ((c : Thread nD τ).loc main_arg0)) (m ((c : Thread nD τ).loc main_arg1)) (m ((c : Thread nD τ).loc main_arg2)) i := by
  unfold out0_A_6
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_cst_0_apply, val_main_v9_apply, val_main_v10_apply, val_main_cst_1_apply, val_main_v11_apply, val_main_v12_apply, val_main_v13_apply, val_main_cst_2_apply, val_main_v14_apply, val_main_v15_apply, val_main_v16_apply, val_main_cst_3_apply, val_main_v17_apply, val_main_v18_apply, val_main_v19_apply, val_main_cst_4_apply, val_main_v20_apply, val_main_v21_apply, val_main_cst_5_apply, val_main_v22_apply, val_main_v23_apply, val_main_v24_apply, val_main_cst_6_apply, val_main_v25_apply, val_main_v26_apply, val_main_v27_apply, val_main_cst_7_apply, val_main_v28_apply, val_main_v29_apply, val_main_v30_apply, val_main_cst_8_apply, val_main_v31_apply, val_main_v32_apply]
  simp only [Memref.IsWhole.read_unread, b0, b1, b2]
  simp only [Fin.sum_univ_two, ← add_assoc (G := EReal)]

theorem outs6 (c : Dev nD) (t : Fin (cfgM m (ok m)).N) : (outsAt0 m (ok m) c t).1 =
    out0_A_6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers6 : ((cfg0 placed).win 6).Covers := by decide +kernel

/-- The place in this result of an element of its block. -/
theorem place6 (t : Fin grid0.N) (y : S128x2048.Idx) : ∃ i : S1024x2048.Idx, (((cfgM m (ok m)).win 6).blk t).view.emb y = i ∧ (i 0).val = t.val * 128 + (y 0).val ∧ (i 1).val = (y 1).val := by
  refine ⟨(((cfgM m (ok m)).win 6).blk t).view.emb y, rfl, ?_, ?_⟩
  · blk_simp [corner6 m t]
  · blk_simp [corner6 m t]

theorem result6 (c : Dev nD) : (dats m (ok m) 0 c).arrAt 6 (cfgM m (ok m)).N = val_main_v8 (F := Ideal) (m ((c : Thread nD τ).loc main_arg0)) (m ((c : Thread nD τ).loc main_arg1)) (m ((c : Thread nD τ).loc main_arg2)) := by
  refine (dats m (ok m) 0 c).arrAt_eq_of_covers 6 _ covers6 fun t hf (y : S128x2048.Idx) => ?_
  obtain ⟨i, hi, h0, h1⟩ := place6 m t y
  blk_simp
  rw [hi, after0_6, outs6]
  exact block6 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1)

/-- The block of this result at a point, made from blocks that hold the arguments' elements. -/
theorem block7 (c : Dev nD) (t : Fin grid0.N) (y : S128x2048.Idx) (i : S1024x2048.Idx) (x0 : Vec Ideal S1x128x2048 .bf16) (x1 : Vec Ideal S2x128x2048 .bf16) (x2 : Vec Ideal S1x128x2048 .bf16) (x3 : Vec Ideal S128x2048 .f32) (x4 : Vec Ideal S128x2048 .f32) (x5 : Vec Ideal S128x2048 .f32)
    (b0 : (x0 (ix3 0 (y 0) (y 1)) : EReal) = (m ((c : Thread nD τ).loc main_arg0)) (idx_main_v0 (idx_main_v1 i)))
    (b1 : ∀ k : Fin 2, (x1 (ix3 k (y 0) (y 1)) : EReal) = (m ((c : Thread nD τ).loc main_arg1)) (idx_main_v4 i k))
    (b2 : (x2 (ix3 0 (y 0) (y 1)) : EReal) = (m ((c : Thread nD τ).loc main_arg2)) (idx_main_v6 i))
    (b3 : (x3 y : EReal) = (m ((c : Thread nD τ).loc main_arg3)) i)
    (b4 : (x4 y : EReal) = (m ((c : Thread nD τ).loc main_arg4)) i)
    (b5 : (x5 y : EReal) = (m ((c : Thread nD τ).loc main_arg5)) i) :
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold out0_A_7
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_cst_0_apply, val_main_v9_apply, val_main_v10_apply, val_main_cst_1_apply, val_main_v11_apply, val_main_v12_apply, val_main_v13_apply, val_main_cst_2_apply, val_main_v14_apply, val_main_v15_apply, val_main_v16_apply, val_main_cst_3_apply, val_main_v17_apply, val_main_v18_apply, val_main_v19_apply, val_main_cst_4_apply, val_main_v20_apply, val_main_v21_apply, val_main_cst_5_apply, val_main_v22_apply, val_main_v23_apply, val_main_v24_apply, val_main_cst_6_apply, val_main_v25_apply, val_main_v26_apply, val_main_v27_apply, val_main_cst_7_apply, val_main_v28_apply, val_main_v29_apply, val_main_v30_apply, val_main_cst_8_apply, val_main_v31_apply, val_main_v32_apply]
  simp only [Memref.IsWhole.read_unread, b0, b1, b2, b3, b4, b5]
  simp only [Fin.sum_univ_two, ← add_assoc (G := EReal)]

theorem outs7 (c : Dev nD) (t : Fin (cfgM m (ok m)).N) : (outsAt0 m (ok m) c t).2.1 =
    out0_A_7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers7 : ((cfg0 placed).win 7).Covers := by decide +kernel

/-- The place in this result of an element of its block. -/
theorem place7 (t : Fin grid0.N) (y : S128x2048.Idx) : ∃ i : S1024x2048.Idx, (((cfgM m (ok m)).win 7).blk t).view.emb y = i ∧ (i 0).val = t.val * 128 + (y 0).val ∧ (i 1).val = (y 1).val := by
  refine ⟨(((cfgM m (ok m)).win 7).blk t).view.emb y, rfl, ?_, ?_⟩
  · blk_simp [corner7 m t]
  · blk_simp [corner7 m t]

theorem result7 (c : Dev nD) : (dats m (ok m) 0 c).arrAt 7 (cfgM m (ok m)).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 7 _ covers7 fun t hf (y : S128x2048.Idx) => ?_
  obtain ⟨i, hi, h0, h1⟩ := place7 m t y
  blk_simp
  rw [hi, after0_7, outs7]
  exact block7 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1) (in3 m c t y i h0 h1) (in4 m c t y i h0 h1) (in5 m c t y i h0 h1)

/-- The block of this result at a point, made from blocks that hold the arguments' elements. -/
theorem block8 (c : Dev nD) (t : Fin grid0.N) (y : S128x2048.Idx) (i : S1024x2048.Idx) (x0 : Vec Ideal S1x128x2048 .bf16) (x1 : Vec Ideal S2x128x2048 .bf16) (x2 : Vec Ideal S1x128x2048 .bf16) (x3 : Vec Ideal S128x2048 .f32) (x4 : Vec Ideal S128x2048 .f32) (x5 : Vec Ideal S128x2048 .f32)
    (b0 : (x0 (ix3 0 (y 0) (y 1)) : EReal) = (m ((c : Thread nD τ).loc main_arg0)) (idx_main_v0 (idx_main_v1 i)))
    (b1 : ∀ k : Fin 2, (x1 (ix3 k (y 0) (y 1)) : EReal) = (m ((c : Thread nD τ).loc main_arg1)) (idx_main_v4 i k))
    (b2 : (x2 (ix3 0 (y 0) (y 1)) : EReal) = (m ((c : Thread nD τ).loc main_arg2)) (idx_main_v6 i))
    (b4 : (x4 y : EReal) = (m ((c : Thread nD τ).loc main_arg4)) i) :
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v13 (F := Ideal) (m ((c : Thread nD τ).loc main_arg0)) (m ((c : Thread nD τ).loc main_arg1)) (m ((c : Thread nD τ).loc main_arg2)) (m ((c : Thread nD τ).loc main_arg4)) i := by
  unfold out0_A_8
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_cst_0_apply, val_main_v9_apply, val_main_v10_apply, val_main_cst_1_apply, val_main_v11_apply, val_main_v12_apply, val_main_v13_apply, val_main_cst_2_apply, val_main_v14_apply, val_main_v15_apply, val_main_v16_apply, val_main_cst_3_apply, val_main_v17_apply, val_main_v18_apply, val_main_v19_apply, val_main_cst_4_apply, val_main_v20_apply, val_main_v21_apply, val_main_cst_5_apply, val_main_v22_apply, val_main_v23_apply, val_main_v24_apply, val_main_cst_6_apply, val_main_v25_apply, val_main_v26_apply, val_main_v27_apply, val_main_cst_7_apply, val_main_v28_apply, val_main_v29_apply, val_main_v30_apply, val_main_cst_8_apply, val_main_v31_apply, val_main_v32_apply]
  simp only [Memref.IsWhole.read_unread, b0, b1, b2, b4]
  simp only [Fin.sum_univ_two, ← add_assoc (G := EReal)]

theorem outs8 (c : Dev nD) (t : Fin (cfgM m (ok m)).N) : (outsAt0 m (ok m) c t).2.2.1 =
    out0_A_8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers8 : ((cfg0 placed).win 8).Covers := by decide +kernel

/-- The place in this result of an element of its block. -/
theorem place8 (t : Fin grid0.N) (y : S128x2048.Idx) : ∃ i : S1024x2048.Idx, (((cfgM m (ok m)).win 8).blk t).view.emb y = i ∧ (i 0).val = t.val * 128 + (y 0).val ∧ (i 1).val = (y 1).val := by
  refine ⟨(((cfgM m (ok m)).win 8).blk t).view.emb y, rfl, ?_, ?_⟩
  · blk_simp [corner8 m t]
  · blk_simp [corner8 m t]

theorem result8 (c : Dev nD) : (dats m (ok m) 0 c).arrAt 8 (cfgM m (ok m)).N = val_main_v13 (F := Ideal) (m ((c : Thread nD τ).loc main_arg0)) (m ((c : Thread nD τ).loc main_arg1)) (m ((c : Thread nD τ).loc main_arg2)) (m ((c : Thread nD τ).loc main_arg4)) := by
  refine (dats m (ok m) 0 c).arrAt_eq_of_covers 8 _ covers8 fun t hf (y : S128x2048.Idx) => ?_
  obtain ⟨i, hi, h0, h1⟩ := place8 m t y
  blk_simp
  rw [hi, after0_8, outs8]
  exact block8 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1) (in4 m c t y i h0 h1)

/-- The block of this result at a point, made from blocks that hold the arguments' elements. -/
theorem block9 (c : Dev nD) (t : Fin grid0.N) (y : S128x2048.Idx) (i : S1024x2048.Idx) (x0 : Vec Ideal S1x128x2048 .bf16) (x1 : Vec Ideal S2x128x2048 .bf16) (x2 : Vec Ideal S1x128x2048 .bf16) (x3 : Vec Ideal S128x2048 .f32) (x4 : Vec Ideal S128x2048 .f32) (x5 : Vec Ideal S128x2048 .f32)
    (b0 : (x0 (ix3 0 (y 0) (y 1)) : EReal) = (m ((c : Thread nD τ).loc main_arg0)) (idx_main_v0 (idx_main_v1 i)))
    (b1 : ∀ k : Fin 2, (x1 (ix3 k (y 0) (y 1)) : EReal) = (m ((c : Thread nD τ).loc main_arg1)) (idx_main_v4 i k))
    (b2 : (x2 (ix3 0 (y 0) (y 1)) : EReal) = (m ((c : Thread nD τ).loc main_arg2)) (idx_main_v6 i))
    (b5 : (x5 y : EReal) = (m ((c : Thread nD τ).loc main_arg5)) i) :
    out0_A_9 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) x0 x1 x2 x3 x4 x5 (tbl m 0) y = val_main_v19 (F := Ideal) (m ((c : Thread nD τ).loc main_arg0)) (m ((c : Thread nD τ).loc main_arg1)) (m ((c : Thread nD τ).loc main_arg2)) (m ((c : Thread nD τ).loc main_arg5)) i := by
  unfold out0_A_9
  frame_out
  pointwise [k0_pay5, k0_pay4, k0_pay3, k0_pay2, k0_pay1, val_main_v0_apply, val_main_v1_apply, val_main_v2_apply, val_main_v3_apply, val_main_cst_apply, val_main_v4_apply, val_main_v5_apply, val_main_v6_apply, val_main_v7_apply, val_main_v8_apply, val_main_cst_0_apply, val_main_v9_apply, val_main_v10_apply, val_main_cst_1_apply, val_main_v11_apply, val_main_v12_apply, val_main_v13_apply, val_main_cst_2_apply, val_main_v14_apply, val_main_v15_apply, val_main_v16_apply, val_main_cst_3_apply, val_main_v17_apply, val_main_v18_apply, val_main_v19_apply, val_main_cst_4_apply, val_main_v20_apply, val_main_v21_apply, val_main_cst_5_apply, val_main_v22_apply, val_main_v23_apply, val_main_v24_apply, val_main_cst_6_apply, val_main_v25_apply, val_main_v26_apply, val_main_v27_apply, val_main_cst_7_apply, val_main_v28_apply, val_main_v29_apply, val_main_v30_apply, val_main_cst_8_apply, val_main_v31_apply, val_main_v32_apply]
  simp only [Memref.IsWhole.read_unread, b0, b1, b2, b5]
  simp only [Fin.sum_univ_two, ← add_assoc (G := EReal)]

theorem outs9 (c : Dev nD) (t : Fin (cfgM m (ok m)).N) : (outsAt0 m (ok m) c t).2.2.2 =
    out0_A_9 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (iblk m (ok m) c 0 t) (iblk m (ok m) c 1 t) (iblk m (ok m) c 2 t) (iblk m (ok m) c 3 t) (iblk m (ok m) c 4 t) (iblk m (ok m) c 5 t) (tbl m 0) := by
  unfold outsAt0
  dsimp only

theorem covers9 : ((cfg0 placed).win 9).Covers := by decide +kernel

/-- The place in this result of an element of its block. -/
theorem place9 (t : Fin grid0.N) (y : S128x2048.Idx) : ∃ i : S1024x2048.Idx, (((cfgM m (ok m)).win 9).blk t).view.emb y = i ∧ (i 0).val = t.val * 128 + (y 0).val ∧ (i 1).val = (y 1).val := by
  refine ⟨(((cfgM m (ok m)).win 9).blk t).view.emb y, rfl, ?_, ?_⟩
  · blk_simp [corner9 m t]
  · blk_simp [corner9 m t]

theorem result9 (c : Dev nD) : (dats m (ok m) 0 c).arrAt 9 (cfgM m (ok m)).N = val_main_v19 (F := Ideal) (m ((c : Thread nD τ).loc main_arg0)) (m ((c : Thread nD τ).loc main_arg1)) (m ((c : Thread nD τ).loc main_arg2)) (m ((c : Thread nD τ).loc main_arg5)) := by
  refine (dats m (ok m) 0 c).arrAt_eq_of_covers 9 _ covers9 fun t hf (y : S128x2048.Idx) => ?_
  obtain ⟨i, hi, h0, h1⟩ := place9 m t y
  blk_simp
  rw [hi, after0_9, outs9]
  exact block9 m c t y i (iblk m (ok m) c 0 t) (iblk m (ok m) c 1 t) (iblk m (ok m) c 2 t) (iblk m (ok m) c 3 t) (iblk m (ok m) c 4 t) (iblk m (ok m) c 5 t) (in0 m c t y i h0 h1) (in1 m c t y i h0 h1) (in2 m c t y i h0 h1) (in5 m c t y i h0 h1)

theorem algebraic : Cert.algebraic_SumAdamwMlpOutIdeal_SumAdamwMlpOutReferenceIdeal := by
  intro m g m' g' _ hagree
  refine ⟨fun c => val_main_v8 (F := Ideal) (m ((c : Thread nD τ).loc main_arg0)) (m ((c : Thread nD τ).loc main_arg1)) (m ((c : Thread nD τ).loc main_arg2)), fun c => val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), fun c => val_main_v13 (F := Ideal) (m ((c : Thread nD τ).loc main_arg0)) (m ((c : Thread nD τ).loc main_arg1)) (m ((c : Thread nD τ).loc main_arg2)) (m ((c : Thread nD τ).loc main_arg4)), fun c => val_main_v19 (F := Ideal) (m ((c : Thread nD τ).loc main_arg0)) (m ((c : Thread nD τ).loc main_arg1)) (m ((c : Thread nD τ).loc main_arg2)) (m ((c : Thread nD τ).loc main_arg5)),
    (θ_run _ _ _).mono (fun r h c => ?_) (run_main m g (ok m)),
    (θ_run _ _ _).mono (fun r h c => ?_) (Cert.SumAdamwMlpOutReferenceIdeal.Value.run m' g')⟩
  · have kept (w : Fin 10) (hw : ((cfgM m (ok m)).win w).isOut = false) := ((h c).1 w).trans (((dats m (ok m) 0 c).arrAt_in w hw _).trans (A_eq m (ok m) c w))
    exact ⟨((h c).1 6).trans (result6 m c), ((h c).1 7).trans (result7 m c), ((h c).1 8).trans (result8 m c), ((h c).1 9).trans (result9 m c),
      (kept 0 rfl).trans (V_main_arg0 m c), (kept 1 rfl).trans (V_main_arg1 m c), (kept 2 rfl).trans (V_main_arg2 m c), (kept 3 rfl).trans (V_main_arg3 m c), (kept 4 rfl).trans (V_main_arg4 m c), (kept 5 rfl).trans (V_main_arg5 m c)⟩
  · obtain ⟨h0, h1, h2, h3, h4, h5⟩ := hagree c
    refine ⟨(h c).1.trans ?_, (h c).2.1.trans ?_, (h c).2.2.1.trans ?_, (h c).2.2.2.1.trans ?_, (h c).2.2.2.2⟩
    · rw [Cert.SumAdamwMlpOutReferenceIdeal.Read.val_main_v8_eq, h0, h1, h2]
    · rw [Cert.SumAdamwMlpOutReferenceIdeal.Read.val_main_v32_eq, h0, h1, h2, h3, h4, h5]
    · rw [Cert.SumAdamwMlpOutReferenceIdeal.Read.val_main_v13_eq, h0, h1, h2, h4]
    · rw [Cert.SumAdamwMlpOutReferenceIdeal.Read.val_main_v19_eq, h0, h1, h2, h5]

end Cert.Calls.SumAdamwMlpOut
-- ==== Proof.lean ====
/- The claims: for each call the frame of the kernel at the machine's numbers and over the extended reals, the frame of its
   reference, that the kernel read over the reals is the kernel, and that its results over the reals are the reference's. -/
module

public import proofs.«01_k».proof.Defs
public import proofs.«01_k».proof.Proof.Gen.MlpOutDx
public import proofs.«01_k».proof.Proof.Gen.MlpOutDx.Frame
public import proofs.«01_k».proof.Proof.MlpOutDxValue
public import proofs.«01_k».proof.Proof.Gen.OutProjDx
public import proofs.«01_k».proof.Proof.Gen.OutProjDx.Frame
public import proofs.«01_k».proof.Proof.OutProjDxValue
public import proofs.«01_k».proof.Proof.Gen.MlpOutDw
public import proofs.«01_k».proof.Proof.Gen.MlpOutDw.Frame
public import proofs.«01_k».proof.Proof.MlpOutDwValue
public import proofs.«01_k».proof.Proof.Gen.MlpInDx
public import proofs.«01_k».proof.Proof.Gen.MlpInDx.Frame
public import proofs.«01_k».proof.Proof.MlpInDxValue
public import proofs.«01_k».proof.Proof.Gen.MlpInDw
public import proofs.«01_k».proof.Proof.Gen.MlpInDw.Frame
public import proofs.«01_k».proof.Proof.MlpInDwValue
public import proofs.«01_k».proof.Proof.Gen.OutProjDw
public import proofs.«01_k».proof.Proof.Gen.OutProjDw.Frame
public import proofs.«01_k».proof.Proof.OutProjDwValue
public import proofs.«01_k».proof.Proof.Gen.BranchDx
public import proofs.«01_k».proof.Proof.Gen.BranchDx.Frame
public import proofs.«01_k».proof.Proof.BranchDxValue
public import proofs.«01_k».proof.Proof.Gen.BranchDw
public import proofs.«01_k».proof.Proof.Gen.BranchDw.Frame
public import proofs.«01_k».proof.Proof.BranchDwValue
public import proofs.«01_k».proof.Proof.Gen.InProj
public import proofs.«01_k».proof.Proof.Gen.InProj.Frame
public import proofs.«01_k».proof.Proof.InProjValue
public import proofs.«01_k».proof.Proof.Gen.MlpIn
public import proofs.«01_k».proof.Proof.Gen.MlpIn.Frame
public import proofs.«01_k».proof.Proof.MlpInValue
public import proofs.«01_k».proof.Proof.Gen.BranchMerge
public import proofs.«01_k».proof.Proof.Gen.BranchMerge.Frame
public import proofs.«01_k».proof.Proof.BranchMergeValue
public import proofs.«01_k».proof.Proof.Gen.RmsFwd
public import proofs.«01_k».proof.Proof.Gen.RmsFwd.Frame
public import proofs.«01_k».proof.Proof.RmsFwdValue
public import proofs.«01_k».proof.Proof.Gen.AdaUpdate
public import proofs.«01_k».proof.Proof.Gen.AdaUpdate.Frame
public import proofs.«01_k».proof.Proof.AdaUpdateValue
public import proofs.«01_k».proof.Proof.Gen.AdamwSmall
public import proofs.«01_k».proof.Proof.Gen.AdamwSmall.Frame
public import proofs.«01_k».proof.Proof.AdamwSmallValue
public import proofs.«01_k».proof.Proof.Gen.SumAdamwIn
public import proofs.«01_k».proof.Proof.Gen.SumAdamwIn.Frame
public import proofs.«01_k».proof.Proof.SumAdamwInValue
public import proofs.«01_k».proof.Proof.Gen.SumAdamwBranch
public import proofs.«01_k».proof.Proof.Gen.SumAdamwBranch.Frame
public import proofs.«01_k».proof.Proof.SumAdamwBranchValue
public import proofs.«01_k».proof.Proof.Gen.SumAdamwOut
public import proofs.«01_k».proof.Proof.Gen.SumAdamwOut.Frame
public import proofs.«01_k».proof.Proof.SumAdamwOutValue
public import proofs.«01_k».proof.Proof.Gen.SumAdamwMlpIn
public import proofs.«01_k».proof.Proof.Gen.SumAdamwMlpIn.Frame
public import proofs.«01_k».proof.Proof.SumAdamwMlpInValue
public import proofs.«01_k».proof.Proof.Gen.SumAdamwMlpOut
public import proofs.«01_k».proof.Proof.Gen.SumAdamwMlpOut.Frame
public import proofs.«01_k».proof.Proof.SumAdamwMlpOutValue
public import Idealize.ShloMosaic.Adequacy
public import Idealize.ShloMosaic.Init

@[expose] public section

noncomputable section

namespace Cert.Proof

open Idealize.ShloMosaic Idealize.SL.Sem

/-- The reference of MlpOutDx leaves its arguments as they were. -/
theorem frame_MlpOutDx_reference : Cert.quiescent_MlpOutDxReferenceIdeal := fun m ρ _ =>
  (θ_run Cert.MlpOutDxReferenceIdeal.defs _ _).mono (fun r h => ⟨fun c => (h c).2, sem_eq_zero_of_no_sems rfl r.2⟩) (Cert.MlpOutDxReferenceIdeal.Value.run (F := Ideal) m ρ)

/-- The reference of OutProjDx leaves its arguments as they were. -/
theorem frame_OutProjDx_reference : Cert.quiescent_OutProjDxReferenceIdeal := fun m ρ _ =>
  (θ_run Cert.OutProjDxReferenceIdeal.defs _ _).mono (fun r h => ⟨fun c => (h c).2.2.2.2, sem_eq_zero_of_no_sems rfl r.2⟩) (Cert.OutProjDxReferenceIdeal.Value.run (F := Ideal) m ρ)

/-- The reference of MlpOutDw leaves its arguments as they were. -/
theorem frame_MlpOutDw_reference : Cert.quiescent_MlpOutDwReferenceIdeal := fun m ρ _ =>
  (θ_run Cert.MlpOutDwReferenceIdeal.defs _ _).mono (fun r h => ⟨fun c => (h c).2, sem_eq_zero_of_no_sems rfl r.2⟩) (Cert.MlpOutDwReferenceIdeal.Value.run (F := Ideal) m ρ)

/-- The reference of MlpInDx leaves its arguments as they were. -/
theorem frame_MlpInDx_reference : Cert.quiescent_MlpInDxReferenceIdeal := fun m ρ _ =>
  (θ_run Cert.MlpInDxReferenceIdeal.defs _ _).mono (fun r h => ⟨fun c => (h c).2, sem_eq_zero_of_no_sems rfl r.2⟩) (Cert.MlpInDxReferenceIdeal.Value.run (F := Ideal) m ρ)

/-- The reference of MlpInDw leaves its arguments as they were. -/
theorem frame_MlpInDw_reference : Cert.quiescent_MlpInDwReferenceIdeal := fun m ρ _ =>
  (θ_run Cert.MlpInDwReferenceIdeal.defs _ _).mono (fun r h => ⟨fun c => (h c).2, sem_eq_zero_of_no_sems rfl r.2⟩) (Cert.MlpInDwReferenceIdeal.Value.run (F := Ideal) m ρ)

/-- The reference of OutProjDw leaves its arguments as they were. -/
theorem frame_OutProjDw_reference : Cert.quiescent_OutProjDwReferenceIdeal := fun m ρ _ =>
  (θ_run Cert.OutProjDwReferenceIdeal.defs _ _).mono (fun r h => ⟨fun c => (h c).2, sem_eq_zero_of_no_sems rfl r.2⟩) (Cert.OutProjDwReferenceIdeal.Value.run (F := Ideal) m ρ)

/-- The reference of BranchDx leaves its arguments as they were. -/
theorem frame_BranchDx_reference : Cert.quiescent_BranchDxReferenceIdeal := fun m ρ _ =>
  (θ_run Cert.BranchDxReferenceIdeal.defs _ _).mono (fun r h => ⟨fun c => (h c).2.2, sem_eq_zero_of_no_sems rfl r.2⟩) (Cert.BranchDxReferenceIdeal.Value.run (F := Ideal) m ρ)

/-- The reference of BranchDw leaves its arguments as they were. -/
theorem frame_BranchDw_reference : Cert.quiescent_BranchDwReferenceIdeal := fun m ρ _ =>
  (θ_run Cert.BranchDwReferenceIdeal.defs _ _).mono (fun r h => ⟨fun c => (h c).2.2, sem_eq_zero_of_no_sems rfl r.2⟩) (Cert.BranchDwReferenceIdeal.Value.run (F := Ideal) m ρ)

/-- The reference of InProj leaves its arguments as they were. -/
theorem frame_InProj_reference : Cert.quiescent_InProjReferenceIdeal := fun m ρ _ =>
  (θ_run Cert.InProjReferenceIdeal.defs _ _).mono (fun r h => ⟨fun c => (h c).2, sem_eq_zero_of_no_sems rfl r.2⟩) (Cert.InProjReferenceIdeal.Value.run (F := Ideal) m ρ)

/-- The reference of MlpIn leaves its arguments as they were. -/
theorem frame_MlpIn_reference : Cert.quiescent_MlpInReferenceIdeal := fun m ρ _ =>
  (θ_run Cert.MlpInReferenceIdeal.defs _ _).mono (fun r h => ⟨fun c => (h c).2.2, sem_eq_zero_of_no_sems rfl r.2⟩) (Cert.MlpInReferenceIdeal.Value.run (F := Ideal) m ρ)

/-- The reference of BranchMerge leaves its arguments as they were. -/
theorem frame_BranchMerge_reference : Cert.quiescent_BranchMergeReferenceIdeal := fun m ρ _ =>
  (θ_run Cert.BranchMergeReferenceIdeal.defs _ _).mono (fun r h => ⟨fun c => (h c).2.2.2, sem_eq_zero_of_no_sems rfl r.2⟩) (Cert.BranchMergeReferenceIdeal.Value.run (F := Ideal) m ρ)

/-- The reference of RmsFwd leaves its arguments as they were. -/
theorem frame_RmsFwd_reference : Cert.quiescent_RmsFwdReferenceIdeal := fun m ρ _ =>
  (θ_run Cert.RmsFwdReferenceIdeal.defs _ _).mono (fun r h => ⟨fun c => (h c).2, sem_eq_zero_of_no_sems rfl r.2⟩) (Cert.RmsFwdReferenceIdeal.Value.run (F := Ideal) m ρ)

/-- The reference of AdaUpdate leaves its arguments as they were. -/
theorem frame_AdaUpdate_reference : Cert.quiescent_AdaUpdateReferenceIdeal := fun m ρ _ =>
  (θ_run Cert.AdaUpdateReferenceIdeal.defs _ _).mono (fun r h => ⟨fun c => (h c).2.2.2.2, sem_eq_zero_of_no_sems rfl r.2⟩) (Cert.AdaUpdateReferenceIdeal.Value.run (F := Ideal) m ρ)

/-- The reference of AdamwSmall leaves its arguments as they were. -/
theorem frame_AdamwSmall_reference : Cert.quiescent_AdamwSmallReferenceIdeal := fun m ρ _ =>
  (θ_run Cert.AdamwSmallReferenceIdeal.defs _ _).mono (fun r h => ⟨fun c => (h c).2.2.2, sem_eq_zero_of_no_sems rfl r.2⟩) (Cert.AdamwSmallReferenceIdeal.Value.run (F := Ideal) m ρ)

/-- The reference of SumAdamwIn leaves its arguments as they were. -/
theorem frame_SumAdamwIn_reference : Cert.quiescent_SumAdamwInReferenceIdeal := fun m ρ _ =>
  (θ_run Cert.SumAdamwInReferenceIdeal.defs _ _).mono (fun r h => ⟨fun c => (h c).2.2.2.2, sem_eq_zero_of_no_sems rfl r.2⟩) (Cert.SumAdamwInReferenceIdeal.Value.run (F := Ideal) m ρ)

/-- The reference of SumAdamwBranch leaves its arguments as they were. -/
theorem frame_SumAdamwBranch_reference : Cert.quiescent_SumAdamwBranchReferenceIdeal := fun m ρ _ =>
  (θ_run Cert.SumAdamwBranchReferenceIdeal.defs _ _).mono (fun r h => ⟨fun c => (h c).2.2.2.2, sem_eq_zero_of_no_sems rfl r.2⟩) (Cert.SumAdamwBranchReferenceIdeal.Value.run (F := Ideal) m ρ)

/-- The reference of SumAdamwOut leaves its arguments as they were. -/
theorem frame_SumAdamwOut_reference : Cert.quiescent_SumAdamwOutReferenceIdeal := fun m ρ _ =>
  (θ_run Cert.SumAdamwOutReferenceIdeal.defs _ _).mono (fun r h => ⟨fun c => (h c).2.2.2.2, sem_eq_zero_of_no_sems rfl r.2⟩) (Cert.SumAdamwOutReferenceIdeal.Value.run (F := Ideal) m ρ)

/-- The reference of SumAdamwMlpIn leaves its arguments as they were. -/
theorem frame_SumAdamwMlpIn_reference : Cert.quiescent_SumAdamwMlpInReferenceIdeal := fun m ρ _ =>
  (θ_run Cert.SumAdamwMlpInReferenceIdeal.defs _ _).mono (fun r h => ⟨fun c => (h c).2.2.2.2, sem_eq_zero_of_no_sems rfl r.2⟩) (Cert.SumAdamwMlpInReferenceIdeal.Value.run (F := Ideal) m ρ)

/-- The reference of SumAdamwMlpOut leaves its arguments as they were. -/
theorem frame_SumAdamwMlpOut_reference : Cert.quiescent_SumAdamwMlpOutReferenceIdeal := fun m ρ _ =>
  (θ_run Cert.SumAdamwMlpOutReferenceIdeal.defs _ _).mono (fun r h => ⟨fun c => (h c).2.2.2.2, sem_eq_zero_of_no_sems rfl r.2⟩) (Cert.SumAdamwMlpOutReferenceIdeal.Value.run (F := Ideal) m ρ)

theorem claim : Cert.Claim := ⟨Cert.MlpOutDx.Gen.facts,
  Cert.MlpOutDxIdeal.Gen.facts,
  Cert.MlpOutDxReferenceIdeal.Gen.facts,
  Cert.OutProjDx.Gen.facts,
  Cert.OutProjDxIdeal.Gen.facts,
  Cert.OutProjDxReferenceIdeal.Gen.facts,
  Cert.MlpOutDw.Gen.facts,
  Cert.MlpOutDwIdeal.Gen.facts,
  Cert.MlpOutDwReferenceIdeal.Gen.facts,
  Cert.MlpInDx.Gen.facts,
  Cert.MlpInDxIdeal.Gen.facts,
  Cert.MlpInDxReferenceIdeal.Gen.facts,
  Cert.MlpInDw.Gen.facts,
  Cert.MlpInDwIdeal.Gen.facts,
  Cert.MlpInDwReferenceIdeal.Gen.facts,
  Cert.OutProjDw.Gen.facts,
  Cert.OutProjDwIdeal.Gen.facts,
  Cert.OutProjDwReferenceIdeal.Gen.facts,
  Cert.BranchDx.Gen.facts,
  Cert.BranchDxIdeal.Gen.facts,
  Cert.BranchDxReferenceIdeal.Gen.facts,
  Cert.BranchDw.Gen.facts,
  Cert.BranchDwIdeal.Gen.facts,
  Cert.BranchDwReferenceIdeal.Gen.facts,
  Cert.InProj.Gen.facts,
  Cert.InProjIdeal.Gen.facts,
  Cert.InProjReferenceIdeal.Gen.facts,
  Cert.MlpIn.Gen.facts,
  Cert.MlpInIdeal.Gen.facts,
  Cert.MlpInReferenceIdeal.Gen.facts,
  Cert.BranchMerge.Gen.facts,
  Cert.BranchMergeIdeal.Gen.facts,
  Cert.BranchMergeReferenceIdeal.Gen.facts,
  Cert.RmsFwd.Gen.facts,
  Cert.RmsFwdIdeal.Gen.facts,
  Cert.RmsFwdReferenceIdeal.Gen.facts,
  Cert.AdaUpdate.Gen.facts,
  Cert.AdaUpdateIdeal.Gen.facts,
  Cert.AdaUpdateReferenceIdeal.Gen.facts,
  Cert.AdamwSmall.Gen.facts,
  Cert.AdamwSmallIdeal.Gen.facts,
  Cert.AdamwSmallReferenceIdeal.Gen.facts,
  Cert.SumAdamwIn.Gen.facts,
  Cert.SumAdamwInIdeal.Gen.facts,
  Cert.SumAdamwInReferenceIdeal.Gen.facts,
  Cert.SumAdamwBranch.Gen.facts,
  Cert.SumAdamwBranchIdeal.Gen.facts,
  Cert.SumAdamwBranchReferenceIdeal.Gen.facts,
  Cert.SumAdamwOut.Gen.facts,
  Cert.SumAdamwOutIdeal.Gen.facts,
  Cert.SumAdamwOutReferenceIdeal.Gen.facts,
  Cert.SumAdamwMlpIn.Gen.facts,
  Cert.SumAdamwMlpInIdeal.Gen.facts,
  Cert.SumAdamwMlpInReferenceIdeal.Gen.facts,
  Cert.SumAdamwMlpOut.Gen.facts,
  Cert.SumAdamwMlpOutIdeal.Gen.facts,
  Cert.SumAdamwMlpOutReferenceIdeal.Gen.facts,
  fun m ρ _ => Cert.MlpOutDx.Gen.frame m ρ,
  fun m ρ _ => Cert.MlpOutDxIdeal.Gen.frame m ρ,
  frame_MlpOutDx_reference,
  fun m ρ _ => Cert.OutProjDx.Gen.frame m ρ,
  fun m ρ _ => Cert.OutProjDxIdeal.Gen.frame m ρ,
  frame_OutProjDx_reference,
  fun m ρ _ => Cert.MlpOutDw.Gen.frame m ρ,
  fun m ρ _ => Cert.MlpOutDwIdeal.Gen.frame m ρ,
  frame_MlpOutDw_reference,
  fun m ρ _ => Cert.MlpInDx.Gen.frame m ρ,
  fun m ρ _ => Cert.MlpInDxIdeal.Gen.frame m ρ,
  frame_MlpInDx_reference,
  fun m ρ _ => Cert.MlpInDw.Gen.frame m ρ,
  fun m ρ _ => Cert.MlpInDwIdeal.Gen.frame m ρ,
  frame_MlpInDw_reference,
  fun m ρ _ => Cert.OutProjDw.Gen.frame m ρ,
  fun m ρ _ => Cert.OutProjDwIdeal.Gen.frame m ρ,
  frame_OutProjDw_reference,
  fun m ρ _ => Cert.BranchDx.Gen.frame m ρ,
  fun m ρ _ => Cert.BranchDxIdeal.Gen.frame m ρ,
  frame_BranchDx_reference,
  fun m ρ _ => Cert.BranchDw.Gen.frame m ρ,
  fun m ρ _ => Cert.BranchDwIdeal.Gen.frame m ρ,
  frame_BranchDw_reference,
  fun m ρ _ => Cert.InProj.Gen.frame m ρ,
  fun m ρ _ => Cert.InProjIdeal.Gen.frame m ρ,
  frame_InProj_reference,
  fun m ρ _ => Cert.MlpIn.Gen.frame m ρ,
  fun m ρ _ => Cert.MlpInIdeal.Gen.frame m ρ,
  frame_MlpIn_reference,
  fun m ρ _ => Cert.BranchMerge.Gen.frame m ρ,
  fun m ρ _ => Cert.BranchMergeIdeal.Gen.frame m ρ,
  frame_BranchMerge_reference,
  fun m ρ _ => Cert.RmsFwd.Gen.frame m ρ,
  fun m ρ _ => Cert.RmsFwdIdeal.Gen.frame m ρ,
  frame_RmsFwd_reference,
  fun m ρ _ => Cert.AdaUpdate.Gen.frame m ρ,
  fun m ρ _ => Cert.AdaUpdateIdeal.Gen.frame m ρ,
  frame_AdaUpdate_reference,
  fun m ρ _ => Cert.AdamwSmall.Gen.frame m ρ,
  fun m ρ _ => Cert.AdamwSmallIdeal.Gen.frame m ρ,
  frame_AdamwSmall_reference,
  fun m ρ _ => Cert.SumAdamwIn.Gen.frame m ρ (Cert.Calls.SumAdamwIn.okWords m),
  fun m ρ _ => Cert.SumAdamwInIdeal.Gen.frame m ρ (Cert.Calls.SumAdamwIn.ok m),
  frame_SumAdamwIn_reference,
  fun m ρ _ => Cert.SumAdamwBranch.Gen.frame m ρ (Cert.Calls.SumAdamwBranch.okWords m),
  fun m ρ _ => Cert.SumAdamwBranchIdeal.Gen.frame m ρ (Cert.Calls.SumAdamwBranch.ok m),
  frame_SumAdamwBranch_reference,
  fun m ρ _ => Cert.SumAdamwOut.Gen.frame m ρ (Cert.Calls.SumAdamwOut.okWords m),
  fun m ρ _ => Cert.SumAdamwOutIdeal.Gen.frame m ρ (Cert.Calls.SumAdamwOut.ok m),
  frame_SumAdamwOut_reference,
  fun m ρ _ => Cert.SumAdamwMlpIn.Gen.frame m ρ (Cert.Calls.SumAdamwMlpIn.okWords m),
  fun m ρ _ => Cert.SumAdamwMlpInIdeal.Gen.frame m ρ (Cert.Calls.SumAdamwMlpIn.ok m),
  frame_SumAdamwMlpIn_reference,
  fun m ρ _ => Cert.SumAdamwMlpOut.Gen.frame m ρ (Cert.Calls.SumAdamwMlpOut.okWords m),
  fun m ρ _ => Cert.SumAdamwMlpOutIdeal.Gen.frame m ρ (Cert.Calls.SumAdamwMlpOut.ok m),
  frame_SumAdamwMlpOut_reference,
  trivial,
  Cert.Calls.MlpOutDx.algebraic,
  trivial,
  Cert.Calls.OutProjDx.algebraic,
  trivial,
  Cert.Calls.MlpOutDw.algebraic,
  trivial,
  Cert.Calls.MlpInDx.algebraic,
  trivial,
  Cert.Calls.MlpInDw.algebraic,
  trivial,
  Cert.Calls.OutProjDw.algebraic,
  trivial,
  Cert.Calls.BranchDx.algebraic,
  trivial,
  Cert.Calls.BranchDw.algebraic,
  trivial,
  Cert.Calls.InProj.algebraic,
  trivial,
  Cert.Calls.MlpIn.algebraic,
  trivial,
  Cert.Calls.BranchMerge.algebraic,
  trivial,
  Cert.Calls.RmsFwd.algebraic,
  trivial,
  Cert.Calls.AdaUpdate.algebraic,
  trivial,
  Cert.Calls.AdamwSmall.algebraic,
  trivial,
  Cert.Calls.SumAdamwIn.algebraic,
  trivial,
  Cert.Calls.SumAdamwBranch.algebraic,
  trivial,
  Cert.Calls.SumAdamwOut.algebraic,
  trivial,
  Cert.Calls.SumAdamwMlpIn.algebraic,
  trivial,
  Cert.Calls.SumAdamwMlpOut.algebraic⟩

end Cert.Proof

end
